-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v37_0)) (v1 : (c : Dev Cert.Kernel2Ideal.nD) → Buf (Elt Ideal) ((c.tc : Thread Cert.Kernel2Ideal.nD Cert.Kernel2Ideal.τ).loc Cert.Kernel2Ideal.main_v37_1)) (v2 : (c : Dev Cert.Kernel2Ideal.nD) → Buf (Elt Ideal) ((c.tc : Thread Cert.Kernel2Ideal.nD Cert.Kernel2Ideal.τ).loc Cert.Kernel2Ideal.main_v37_2)) (v3 : (c : Dev Cert.Kernel2Ideal.nD) → Buf (Elt Ideal) ((c.tc : Thread Cert.Kernel2Ideal.nD Cert.Kernel2Ideal.τ).loc Cert.Kernel2Ideal.main_v37_3)) (v4 : (c : Dev Cert.Kernel2Ideal.nD) → Buf (Elt Ideal) ((c.tc : Thread Cert.Kernel2Ideal.nD Cert.Kernel2Ideal.τ).loc Cert.Kernel2Ideal.main_v37_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37_0) = v0 c
          ∧ r.2.mem ((c.tc : Thread Cert.Kernel2Ideal.nD Cert.Kernel2Ideal.τ).loc Cert.Kernel2Ideal.main_v37_1) = v1 c
          ∧ r.2.mem ((c.tc : Thread Cert.Kernel2Ideal.nD Cert.Kernel2Ideal.τ).loc Cert.Kernel2Ideal.main_v37_2) = v2 c
          ∧ r.2.mem ((c.tc : Thread Cert.Kernel2Ideal.nD Cert.Kernel2Ideal.τ).loc Cert.Kernel2Ideal.main_v37_3) = v3 c
          ∧ r.2.mem ((c.tc : Thread Cert.Kernel2Ideal.nD Cert.Kernel2Ideal.τ).loc Cert.Kernel2Ideal.main_v37_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_v92) = v1 c
          ∧ r.2.mem ((c.tc : Thread Cert.Reference2Ideal.nD Cert.Reference2Ideal.τ).loc Cert.Reference2Ideal.main_v93) = v2 c
          ∧ r.2.mem ((c.tc : Thread Cert.Reference2Ideal.nD Cert.Reference2Ideal.τ).loc Cert.Reference2Ideal.main_v95) = v3 c
          ∧ r.2.mem ((c.tc : Thread Cert.Reference2Ideal.nD Cert.Reference2Ideal.τ).loc Cert.Reference2Ideal.main_v98) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v71_0)) (v1 : (c : Dev Cert.Kernel3Ideal.nD) → Buf (Elt Ideal) ((c.tc : Thread Cert.Kernel3Ideal.nD Cert.Kernel3Ideal.τ).loc Cert.Kernel3Ideal.main_v71_1)) (v2 : (c : Dev Cert.Kernel3Ideal.nD) → Buf (Elt Ideal) ((c.tc : Thread Cert.Kernel3Ideal.nD Cert.Kernel3Ideal.τ).loc Cert.Kernel3Ideal.main_v71_2)) (v3 : (c : Dev Cert.Kernel3Ideal.nD) → Buf (Elt Ideal) ((c.tc : Thread Cert.Kernel3Ideal.nD Cert.Kernel3Ideal.τ).loc Cert.Kernel3Ideal.main_v71_3)) (v4 : (c : Dev Cert.Kernel3Ideal.nD) → Buf (Elt Ideal) ((c.tc : Thread Cert.Kernel3Ideal.nD Cert.Kernel3Ideal.τ).loc Cert.Kernel3Ideal.main_v71_4)) (v5 : (c : Dev Cert.Kernel3Ideal.nD) → Buf (Elt Ideal) ((c.tc : Thread Cert.Kernel3Ideal.nD Cert.Kernel3Ideal.τ).loc Cert.Kernel3Ideal.main_v71_5)) (v6 : (c : Dev Cert.Kernel3Ideal.nD) → Buf (Elt Ideal) ((c.tc : Thread Cert.Kernel3Ideal.nD Cert.Kernel3Ideal.τ).loc Cert.Kernel3Ideal.main_v71_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v71_0) = v0 c
          ∧ r.2.mem ((c.tc : Thread Cert.Kernel3Ideal.nD Cert.Kernel3Ideal.τ).loc Cert.Kernel3Ideal.main_v71_1) = v1 c
          ∧ r.2.mem ((c.tc : Thread Cert.Kernel3Ideal.nD Cert.Kernel3Ideal.τ).loc Cert.Kernel3Ideal.main_v71_2) = v2 c
          ∧ r.2.mem ((c.tc : Thread Cert.Kernel3Ideal.nD Cert.Kernel3Ideal.τ).loc Cert.Kernel3Ideal.main_v71_3) = v3 c
          ∧ r.2.mem ((c.tc : Thread Cert.Kernel3Ideal.nD Cert.Kernel3Ideal.τ).loc Cert.Kernel3Ideal.main_v71_4) = v4 c
          ∧ r.2.mem ((c.tc : Thread Cert.Kernel3Ideal.nD Cert.Kernel3Ideal.τ).loc Cert.Kernel3Ideal.main_v71_5) = v5 c
          ∧ r.2.mem ((c.tc : Thread Cert.Kernel3Ideal.nD Cert.Kernel3Ideal.τ).loc Cert.Kernel3Ideal.main_v71_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v162) = v0 c
          ∧ r.2.mem ((c.tc : Thread Cert.Reference3Ideal.nD Cert.Reference3Ideal.τ).loc Cert.Reference3Ideal.main_v163) = v1 c
          ∧ r.2.mem ((c.tc : Thread Cert.Reference3Ideal.nD Cert.Reference3Ideal.τ).loc Cert.Reference3Ideal.main_v164) = v2 c
          ∧ r.2.mem ((c.tc : Thread Cert.Reference3Ideal.nD Cert.Reference3Ideal.τ).loc Cert.Reference3Ideal.main_v166) = v3 c
          ∧ r.2.mem ((c.tc : Thread Cert.Reference3Ideal.nD Cert.Reference3Ideal.τ).loc Cert.Reference3Ideal.main_v168) = v4 c
          ∧ r.2.mem ((c.tc : Thread Cert.Reference3Ideal.nD Cert.Reference3Ideal.τ).loc Cert.Reference3Ideal.main_v160) = v5 c
          ∧ r.2.mem ((c.tc : Thread Cert.Reference3Ideal.nD Cert.Reference3Ideal.τ).loc Cert.Reference3Ideal.main_v171) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)) (v3 : (c : Dev Cert.Kernel4Ideal.nD) → Buf (Elt Ideal) ((c.tc : Thread Cert.Kernel4Ideal.nD Cert.Kernel4Ideal.τ).loc Cert.Kernel4Ideal.main_v37_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_v37_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_v93) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v71_0)) (v1 : (c : Dev Cert.Kernel5Ideal.nD) → Buf (Elt Ideal) ((c.tc : Thread Cert.Kernel5Ideal.nD Cert.Kernel5Ideal.τ).loc Cert.Kernel5Ideal.main_v71_1)) (v2 : (c : Dev Cert.Kernel5Ideal.nD) → Buf (Elt Ideal) ((c.tc : Thread Cert.Kernel5Ideal.nD Cert.Kernel5Ideal.τ).loc Cert.Kernel5Ideal.main_v71_2)) (v3 : (c : Dev Cert.Kernel5Ideal.nD) → Buf (Elt Ideal) ((c.tc : Thread Cert.Kernel5Ideal.nD Cert.Kernel5Ideal.τ).loc Cert.Kernel5Ideal.main_v71_3)) (v4 : (c : Dev Cert.Kernel5Ideal.nD) → Buf (Elt Ideal) ((c.tc : Thread Cert.Kernel5Ideal.nD Cert.Kernel5Ideal.τ).loc Cert.Kernel5Ideal.main_v71_4)) (v5 : (c : Dev Cert.Kernel5Ideal.nD) → Buf (Elt Ideal) ((c.tc : Thread Cert.Kernel5Ideal.nD Cert.Kernel5Ideal.τ).loc Cert.Kernel5Ideal.main_v71_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v71_0) = v0 c
          ∧ r.2.mem ((c.tc : Thread Cert.Kernel5Ideal.nD Cert.Kernel5Ideal.τ).loc Cert.Kernel5Ideal.main_v71_1) = v1 c
          ∧ r.2.mem ((c.tc : Thread Cert.Kernel5Ideal.nD Cert.Kernel5Ideal.τ).loc Cert.Kernel5Ideal.main_v71_2) = v2 c
          ∧ r.2.mem ((c.tc : Thread Cert.Kernel5Ideal.nD Cert.Kernel5Ideal.τ).loc Cert.Kernel5Ideal.main_v71_3) = v3 c
          ∧ r.2.mem ((c.tc : Thread Cert.Kernel5Ideal.nD Cert.Kernel5Ideal.τ).loc Cert.Kernel5Ideal.main_v71_4) = v4 c
          ∧ r.2.mem ((c.tc : Thread Cert.Kernel5Ideal.nD Cert.Kernel5Ideal.τ).loc Cert.Kernel5Ideal.main_v71_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v160) = v0 c
          ∧ r.2.mem ((c.tc : Thread Cert.Reference5Ideal.nD Cert.Reference5Ideal.τ).loc Cert.Reference5Ideal.main_v161) = v1 c
          ∧ r.2.mem ((c.tc : Thread Cert.Reference5Ideal.nD Cert.Reference5Ideal.τ).loc Cert.Reference5Ideal.main_v162) = v2 c
          ∧ r.2.mem ((c.tc : Thread Cert.Reference5Ideal.nD Cert.Reference5Ideal.τ).loc Cert.Reference5Ideal.main_v164) = v3 c
          ∧ r.2.mem ((c.tc : Thread Cert.Reference5Ideal.nD Cert.Reference5Ideal.τ).loc Cert.Reference5Ideal.main_v166) = v4 c
          ∧ r.2.mem ((c.tc : Thread Cert.Reference5Ideal.nD Cert.Reference5Ideal.τ).loc Cert.Reference5Ideal.main_v158) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x4096x2048 : Shape := ⟨3, ![2, 4096, 2048]⟩
abbrev S2x4096x1024 : Shape := ⟨3, ![2, 4096, 1024]⟩
abbrev S1x2x4096x256 : Shape := ⟨4, ![1, 2, 4096, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩
abbrev S2048 : Shape := ⟨1, ![2048]⟩
abbrev S8192x2048 : Shape := ⟨2, ![8192, 2048]⟩
abbrev S8192x1024 : Shape := ⟨2, ![8192, 1024]⟩
abbrev S2x4096x256 : Shape := ⟨3, ![2, 4096, 256]⟩
abbrev S8192x256 : Shape := ⟨2, ![8192, 256]⟩
abbrev S256x1024 : Shape := ⟨2, ![256, 1024]⟩
abbrev S256x256 : Shape := ⟨2, ![256, 256]⟩
abbrev S1024x2048 : Shape := ⟨2, ![1024, 2048]⟩
abbrev S256 : Shape := ⟨1, ![256]⟩
abbrev S256x1 : Shape := ⟨2, ![256, 1]⟩

abbrev nBuf : Space → Nat
  | .hbm => 25
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .bf16⟩
  | .hbm, ⟨2, _⟩ => ⟨S2x4096x1024, .bf16⟩
  | .hbm, ⟨3, _⟩ => ⟨S1x2x4096x256, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x2048, .f32⟩
  | .hbm, ⟨8, _⟩ => ⟨S1x256x2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8192x2048, .f32⟩
  | .hbm, ⟨20, _⟩ => ⟨S8192x1024, .bf16⟩
  | .hbm, ⟨21, _⟩ => ⟨S8192x1024, .bf16⟩
  | .hbm, ⟨22, _⟩ => ⟨S2x4096x256, .f32⟩
  | .hbm, ⟨23, _⟩ => ⟨S8192x256, .f32⟩
  | .hbm, ⟨24, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x256, .f32⟩
  | .local _ .vmem, ⟨7, _⟩ => ⟨S256x256, .f32⟩
  | .local _ .vmem, ⟨8, _⟩ => ⟨S2048x2048, .bf16⟩
  | .local _ .vmem, ⟨9, _⟩ => ⟨S1x2048, .f32⟩
  | .local _ .vmem, ⟨10, _⟩ => ⟨S2048x2048, .bf16⟩
  | .local _ .vmem, ⟨11, _⟩ => ⟨S1x2048, .f32⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x4096x2048 : Shape := ⟨3, ![2, 4096, 2048]⟩
abbrev S2x4096x1024 : Shape := ⟨3, ![2, 4096, 1024]⟩
abbrev S1x2x4096x256 : Shape := ⟨4, ![1, 2, 4096, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x256 : Shape := ⟨3, ![2, 4096, 256]⟩
abbrev S256x2048 : Shape := ⟨2, ![256, 2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .bf16⟩
  | .hbm, ⟨2, _⟩ => ⟨S2x4096x1024, .bf16⟩
  | .hbm, ⟨3, _⟩ => ⟨S1x2x4096x256, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x2048, .f32⟩
  | .hbm, ⟨8, _⟩ => ⟨S1x256x2048, .f32⟩
  | .hbm, ⟨9, _⟩ => ⟨S2x4096x1024, .f32⟩
  | .hbm, ⟨10, _⟩ => ⟨S2x4096x1024, .f32⟩
  | .hbm, ⟨11, _⟩ => ⟨S2x4096x2048, .f32⟩
  | .hbm, ⟨12, _⟩ => ⟨S2048x2048, .f32⟩
  | .hbm, ⟨13, _⟩ => ⟨S2x4096x2048, .f32⟩
  | .hbm, ⟨14, _⟩ => ⟨S2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2048x2048, .f32⟩
  | .hbm, ⟨33, _⟩ => ⟨S2x4096x2048, .f32⟩
  | .hbm, ⟨34, _⟩ => ⟨S2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S_, .f32⟩
  | .hbm, ⟨41, _⟩ => ⟨S2x4096x2048, .f32⟩
  | .hbm, ⟨42, _⟩ => ⟨S2x4096x2048, .f32⟩
  | .hbm, ⟨43, _⟩ => ⟨S_, .f32⟩
  | .hbm, ⟨44, _⟩ => ⟨S2x4096x2048, .f32⟩
  | .hbm, ⟨45, _⟩ => ⟨S2x4096x2048, .f32⟩
  | .hbm, ⟨46, _⟩ => ⟨S2x4096x256, .f32⟩
  | .hbm, ⟨47, _⟩ => ⟨S256x2048, .f32⟩
  | .hbm, ⟨48, _⟩ => ⟨S2x4096x2048, .f32⟩
  | .hbm, ⟨49, _⟩ => ⟨S2x4096x2048, .f32⟩
  | .hbm, ⟨50, _⟩ => ⟨S2x4096x2048, .f32⟩
  | .hbm, ⟨51, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048 : Shape := ⟨2, ![1, 2048]⟩
abbrev S1x2048x6980 : Shape := ⟨3, ![1, 2048, 6980]⟩
abbrev S1x2048x4096 : Shape := ⟨3, ![1, 2048, 4096]⟩
abbrev S2048x4096 : Shape := ⟨2, ![2048, 4096]⟩
abbrev S4096x2048 : Shape := ⟨2, ![4096, 2048]⟩
abbrev S2048 : Shape := ⟨1, ![2048]⟩
abbrev S8192x2048 : Shape := ⟨2, ![8192, 2048]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x1024 : Shape := ⟨2, ![8192, 1024]⟩
abbrev S1024x8192 : Shape := ⟨2, ![1024, 8192]⟩
abbrev S256x2048 : Shape := ⟨2, ![256, 2048]⟩
abbrev S256x128 : Shape := ⟨2, ![256, 128]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S1024x2048 : Shape := ⟨2, ![1024, 2048]⟩

abbrev nBuf : Space → Nat
  | .hbm => 50
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6980, .f32⟩
  | .hbm, ⟨3, _⟩ => ⟨S1x2048x4096, .f32⟩
  | .hbm, ⟨4, _⟩ => ⟨S2048x4096, .f32⟩
  | .hbm, ⟨5, _⟩ => ⟨S4096x2048, .f32⟩
  | .hbm, ⟨6, _⟩ => ⟨S4096x2048, .bf16⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S4096, .i32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4096, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S4096x64, .f32⟩
  | .hbm, ⟨33, _⟩ => ⟨S4096x8, .f32⟩
  | .hbm, ⟨34, _⟩ => ⟨S4096x64, .f32⟩
  | .hbm, ⟨35, _⟩ => ⟨S4096x64, .f32⟩
  | .hbm, ⟨36, _⟩ => ⟨S1x4096x1x64, .f32⟩
  | .hbm, ⟨37, _⟩ => ⟨S1x4096x2x64, .f32⟩
  | .hbm, ⟨38, _⟩ => ⟨S4096x128, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S8192x1024, .bf16⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S1024x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S4096x2048, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1024x256, .bf16⟩
  | .local _ .vmem, ⟨19, _⟩ => ⟨S1024x256, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37_0 : Ref sig .tc := ⟨.hbm, 45, rfl⟩
abbrev main_v37_1 : Ref sig .tc := ⟨.hbm, 46, rfl⟩
abbrev main_v37_2 : Ref sig .tc := ⟨.hbm, 47, rfl⟩
abbrev main_v37_3 : Ref sig .tc := ⟨.hbm, 48, rfl⟩
abbrev main_v37_4 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x4096x2048 : Shape := ⟨3, ![2, 4096, 2048]⟩
abbrev S1x2048 : Shape := ⟨2, ![1, 2048]⟩
abbrev S1x2048x6980 : Shape := ⟨3, ![1, 2048, 6980]⟩
abbrev S4096 : Shape := ⟨1, ![4096]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S2x4096x4096 : Shape := ⟨3, ![2, 4096, 4096]⟩
abbrev S2x4096x1024 : Shape := ⟨3, ![2, 4096, 1024]⟩
abbrev S2x4096x8x2x64 : Shape := ⟨5, ![2, 4096, 8, 2, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x1x8 : Shape := ⟨4, ![4096, 1, 1, 8]⟩
abbrev S2x4096x8x2x8 : Shape := ⟨5, ![2, 4096, 8, 2, 8]⟩
abbrev S2x4096x8x2x48 : Shape := ⟨5, ![2, 4096, 8, 2, 48]⟩
abbrev S1x4096x1x1x8 : Shape := ⟨5, ![1, 4096, 1, 1, 8]⟩
abbrev S8192x1024 : Shape := ⟨2, ![8192, 1024]⟩
abbrev S1024x8192 : Shape := ⟨2, ![1024, 8192]⟩

abbrev nBuf : Space → Nat
  | .hbm => 118
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6980, .f32⟩
  | .hbm, ⟨3, _⟩ => ⟨S4096, .i32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x4096, .f32⟩
  | .hbm, ⟨22, _⟩ => ⟨S2048x4096, .f32⟩
  | .hbm, ⟨23, _⟩ => ⟨S2x4096x4096, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x8x2x64, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S4096, .f32⟩
  | .hbm, ⟨37, _⟩ => ⟨S4096x1, .f32⟩
  | .hbm, ⟨38, _⟩ => ⟨S1x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x1x1x8, .f32⟩
  | .hbm, ⟨43, _⟩ => ⟨S4096x1x1x8, .f32⟩
  | .hbm, ⟨44, _⟩ => ⟨S4096x1x1x8, .f32⟩
  | .hbm, ⟨45, _⟩ => ⟨S2x4096x8x2x8, .f32⟩
  | .hbm, ⟨46, _⟩ => ⟨S2x4096x8x2x8, .f32⟩
  | .hbm, ⟨47, _⟩ => ⟨S2x4096x8x2x48, .f32⟩
  | .hbm, ⟨48, _⟩ => ⟨S1x4096x1x1x8, .f32⟩
  | .hbm, ⟨49, _⟩ => ⟨S2x4096x8x2x8, .f32⟩
  | .hbm, ⟨50, _⟩ => ⟨S2x4096x8x2x8, .f32⟩
  | .hbm, ⟨51, _⟩ => ⟨S1x4096x1x1x8, .f32⟩
  | .hbm, ⟨52, _⟩ => ⟨S2x4096x8x2x8, .f32⟩
  | .hbm, ⟨53, _⟩ => ⟨S2x4096x8x2x8, .f32⟩
  | .hbm, ⟨54, _⟩ => ⟨S2x4096x8x2x8, .f32⟩
  | .hbm, ⟨55, _⟩ => ⟨S1x4096x1x1x8, .f32⟩
  | .hbm, ⟨56, _⟩ => ⟨S2x4096x8x2x8, .f32⟩
  | .hbm, ⟨57, _⟩ => ⟨S2x4096x8x2x8, .f32⟩
  | .hbm, ⟨58, _⟩ => ⟨S1x4096x1x1x8, .f32⟩
  | .hbm, ⟨59, _⟩ => ⟨S2x4096x8x2x8, .f32⟩
  | .hbm, ⟨60, _⟩ => ⟨S2x4096x8x2x8, .f32⟩
  | .hbm, ⟨61, _⟩ => ⟨S2x4096x8x2x8, .f32⟩
  | .hbm, ⟨62, _⟩ => ⟨S2x4096x8x2x64, .f32⟩
  | .hbm, ⟨63, _⟩ => ⟨S_, .f32⟩
  | .hbm, ⟨64, _⟩ => ⟨S2x4096x8x2x64, .f32⟩
  | .hbm, ⟨65, _⟩ => ⟨S2x4096x8x2x64, .f32⟩
  | .hbm, ⟨66, _⟩ => ⟨S2x4096x8x2x64, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S4096, .f32⟩
  | .hbm, ⟨75, _⟩ => ⟨S4096x1, .f32⟩
  | .hbm, ⟨76, _⟩ => ⟨S1x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x1x1x8, .f32⟩
  | .hbm, ⟨81, _⟩ => ⟨S4096x1x1x8, .f32⟩
  | .hbm, ⟨82, _⟩ => ⟨S4096x1x1x8, .f32⟩
  | .hbm, ⟨83, _⟩ => ⟨S2x4096x8x2x8, .f32⟩
  | .hbm, ⟨84, _⟩ => ⟨S2x4096x8x2x8, .f32⟩
  | .hbm, ⟨85, _⟩ => ⟨S2x4096x8x2x48, .f32⟩
  | .hbm, ⟨86, _⟩ => ⟨S1x4096x1x1x8, .f32⟩
  | .hbm, ⟨87, _⟩ => ⟨S2x4096x8x2x8, .f32⟩
  | .hbm, ⟨88, _⟩ => ⟨S2x4096x8x2x8, .f32⟩
  | .hbm, ⟨89, _⟩ => ⟨S1x4096x1x1x8, .f32⟩
  | .hbm, ⟨90, _⟩ => ⟨S2x4096x8x2x8, .f32⟩
  | .hbm, ⟨91, _⟩ => ⟨S2x4096x8x2x8, .f32⟩
  | .hbm, ⟨92, _⟩ => ⟨S2x4096x8x2x8, .f32⟩
  | .hbm, ⟨93, _⟩ => ⟨S1x4096x1x1x8, .f32⟩
  | .hbm, ⟨94, _⟩ => ⟨S2x4096x8x2x8, .f32⟩
  | .hbm, ⟨95, _⟩ => ⟨S2x4096x8x2x8, .f32⟩
  | .hbm, ⟨96, _⟩ => ⟨S1x4096x1x1x8, .f32⟩
  | .hbm, ⟨97, _⟩ => ⟨S2x4096x8x2x8, .f32⟩
  | .hbm, ⟨98, _⟩ => ⟨S2x4096x8x2x8, .f32⟩
  | .hbm, ⟨99, _⟩ => ⟨S2x4096x8x2x8, .f32⟩
  | .hbm, ⟨100, _⟩ => ⟨S2x4096x8x2x64, .f32⟩
  | .hbm, ⟨101, _⟩ => ⟨S8192x1024, .f32⟩
  | .hbm, ⟨102, _⟩ => ⟨S8192x1024, .bf16⟩
  | .hbm, ⟨103, _⟩ => ⟨S8192x1024, .f32⟩
  | .hbm, ⟨104, _⟩ => ⟨S8192x1024, .f32⟩
  | .hbm, ⟨105, _⟩ => ⟨S2x4096x1024, .f32⟩
  | .hbm, ⟨106, _⟩ => ⟨S2x4096x1024, .f32⟩
  | .hbm, ⟨107, _⟩ => ⟨S_, .f32⟩
  | .hbm, ⟨108, _⟩ => ⟨S2x4096x1024, .f32⟩
  | .hbm, ⟨109, _⟩ => ⟨S2x4096x1024, .f32⟩
  | .hbm, ⟨110, _⟩ => ⟨S_, .f32⟩
  | .hbm, ⟨111, _⟩ => ⟨S2x4096x1024, .f32⟩
  | .hbm, ⟨112, _⟩ => ⟨S2x4096x1024, .f32⟩
  | .hbm, ⟨113, _⟩ => ⟨S2x4096x1024, .f32⟩
  | .hbm, ⟨114, _⟩ => ⟨S8192x1024, .f32⟩
  | .hbm, ⟨115, _⟩ => ⟨S8192x1024, .f32⟩
  | .hbm, ⟨116, _⟩ => ⟨S1024x8192, .f32⟩
  | .hbm, ⟨117, _⟩ => ⟨S1024x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== Kernel3.lean ====
abbrev S2x4096x2048 : Shape := ⟨3, ![2, 4096, 2048]⟩
abbrev S1x2048 : Shape := ⟨2, ![1, 2048]⟩
abbrev S1x2048x6980 : Shape := ⟨3, ![1, 2048, 6980]⟩
abbrev S1x2048x2816 : Shape := ⟨3, ![1, 2048, 2816]⟩
abbrev S2048x2816 : Shape := ⟨2, ![2048, 2816]⟩
abbrev S2816x2048 : Shape := ⟨2, ![2816, 2048]⟩
abbrev S1x2048x68 : Shape := ⟨3, ![1, 2048, 68]⟩
abbrev S2048x68 : Shape := ⟨2, ![2048, 68]⟩
abbrev S68x2048 : Shape := ⟨2, ![68, 2048]⟩
abbrev S_ : Shape := ⟨0, ![]⟩
abbrev S128x2048 : Shape := ⟨2, ![128, 2048]⟩
abbrev S2048 : Shape := ⟨1, ![2048]⟩
abbrev S8192x2048 : Shape := ⟨2, ![8192, 2048]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S8192x1024 : Shape := ⟨2, ![8192, 1024]⟩
abbrev S8192x256 : Shape := ⟨2, ![8192, 256]⟩
abbrev S8192x128 : Shape := ⟨2, ![8192, 128]⟩
abbrev S256x8192 : Shape := ⟨2, ![256, 8192]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S1024x2048 : Shape := ⟨2, ![1024, 2048]⟩

abbrev nBuf : Space → Nat
  | .hbm => 93
  | .vmem => 31
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x6980, .f32⟩
  | .hbm, ⟨3, _⟩ => ⟨S1x2048x2816, .f32⟩
  | .hbm, ⟨4, _⟩ => ⟨S2048x2816, .f32⟩
  | .hbm, ⟨5, _⟩ => ⟨S2816x2048, .f32⟩
  | .hbm, ⟨6, _⟩ => ⟨S2816x2048, .bf16⟩
  | .hbm, ⟨7, _⟩ => ⟨S1x2048x68, .f32⟩
  | .hbm, ⟨8, _⟩ => ⟨S2048x68, .f32⟩
  | .hbm, ⟨9, _⟩ => ⟨S68x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S128x2048, .bf16⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S4096, .i32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S4096, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S_, .f32⟩
  | .hbm, ⟨34, _⟩ => ⟨S4096x96, .f32⟩
  | .hbm, ⟨35, _⟩ => ⟨S_, .f32⟩
  | .hbm, ⟨36, _⟩ => ⟨S4096x16, .f32⟩
  | .hbm, ⟨37, _⟩ => ⟨S_, .f32⟩
  | .hbm, ⟨38, _⟩ => ⟨S4096x96, .f32⟩
  | .hbm, ⟨39, _⟩ => ⟨S4096x128, .f32⟩
  | .hbm, ⟨40, _⟩ => ⟨S4096x16, .f32⟩
  | .hbm, ⟨41, _⟩ => ⟨S4096x128, .f32⟩
  | .hbm, ⟨42, _⟩ => ⟨S4096x128, .f32⟩
  | .hbm, ⟨43, _⟩ => ⟨S1x4096x1x128, .f32⟩
  | .hbm, ⟨44, _⟩ => ⟨S1x4096x1x128, .f32⟩
  | .hbm, ⟨45, _⟩ => ⟨S4096x128, .f32⟩
  | .hbm, ⟨46, _⟩ => ⟨S1x4096x1x128, .f32⟩
  | .hbm, ⟨47, _⟩ => ⟨S1x4096x1x128, .f32⟩
  | .hbm, ⟨48, _⟩ => ⟨S4096x128, .f32⟩
  | .hbm, ⟨49, _⟩ => ⟨S1x4096x1x128, .f32⟩
  | .hbm, ⟨50, _⟩ => ⟨S1x4096x1x128, .f32⟩
  | .hbm, ⟨51, _⟩ => ⟨S4096x128, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S4096, .f32⟩
  | .hbm, ⟨60, _⟩ => ⟨S4096x1, .f32⟩
  | .hbm, ⟨61, _⟩ => ⟨S1x8, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S_, .f32⟩
  | .hbm, ⟨68, _⟩ => ⟨S4096x48, .f32⟩
  | .hbm, ⟨69, _⟩ => ⟨S_, .f32⟩
  | .hbm, ⟨70, _⟩ => ⟨S4096x8, .f32⟩
  | .hbm, ⟨71, _⟩ => ⟨S_, .f32⟩
  | .hbm, ⟨72, _⟩ => ⟨S4096x48, .f32⟩
  | .hbm, ⟨73, _⟩ => ⟨S4096x64, .f32⟩
  | .hbm, ⟨74, _⟩ => ⟨S4096x8, .f32⟩
  | .hbm, ⟨75, _⟩ => ⟨S4096x64, .f32⟩
  | .hbm, ⟨76, _⟩ => ⟨S4096x64, .f32⟩
  | .hbm, ⟨77, _⟩ => ⟨S1x4096x1x64, .f32⟩
  | .hbm, ⟨78, _⟩ => ⟨S1x4096x2x64, .f32⟩
  | .hbm, ⟨79, _⟩ => ⟨S4096x128, .f32⟩
  | .hbm, ⟨80, _⟩ => ⟨S1x4096x1x64, .f32⟩
  | .hbm, ⟨81, _⟩ => ⟨S1x4096x2x64, .f32⟩
  | .hbm, ⟨82, _⟩ => ⟨S4096x128, .f32⟩
  | .hbm, ⟨83, _⟩ => ⟨S1x4096x1x64, .f32⟩
  | .hbm, ⟨84, _⟩ => ⟨S1x4096x2x64, .f32⟩
  | .hbm, ⟨85, _⟩ => ⟨S4096x128, .f32⟩
  | .hbm, ⟨86, _⟩ => ⟨S8192x1024, .bf16⟩
  | .hbm, ⟨87, _⟩ => ⟨S8192x256, .f32⟩
  | .hbm, ⟨88, _⟩ => ⟨S8192x256, .f32⟩
  | .hbm, ⟨89, _⟩ => ⟨S8192x1024, .f32⟩
  | .hbm, ⟨90, _⟩ => ⟨S8192x256, .bf16⟩
  | .hbm, ⟨91, _⟩ => ⟨S8192x128, .f32⟩
  | .hbm, ⟨92, _⟩ => ⟨S256x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2816x2048, .bf16⟩
  | .local _ .vmem, ⟨4, _⟩ => ⟨S128x2048, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x1024, .bf16⟩
  | .local _ .vmem, ⟨18, _⟩ => ⟨S256x1024, .bf16⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x1024, .f32⟩
  | .local _ .vmem, ⟨24, _⟩ => ⟨S256x1024, .f32⟩
  | .local _ .vmem, ⟨25, _⟩ => ⟨S256x256, .bf16⟩
  | .local _ .vmem, ⟨26, _⟩ => ⟨S256x256, .bf16⟩
  | .local _ .vmem, ⟨27, _⟩ => ⟨S256x128, .f32⟩
  | .local _ .vmem, ⟨28, _⟩ => ⟨S256x128, .f32⟩
  | .local _ .vmem, ⟨29, _⟩ => ⟨S256x256, .bf16⟩
  | .local _ .vmem, ⟨30, _⟩ => ⟨S256x256, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev main_v71_4 : Ref sig .tc := ⟨.hbm, 90, rfl⟩
abbrev main_v71_5 : Ref sig .tc := ⟨.hbm, 91, rfl⟩
abbrev main_v71_6 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S2x4096x2048 : Shape := ⟨3, ![2, 4096, 2048]⟩
abbrev S1x2048 : Shape := ⟨2, ![1, 2048]⟩
abbrev S1x2048x6980 : Shape := ⟨3, ![1, 2048, 6980]⟩
abbrev S4096 : Shape := ⟨1, ![4096]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x2884 : Shape := ⟨3, ![1, 2048, 2884]⟩
abbrev S2048x2884 : Shape := ⟨2, ![2048, 2884]⟩
abbrev S2x4096x2884 : Shape := ⟨3, ![2, 4096, 2884]⟩
abbrev S2x4096x1024 : Shape := ⟨3, ![2, 4096, 1024]⟩
abbrev S2x4096x256 : Shape := ⟨3, ![2, 4096, 256]⟩
abbrev S2x4096x64 : Shape := ⟨3, ![2, 4096, 64]⟩
abbrev S2x4096x4 : Shape := ⟨3, ![2, 4096, 4]⟩
abbrev S2x4096x8x128 : Shape := ⟨4, ![2, 4096, 8, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S2x4096x8x16 : Shape := ⟨4, ![2, 4096, 8, 16]⟩
abbrev S2x4096x8x96 : Shape := ⟨4, ![2, 4096, 8, 96]⟩
abbrev S1x4096x1x16 : Shape := ⟨4, ![1, 4096, 1, 16]⟩
abbrev S2x4096x2x128 : Shape := ⟨4, ![2, 4096, 2, 128]⟩
abbrev S2x4096x2x16 : Shape := ⟨4, ![2, 4096, 2, 16]⟩
abbrev S2x4096x2x96 : Shape := ⟨4, ![2, 4096, 2, 96]⟩
abbrev S2x4096x4x64 : Shape := ⟨4, ![2, 4096, 4, 64]⟩
abbrev S8 : Shape := ⟨1, ![8]⟩
abbrev S1x8 : Shape := ⟨2, ![1, 8]⟩
abbrev S4096x8 : Shape := ⟨2, ![4096, 8]⟩
abbrev S4096x1x8 : Shape := ⟨3, ![4096, 1, 8]⟩
abbrev S2x4096x4x8 : Shape := ⟨4, ![2, 4096, 4, 8]⟩
abbrev S2x4096x4x48 : Shape := ⟨4, ![2, 4096, 4, 48]⟩
abbrev S1x4096x1x8 : Shape := ⟨4, ![1, 4096, 1, 8]⟩
abbrev S2x4096x8 : Shape := ⟨3, ![2, 4096, 8]⟩
abbrev S2x4096x48 : Shape := ⟨3, ![2, 4096, 48]⟩
abbrev S1x4096x8 : Shape := ⟨3, ![1, 4096, 8]⟩
abbrev S8192x64 : Shape := ⟨2, ![8192, 64]⟩
abbrev S8192x4 : Shape := ⟨2, ![8192, 4]⟩
abbrev S8192x60 : Shape := ⟨2, ![8192, 60]⟩
abbrev S8192x128 : Shape := ⟨2, ![8192, 128]⟩
abbrev S8192x1024 : Shape := ⟨2, ![8192, 1024]⟩
abbrev S8192x256 : Shape := ⟨2, ![8192, 256]⟩
abbrev S256x8192 : Shape := ⟨2, ![256, 8192]⟩

abbrev nBuf : Space → Nat
  | .hbm => 196
  | .vmem => 0
  | .smem => 0
  | _ => 0

abbrev hbmTy0_0 (i : Nat) : BufTy := match i % 128 with
  | 0 => ⟨S2x4096x2048, .f32⟩
  | 1 => ⟨S1x2048, .f32⟩
  | 2 => ⟨S1x2048x6980, .f32⟩
  | 3 => ⟨S4096, .i32⟩
  | 4 => ⟨S2048, .f32⟩
  | 5 => ⟨S2x4096x2048, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x2048, .f32⟩
  | 17 => ⟨S2x4096x2048, .f32⟩
  | 18 => ⟨S1x1x2048, .f32⟩
  | 19 => ⟨S2x4096x2048, .f32⟩
  | 20 => ⟨S2x4096x2048, .f32⟩
  | 21 => ⟨S1x2048x2884, .f32⟩
  | 22 => ⟨S2048x2884, .f32⟩
  | 23 => ⟨S2x4096x2884, .f32⟩
  | 24 => ⟨S2x4096x1024, .f32⟩
  | 25 => ⟨S2x4096x256, .f32⟩
  | 26 => ⟨S2x4096x256, .f32⟩
  | 27 => ⟨S2x4096x1024, .f32⟩
  | 28 => ⟨S2x4096x256, .f32⟩
  | 29 => ⟨S2x4096x64, .f32⟩
  | 30 => ⟨S2x4096x4, .f32⟩
  | 31 => ⟨S2x4096x8x128, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S4096, .f32⟩
  | 40 => ⟨S4096x1, .f32⟩
  | 41 => ⟨S1x16, .f32⟩
  | 42 => ⟨S4096x16, .f32⟩
  | 43 => ⟨S4096x16, .f32⟩
  | 44 => ⟨S4096x16, .f32⟩
  | 45 => ⟨S4096x1x16, .f32⟩
  | 46 => ⟨S4096x1x16, .f32⟩
  | 47 => ⟨S4096x1x16, .f32⟩
  | 48 => ⟨S2x4096x8x16, .f32⟩
  | 49 => ⟨S2x4096x8x16, .f32⟩
  | 50 => ⟨S2x4096x8x96, .f32⟩
  | 51 => ⟨S1x4096x1x16, .f32⟩
  | 52 => ⟨S2x4096x8x16, .f32⟩
  | 53 => ⟨S2x4096x8x16, .f32⟩
  | 54 => ⟨S1x4096x1x16, .f32⟩
  | 55 => ⟨S2x4096x8x16, .f32⟩
  | 56 => ⟨S2x4096x8x16, .f32⟩
  | 57 => ⟨S2x4096x8x16, .f32⟩
  | 58 => ⟨S1x4096x1x16, .f32⟩
  | 59 => ⟨S2x4096x8x16, .f32⟩
  | 60 => ⟨S2x4096x8x16, .f32⟩
  | 61 => ⟨S1x4096x1x16, .f32⟩
  | 62 => ⟨S2x4096x8x16, .f32⟩
  | 63 => ⟨S2x4096x8x16, .f32⟩
  | 64 => ⟨S2x4096x8x16, .f32⟩
  | 65 => ⟨S2x4096x8x128, .f32⟩
  | 66 => ⟨S_, .f32⟩
  | 67 => ⟨S2x4096x8x128, .f32⟩
  | 68 => ⟨S2x4096x8x128, .f32⟩
  | 69 => ⟨S2x4096x2x128, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S4096, .f32⟩
  | 78 => ⟨S4096x1, .f32⟩
  | 79 => ⟨S1x16, .f32⟩
  | 80 => ⟨S4096x16, .f32⟩
  | 81 => ⟨S4096x16, .f32⟩
  | 82 => ⟨S4096x16, .f32⟩
  | 83 => ⟨S4096x1x16, .f32⟩
  | 84 => ⟨S4096x1x16, .f32⟩
  | 85 => ⟨S4096x1x16, .f32⟩
  | 86 => ⟨S2x4096x2x16, .f32⟩
  | 87 => ⟨S2x4096x2x16, .f32⟩
  | 88 => ⟨S2x4096x2x96, .f32⟩
  | 89 => ⟨S1x4096x1x16, .f32⟩
  | 90 => ⟨S2x4096x2x16, .f32⟩
  | 91 => ⟨S2x4096x2x16, .f32⟩
  | 92 => ⟨S1x4096x1x16, .f32⟩
  | 93 => ⟨S2x4096x2x16, .f32⟩
  | 94 => ⟨S2x4096x2x16, .f32⟩
  | 95 => ⟨S2x4096x2x16, .f32⟩
  | 96 => ⟨S1x4096x1x16, .f32⟩
  | 97 => ⟨S2x4096x2x16, .f32⟩
  | 98 => ⟨S2x4096x2x16, .f32⟩
  | 99 => ⟨S1x4096x1x16, .f32⟩
  | 100 => ⟨S2x4096x2x16, .f32⟩
  | 101 => ⟨S2x4096x2x16, .f32⟩
  | 102 => ⟨S2x4096x2x16, .f32⟩
  | 103 => ⟨S2x4096x2x128, .f32⟩
  | 104 => ⟨S2x4096x4x64, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S4096, .f32⟩
  | 113 => ⟨S4096x1, .f32⟩
  | 114 => ⟨S1x8, .f32⟩
  | 115 => ⟨S4096x8, .f32⟩
  | 116 => ⟨S4096x8, .f32⟩
  | 117 => ⟨S4096x8, .f32⟩
  | 118 => ⟨S4096x1x8, .f32⟩
  | 119 => ⟨S4096x1x8, .f32⟩
  | 120 => ⟨S4096x1x8, .f32⟩
  | 121 => ⟨S2x4096x4x8, .f32⟩
  | 122 => ⟨S2x4096x4x8, .f32⟩
  | 123 => ⟨S2x4096x4x48, .f32⟩
  | 124 => ⟨S1x4096x1x8, .f32⟩
  | 125 => ⟨S2x4096x4x8, .f32⟩
  | 126 => ⟨S2x4096x4x8, .f32⟩
  | 127 => ⟨S1x4096x1x8, .f32⟩
  | _ => ⟨S2x4096x2048, .f32⟩

abbrev hbmTy0_1 (i : Nat) : BufTy := match i % 128 with
  | 0 => ⟨S2x4096x4x8, .f32⟩
  | 1 => ⟨S2x4096x4x8, .f32⟩
  | 2 => ⟨S2x4096x4x8, .f32⟩
  | 3 => ⟨S1x4096x1x8, .f32⟩
  | 4 => ⟨S2x4096x4x8, .f32⟩
  | 5 => ⟨S2x4096x4x8, .f32⟩
  | 6 => ⟨S1x4096x1x8, .f32⟩
  | 7 => ⟨S2x4096x4x8, .f32⟩
  | 8 => ⟨S2x4096x4x8, .f32⟩
  | 9 => ⟨S2x4096x4x8, .f32⟩
  | 10 => ⟨S2x4096x4x64, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S4096, .f32⟩
  | 19 => ⟨S4096x1, .f32⟩
  | 20 => ⟨S1x8, .f32⟩
  | 21 => ⟨S4096x8, .f32⟩
  | 22 => ⟨S4096x8, .f32⟩
  | 23 => ⟨S4096x8, .f32⟩
  | 24 => ⟨S4096x8, .f32⟩
  | 25 => ⟨S4096x8, .f32⟩
  | 26 => ⟨S2x4096x8, .f32⟩
  | 27 => ⟨S2x4096x8, .f32⟩
  | 28 => ⟨S2x4096x48, .f32⟩
  | 29 => ⟨S1x4096x8, .f32⟩
  | 30 => ⟨S2x4096x8, .f32⟩
  | 31 => ⟨S2x4096x8, .f32⟩
  | 32 => ⟨S1x4096x8, .f32⟩
  | 33 => ⟨S2x4096x8, .f32⟩
  | 34 => ⟨S2x4096x8, .f32⟩
  | 35 => ⟨S2x4096x8, .f32⟩
  | 36 => ⟨S1x4096x8, .f32⟩
  | 37 => ⟨S2x4096x8, .f32⟩
  | 38 => ⟨S2x4096x8, .f32⟩
  | 39 => ⟨S1x4096x8, .f32⟩
  | 40 => ⟨S2x4096x8, .f32⟩
  | 41 => ⟨S2x4096x8, .f32⟩
  | 42 => ⟨S2x4096x8, .f32⟩
  | 43 => ⟨S2x4096x64, .f32⟩
  | 44 => ⟨S8192x64, .f32⟩
  | 45 => ⟨S8192x4, .f32⟩
  | 46 => ⟨S_, .f32⟩
  | 47 => ⟨S8192x60, .f32⟩
  | 48 => ⟨S8192x128, .f32⟩
  | 49 => ⟨S8192x1024, .f32⟩
  | 50 => ⟨S8192x1024, .bf16⟩
  | 51 => ⟨S8192x256, .f32⟩
  | 52 => ⟨S8192x256, .f32⟩
  | 53 => ⟨S2x4096x1024, .f32⟩
  | 54 => ⟨S2x4096x1024, .f32⟩
  | 55 => ⟨S_, .f32⟩
  | 56 => ⟨S2x4096x1024, .f32⟩
  | 57 => ⟨S2x4096x1024, .f32⟩
  | 58 => ⟨S_, .f32⟩
  | 59 => ⟨S2x4096x1024, .f32⟩
  | 60 => ⟨S2x4096x1024, .f32⟩
  | 61 => ⟨S2x4096x1024, .f32⟩
  | 62 => ⟨S8192x1024, .f32⟩
  | 63 => ⟨S8192x256, .f32⟩
  | 64 => ⟨S8192x256, .bf16⟩
  | 65 => ⟨S8192x256, .f32⟩
  | 66 => ⟨S256x8192, .f32⟩
  | 67 => ⟨S256x8192, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_cst_7 : Ref sig .tc := ⟨.hbm, 106, rfl⟩
abbrev main_v95 : Ref sig .tc := ⟨.hbm, 107, rfl⟩
abbrev main_v96 : Ref sig .tc := ⟨.hbm, 108, rfl⟩
abbrev main_cst_8 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_cst_9 : Ref sig .tc := ⟨.hbm, 140, rfl⟩
abbrev main_v127 : Ref sig .tc := ⟨.hbm, 141, rfl⟩
abbrev main_v128 : Ref sig .tc := ⟨.hbm, 142, rfl⟩
abbrev main_cst_10 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_cst_11 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_call0_v0 : Ref sig .tc := ⟨.hbm, 181, rfl⟩
abbrev main_call0_v1 : Ref sig .tc := ⟨.hbm, 182, rfl⟩
abbrev main_call0_cst : Ref sig .tc := ⟨.hbm, 183, rfl⟩
abbrev main_call0_v2 : Ref sig .tc := ⟨.hbm, 184, rfl⟩
abbrev main_call0_v3 : Ref sig .tc := ⟨.hbm, 185, rfl⟩
abbrev main_call0_cst_0 : Ref sig .tc := ⟨.hbm, 186, rfl⟩
abbrev main_call0_v4 : Ref sig .tc := ⟨.hbm, 187, rfl⟩
abbrev main_call0_v5 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩

abbrev nD : Nat := 1
abbrev τ : Topo := Topo.v7x

variable {F : FTy → Type} [FloatOps F]
-- ==== Kernel4.lean ====
abbrev S8x1x2048 : Shape := ⟨3, ![8, 1, 2048]⟩
abbrev S1x2048 : Shape := ⟨2, ![1, 2048]⟩
abbrev S1x2048x6980 : Shape := ⟨3, ![1, 2048, 6980]⟩
abbrev S1x2048x4096 : Shape := ⟨3, ![1, 2048, 4096]⟩
abbrev S2048x4096 : Shape := ⟨2, ![2048, 4096]⟩
abbrev S4096x2048 : Shape := ⟨2, ![4096, 2048]⟩
abbrev S2048 : Shape := ⟨1, ![2048]⟩
abbrev S8x2048 : Shape := ⟨2, ![8, 2048]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S8x1024 : Shape := ⟨2, ![8, 1024]⟩
abbrev S1024x2048 : Shape := ⟨2, ![1024, 2048]⟩

abbrev nBuf : Space → Nat
  | .hbm => 50
  | .vmem => 10
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x6980, .f32⟩
  | .hbm, ⟨3, _⟩ => ⟨S1x2048x4096, .f32⟩
  | .hbm, ⟨4, _⟩ => ⟨S2048x4096, .f32⟩
  | .hbm, ⟨5, _⟩ => ⟨S4096x2048, .f32⟩
  | .hbm, ⟨6, _⟩ => ⟨S4096x2048, .bf16⟩
  | .hbm, ⟨7, _⟩ => ⟨S2048, .f32⟩
  | .hbm, ⟨8, _⟩ => ⟨S1x2048, .f32⟩
  | .hbm, ⟨9, _⟩ => ⟨S8x2048, .f32⟩
  | .hbm, ⟨10, _⟩ => ⟨S_, .i32⟩
  | .hbm, ⟨11, _⟩ => ⟨S8, .i32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8x1, .f32⟩
  | .hbm, ⟨21, _⟩ => ⟨S1x8, .f32⟩
  | .hbm, ⟨22, _⟩ => ⟨S8x8, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S8x8, .f32⟩
  | .hbm, ⟨27, _⟩ => ⟨S_, .f32⟩
  | .hbm, ⟨28, _⟩ => ⟨S8x48, .f32⟩
  | .hbm, ⟨29, _⟩ => ⟨S_, .f32⟩
  | .hbm, ⟨30, _⟩ => ⟨S8x8, .f32⟩
  | .hbm, ⟨31, _⟩ => ⟨S_, .f32⟩
  | .hbm, ⟨32, _⟩ => ⟨S8x48, .f32⟩
  | .hbm, ⟨33, _⟩ => ⟨S8x64, .f32⟩
  | .hbm, ⟨34, _⟩ => ⟨S8x8, .f32⟩
  | .hbm, ⟨35, _⟩ => ⟨S8x64, .f32⟩
  | .hbm, ⟨36, _⟩ => ⟨S8x64, .f32⟩
  | .hbm, ⟨37, _⟩ => ⟨S1x8x1x64, .f32⟩
  | .hbm, ⟨38, _⟩ => ⟨S1x8x2x64, .f32⟩
  | .hbm, ⟨39, _⟩ => ⟨S8x128, .f32⟩
  | .hbm, ⟨40, _⟩ => ⟨S1x8x1x64, .f32⟩
  | .hbm, ⟨41, _⟩ => ⟨S1x8x2x64, .f32⟩
  | .hbm, ⟨42, _⟩ => ⟨S8x128, .f32⟩
  | .hbm, ⟨43, _⟩ => ⟨S1x8x1x64, .f32⟩
  | .hbm, ⟨44, _⟩ => ⟨S1x8x2x64, .f32⟩
  | .hbm, ⟨45, _⟩ => ⟨S8x128, .f32⟩
  | .hbm, ⟨46, _⟩ => ⟨S8x1024, .bf16⟩
  | .hbm, ⟨47, _⟩ => ⟨S8x1024, .f32⟩
  | .hbm, ⟨48, _⟩ => ⟨S8x1024, .f32⟩
  | .hbm, ⟨49, _⟩ => ⟨S8x1024, .f32⟩
  | .local _ .vmem, ⟨0, _⟩ => ⟨S8x2048, .f32⟩
  | .local _ .vmem, ⟨1, _⟩ => ⟨S1x2048, .f32⟩
  | .local _ .vmem, ⟨2, _⟩ => ⟨S4096x2048, .bf16⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x1024, .bf16⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37_0 : Ref sig .tc := ⟨.hbm, 46, rfl⟩
abbrev main_v37_1 : Ref sig .tc := ⟨.hbm, 47, rfl⟩
abbrev main_v37_2 : Ref sig .tc := ⟨.hbm, 48, rfl⟩
abbrev main_v37_3 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference4Ideal.lean ====
abbrev S8x1x2048 : Shape := ⟨3, ![8, 1, 2048]⟩
abbrev S1x2048 : Shape := ⟨2, ![1, 2048]⟩
abbrev S1x2048x6980 : Shape := ⟨3, ![1, 2048, 6980]⟩
abbrev S1 : Shape := ⟨1, ![1]⟩
abbrev S_ : Shape := ⟨0, ![]⟩
abbrev S2048 : Shape := ⟨1, ![2048]⟩
abbrev S8x1 : Shape := ⟨2, ![8, 1]⟩
abbrev S8x1x1 : Shape := ⟨3, ![8, 1, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S8x1x4096 : Shape := ⟨3, ![8, 1, 4096]⟩
abbrev S8x1x1024 : Shape := ⟨3, ![8, 1, 1024]⟩
abbrev S8x1x8x2x64 : Shape := ⟨5, ![8, 1, 8, 2, 64]⟩
abbrev S8 : Shape := ⟨1, ![8]⟩
abbrev S1x1 : Shape := ⟨2, ![1, 1]⟩
abbrev S1x8 : Shape := ⟨2, ![1, 8]⟩
abbrev S1x1x1x8 : Shape := ⟨4, ![1, 1, 1, 8]⟩
abbrev S8x1x8x2x8 : Shape := ⟨5, ![8, 1, 8, 2, 8]⟩
abbrev S8x1x8x2x48 : Shape := ⟨5, ![8, 1, 8, 2, 48]⟩
abbrev S1x1x1x1x8 : Shape := ⟨5, ![1, 1, 1, 1, 8]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x6980, .f32⟩
  | .hbm, ⟨3, _⟩ => ⟨S1, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2048, .f32⟩
  | .hbm, ⟨8, _⟩ => ⟨S8x1x2048, .f32⟩
  | .hbm, ⟨9, _⟩ => ⟨S_, .f32⟩
  | .hbm, ⟨10, _⟩ => ⟨S8x1, .f32⟩
  | .hbm, ⟨11, _⟩ => ⟨S8x1x1, .f32⟩
  | .hbm, ⟨12, _⟩ => ⟨S_, .f32⟩
  | .hbm, ⟨13, _⟩ => ⟨S8x1x1, .f32⟩
  | .hbm, ⟨14, _⟩ => ⟨S8x1x1, .f32⟩
  | .hbm, ⟨15, _⟩ => ⟨S_, .f32⟩
  | .hbm, ⟨16, _⟩ => ⟨S8x1x1, .f32⟩
  | .hbm, ⟨17, _⟩ => ⟨S8x1x1, .f32⟩
  | .hbm, ⟨18, _⟩ => ⟨S8x1x1, .f32⟩
  | .hbm, ⟨19, _⟩ => ⟨S8x1x2048, .f32⟩
  | .hbm, ⟨20, _⟩ => ⟨S8x1x2048, .f32⟩
  | .hbm, ⟨21, _⟩ => ⟨S1x1x2048, .f32⟩
  | .hbm, ⟨22, _⟩ => ⟨S8x1x2048, .f32⟩
  | .hbm, ⟨23, _⟩ => ⟨S8x1x2048, .f32⟩
  | .hbm, ⟨24, _⟩ => ⟨S1x2048x4096, .f32⟩
  | .hbm, ⟨25, _⟩ => ⟨S2048x4096, .f32⟩
  | .hbm, ⟨26, _⟩ => ⟨S8x1x4096, .f32⟩
  | .hbm, ⟨27, _⟩ => ⟨S8x1x1024, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S8x1x8x2x64, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S1, .f32⟩
  | .hbm, ⟨40, _⟩ => ⟨S1x1, .f32⟩
  | .hbm, ⟨41, _⟩ => ⟨S1x8, .f32⟩
  | .hbm, ⟨42, _⟩ => ⟨S1x8, .f32⟩
  | .hbm, ⟨43, _⟩ => ⟨S1x8, .f32⟩
  | .hbm, ⟨44, _⟩ => ⟨S1x1x1x8, .f32⟩
  | .hbm, ⟨45, _⟩ => ⟨S1x1x1x8, .f32⟩
  | .hbm, ⟨46, _⟩ => ⟨S1x1x1x8, .f32⟩
  | .hbm, ⟨47, _⟩ => ⟨S8x1x8x2x8, .f32⟩
  | .hbm, ⟨48, _⟩ => ⟨S8x1x8x2x8, .f32⟩
  | .hbm, ⟨49, _⟩ => ⟨S8x1x8x2x48, .f32⟩
  | .hbm, ⟨50, _⟩ => ⟨S1x1x1x1x8, .f32⟩
  | .hbm, ⟨51, _⟩ => ⟨S8x1x8x2x8, .f32⟩
  | .hbm, ⟨52, _⟩ => ⟨S8x1x8x2x8, .f32⟩
  | .hbm, ⟨53, _⟩ => ⟨S1x1x1x1x8, .f32⟩
  | .hbm, ⟨54, _⟩ => ⟨S8x1x8x2x8, .f32⟩
  | .hbm, ⟨55, _⟩ => ⟨S8x1x8x2x8, .f32⟩
  | .hbm, ⟨56, _⟩ => ⟨S8x1x8x2x8, .f32⟩
  | .hbm, ⟨57, _⟩ => ⟨S1x1x1x1x8, .f32⟩
  | .hbm, ⟨58, _⟩ => ⟨S8x1x8x2x8, .f32⟩
  | .hbm, ⟨59, _⟩ => ⟨S8x1x8x2x8, .f32⟩
  | .hbm, ⟨60, _⟩ => ⟨S1x1x1x1x8, .f32⟩
  | .hbm, ⟨61, _⟩ => ⟨S8x1x8x2x8, .f32⟩
  | .hbm, ⟨62, _⟩ => ⟨S8x1x8x2x8, .f32⟩
  | .hbm, ⟨63, _⟩ => ⟨S8x1x8x2x8, .f32⟩
  | .hbm, ⟨64, _⟩ => ⟨S8x1x8x2x64, .f32⟩
  | .hbm, ⟨65, _⟩ => ⟨S_, .f32⟩
  | .hbm, ⟨66, _⟩ => ⟨S8x1x8x2x64, .f32⟩
  | .hbm, ⟨67, _⟩ => ⟨S8x1x8x2x64, .f32⟩
  | .hbm, ⟨68, _⟩ => ⟨S8x1x8x2x64, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S1, .f32⟩
  | .hbm, ⟨77, _⟩ => ⟨S1x1, .f32⟩
  | .hbm, ⟨78, _⟩ => ⟨S1x8, .f32⟩
  | .hbm, ⟨79, _⟩ => ⟨S1x8, .f32⟩
  | .hbm, ⟨80, _⟩ => ⟨S1x8, .f32⟩
  | .hbm, ⟨81, _⟩ => ⟨S1x1x1x8, .f32⟩
  | .hbm, ⟨82, _⟩ => ⟨S1x1x1x8, .f32⟩
  | .hbm, ⟨83, _⟩ => ⟨S1x1x1x8, .f32⟩
  | .hbm, ⟨84, _⟩ => ⟨S8x1x8x2x8, .f32⟩
  | .hbm, ⟨85, _⟩ => ⟨S8x1x8x2x8, .f32⟩
  | .hbm, ⟨86, _⟩ => ⟨S8x1x8x2x48, .f32⟩
  | .hbm, ⟨87, _⟩ => ⟨S1x1x1x1x8, .f32⟩
  | .hbm, ⟨88, _⟩ => ⟨S8x1x8x2x8, .f32⟩
  | .hbm, ⟨89, _⟩ => ⟨S8x1x8x2x8, .f32⟩
  | .hbm, ⟨90, _⟩ => ⟨S1x1x1x1x8, .f32⟩
  | .hbm, ⟨91, _⟩ => ⟨S8x1x8x2x8, .f32⟩
  | .hbm, ⟨92, _⟩ => ⟨S8x1x8x2x8, .f32⟩
  | .hbm, ⟨93, _⟩ => ⟨S8x1x8x2x8, .f32⟩
  | .hbm, ⟨94, _⟩ => ⟨S1x1x1x1x8, .f32⟩
  | .hbm, ⟨95, _⟩ => ⟨S8x1x8x2x8, .f32⟩
  | .hbm, ⟨96, _⟩ => ⟨S8x1x8x2x8, .f32⟩
  | .hbm, ⟨97, _⟩ => ⟨S1x1x1x1x8, .f32⟩
  | .hbm, ⟨98, _⟩ => ⟨S8x1x8x2x8, .f32⟩
  | .hbm, ⟨99, _⟩ => ⟨S8x1x8x2x8, .f32⟩
  | .hbm, ⟨100, _⟩ => ⟨S8x1x8x2x8, .f32⟩
  | .hbm, ⟨101, _⟩ => ⟨S8x1x8x2x64, .f32⟩
  | .hbm, ⟨102, _⟩ => ⟨S8x1024, .f32⟩
  | .hbm, ⟨103, _⟩ => ⟨S8x1024, .bf16⟩
  | .hbm, ⟨104, _⟩ => ⟨S8x1024, .f32⟩
  | .hbm, ⟨105, _⟩ => ⟨S8x1024, .f32⟩
  | .hbm, ⟨106, _⟩ => ⟨S8x1x1024, .f32⟩
  | .hbm, ⟨107, _⟩ => ⟨S8x1x1024, .f32⟩
  | .hbm, ⟨108, _⟩ => ⟨S_, .f32⟩
  | .hbm, ⟨109, _⟩ => ⟨S8x1x1024, .f32⟩
  | .hbm, ⟨110, _⟩ => ⟨S8x1x1024, .f32⟩
  | .hbm, ⟨111, _⟩ => ⟨S_, .f32⟩
  | .hbm, ⟨112, _⟩ => ⟨S8x1x1024, .f32⟩
  | .hbm, ⟨113, _⟩ => ⟨S8x1x1024, .f32⟩
  | .hbm, ⟨114, _⟩ => ⟨S8x1x1024, .f32⟩
  | .hbm, ⟨115, _⟩ => ⟨S8x1024, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Kernel5.lean ====
abbrev S8x1x2048 : Shape := ⟨3, ![8, 1, 2048]⟩
abbrev S1x2048 : Shape := ⟨2, ![1, 2048]⟩
abbrev S1x2048x6980 : Shape := ⟨3, ![1, 2048, 6980]⟩
abbrev S1x2048x2816 : Shape := ⟨3, ![1, 2048, 2816]⟩
abbrev S2048x2816 : Shape := ⟨2, ![2048, 2816]⟩
abbrev S2816x2048 : Shape := ⟨2, ![2816, 2048]⟩
abbrev S1x2048x68 : Shape := ⟨3, ![1, 2048, 68]⟩
abbrev S2048x68 : Shape := ⟨2, ![2048, 68]⟩
abbrev S68x2048 : Shape := ⟨2, ![68, 2048]⟩
abbrev S_ : Shape := ⟨0, ![]⟩
abbrev S128x2048 : Shape := ⟨2, ![128, 2048]⟩
abbrev S2048 : Shape := ⟨1, ![2048]⟩
abbrev S8x2048 : Shape := ⟨2, ![8, 2048]⟩
abbrev S8 : Shape := ⟨1, ![8]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x96 : Shape := ⟨2, ![8, 96]⟩
abbrev S8x128 : Shape := ⟨2, ![8, 128]⟩
abbrev S1x8x1x128 : Shape := ⟨4, ![1, 8, 1, 128]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x1024 : Shape := ⟨2, ![8, 1024]⟩
abbrev S8x256 : Shape := ⟨2, ![8, 256]⟩
abbrev S1024x2048 : Shape := ⟨2, ![1024, 2048]⟩
abbrev S256x2048 : Shape := ⟨2, ![256, 2048]⟩

abbrev nBuf : Space → Nat
  | .hbm => 93
  | .vmem => 16
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x6980, .f32⟩
  | .hbm, ⟨3, _⟩ => ⟨S1x2048x2816, .f32⟩
  | .hbm, ⟨4, _⟩ => ⟨S2048x2816, .f32⟩
  | .hbm, ⟨5, _⟩ => ⟨S2816x2048, .f32⟩
  | .hbm, ⟨6, _⟩ => ⟨S2816x2048, .bf16⟩
  | .hbm, ⟨7, _⟩ => ⟨S1x2048x68, .f32⟩
  | .hbm, ⟨8, _⟩ => ⟨S2048x68, .f32⟩
  | .hbm, ⟨9, _⟩ => ⟨S68x2048, .f32⟩
  | .hbm, ⟨10, _⟩ => ⟨S_, .i32⟩
  | .hbm, ⟨11, _⟩ => ⟨S_, .f32⟩
  | .hbm, ⟨12, _⟩ => ⟨S128x2048, .f32⟩
  | .hbm, ⟨13, _⟩ => ⟨S128x2048, .bf16⟩
  | .hbm, ⟨14, _⟩ => ⟨S2048, .f32⟩
  | .hbm, ⟨15, _⟩ => ⟨S1x2048, .f32⟩
  | .hbm, ⟨16, _⟩ => ⟨S8x2048, .f32⟩
  | .hbm, ⟨17, _⟩ => ⟨S_, .i32⟩
  | .hbm, ⟨18, _⟩ => ⟨S8, .i32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8, .f32⟩
  | .hbm, ⟨27, _⟩ => ⟨S8x1, .f32⟩
  | .hbm, ⟨28, _⟩ => ⟨S1x16, .f32⟩
  | .hbm, ⟨29, _⟩ => ⟨S8x16, .f32⟩
  | .hbm, ⟨30, _⟩ => ⟨S8x16, .f32⟩
  | .hbm, ⟨31, _⟩ => ⟨S8x16, .f32⟩
  | .hbm, ⟨32, _⟩ => ⟨S8x16, .f32⟩
  | .hbm, ⟨33, _⟩ => ⟨S8x16, .f32⟩
  | .hbm, ⟨34, _⟩ => ⟨S_, .f32⟩
  | .hbm, ⟨35, _⟩ => ⟨S8x96, .f32⟩
  | .hbm, ⟨36, _⟩ => ⟨S_, .f32⟩
  | .hbm, ⟨37, _⟩ => ⟨S8x16, .f32⟩
  | .hbm, ⟨38, _⟩ => ⟨S_, .f32⟩
  | .hbm, ⟨39, _⟩ => ⟨S8x96, .f32⟩
  | .hbm, ⟨40, _⟩ => ⟨S8x128, .f32⟩
  | .hbm, ⟨41, _⟩ => ⟨S8x16, .f32⟩
  | .hbm, ⟨42, _⟩ => ⟨S8x128, .f32⟩
  | .hbm, ⟨43, _⟩ => ⟨S8x128, .f32⟩
  | .hbm, ⟨44, _⟩ => ⟨S1x8x1x128, .f32⟩
  | .hbm, ⟨45, _⟩ => ⟨S1x8x1x128, .f32⟩
  | .hbm, ⟨46, _⟩ => ⟨S8x128, .f32⟩
  | .hbm, ⟨47, _⟩ => ⟨S1x8x1x128, .f32⟩
  | .hbm, ⟨48, _⟩ => ⟨S1x8x1x128, .f32⟩
  | .hbm, ⟨49, _⟩ => ⟨S8x128, .f32⟩
  | .hbm, ⟨50, _⟩ => ⟨S1x8x1x128, .f32⟩
  | .hbm, ⟨51, _⟩ => ⟨S1x8x1x128, .f32⟩
  | .hbm, ⟨52, _⟩ => ⟨S8x128, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S8x1, .f32⟩
  | .hbm, ⟨62, _⟩ => ⟨S1x8, .f32⟩
  | .hbm, ⟨63, _⟩ => ⟨S8x8, .f32⟩
  | .hbm, ⟨64, _⟩ => ⟨S8x8, .f32⟩
  | .hbm, ⟨65, _⟩ => ⟨S8x8, .f32⟩
  | .hbm, ⟨66, _⟩ => ⟨S8x8, .f32⟩
  | .hbm, ⟨67, _⟩ => ⟨S8x8, .f32⟩
  | .hbm, ⟨68, _⟩ => ⟨S_, .f32⟩
  | .hbm, ⟨69, _⟩ => ⟨S8x48, .f32⟩
  | .hbm, ⟨70, _⟩ => ⟨S_, .f32⟩
  | .hbm, ⟨71, _⟩ => ⟨S8x8, .f32⟩
  | .hbm, ⟨72, _⟩ => ⟨S_, .f32⟩
  | .hbm, ⟨73, _⟩ => ⟨S8x48, .f32⟩
  | .hbm, ⟨74, _⟩ => ⟨S8x64, .f32⟩
  | .hbm, ⟨75, _⟩ => ⟨S8x8, .f32⟩
  | .hbm, ⟨76, _⟩ => ⟨S8x64, .f32⟩
  | .hbm, ⟨77, _⟩ => ⟨S8x64, .f32⟩
  | .hbm, ⟨78, _⟩ => ⟨S1x8x1x64, .f32⟩
  | .hbm, ⟨79, _⟩ => ⟨S1x8x2x64, .f32⟩
  | .hbm, ⟨80, _⟩ => ⟨S8x128, .f32⟩
  | .hbm, ⟨81, _⟩ => ⟨S1x8x1x64, .f32⟩
  | .hbm, ⟨82, _⟩ => ⟨S1x8x2x64, .f32⟩
  | .hbm, ⟨83, _⟩ => ⟨S8x128, .f32⟩
  | .hbm, ⟨84, _⟩ => ⟨S1x8x1x64, .f32⟩
  | .hbm, ⟨85, _⟩ => ⟨S1x8x2x64, .f32⟩
  | .hbm, ⟨86, _⟩ => ⟨S8x128, .f32⟩
  | .hbm, ⟨87, _⟩ => ⟨S8x1024, .bf16⟩
  | .hbm, ⟨88, _⟩ => ⟨S8x256, .f32⟩
  | .hbm, ⟨89, _⟩ => ⟨S8x256, .f32⟩
  | .hbm, ⟨90, _⟩ => ⟨S8x1024, .f32⟩
  | .hbm, ⟨91, _⟩ => ⟨S8x256, .bf16⟩
  | .hbm, ⟨92, _⟩ => ⟨S8x128, .f32⟩
  | .local _ .vmem, ⟨0, _⟩ => ⟨S8x2048, .f32⟩
  | .local _ .vmem, ⟨1, _⟩ => ⟨S1x2048, .f32⟩
  | .local _ .vmem, ⟨2, _⟩ => ⟨S2816x2048, .bf16⟩
  | .local _ .vmem, ⟨3, _⟩ => ⟨S128x2048, .bf16⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x1024, .bf16⟩
  | .local _ .vmem, ⟨11, _⟩ => ⟨S8x256, .f32⟩
  | .local _ .vmem, ⟨12, _⟩ => ⟨S8x256, .f32⟩
  | .local _ .vmem, ⟨13, _⟩ => ⟨S8x1024, .f32⟩
  | .local _ .vmem, ⟨14, _⟩ => ⟨S8x256, .bf16⟩
  | .local _ .vmem, ⟨15, _⟩ => ⟨S8x128, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71_0 : Ref sig .tc := ⟨.hbm, 87, rfl⟩
abbrev main_v71_1 : Ref sig .tc := ⟨.hbm, 88, rfl⟩
abbrev main_v71_2 : Ref sig .tc := ⟨.hbm, 89, rfl⟩
abbrev main_v71_3 : Ref sig .tc := ⟨.hbm, 90, rfl⟩
abbrev main_v71_4 : Ref sig .tc := ⟨.hbm, 91, rfl⟩
abbrev main_v71_5 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S8x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S8x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference5Ideal.lean ====
abbrev S8x1x2048 : Shape := ⟨3, ![8, 1, 2048]⟩
abbrev S1x2048 : Shape := ⟨2, ![1, 2048]⟩
abbrev S1x2048x6980 : Shape := ⟨3, ![1, 2048, 6980]⟩
abbrev S1 : Shape := ⟨1, ![1]⟩
abbrev S_ : Shape := ⟨0, ![]⟩
abbrev S2048 : Shape := ⟨1, ![2048]⟩
abbrev S8x1 : Shape := ⟨2, ![8, 1]⟩
abbrev S8x1x1 : Shape := ⟨3, ![8, 1, 1]⟩
abbrev S1x1x2048 : Shape := ⟨3, ![1, 1, 2048]⟩
abbrev S1x2048x2884 : Shape := ⟨3, ![1, 2048, 2884]⟩
abbrev S2048x2884 : Shape := ⟨2, ![2048, 2884]⟩
abbrev S8x1x2884 : Shape := ⟨3, ![8, 1, 2884]⟩
abbrev S8x1x1024 : Shape := ⟨3, ![8, 1, 1024]⟩
abbrev S8x1x256 : Shape := ⟨3, ![8, 1, 256]⟩
abbrev S8x1x64 : Shape := ⟨3, ![8, 1, 64]⟩
abbrev S8x1x4 : Shape := ⟨3, ![8, 1, 4]⟩
abbrev S8x1x8x128 : Shape := ⟨4, ![8, 1, 8, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S8x1x8x16 : Shape := ⟨4, ![8, 1, 8, 16]⟩
abbrev S8x1x8x96 : Shape := ⟨4, ![8, 1, 8, 96]⟩
abbrev S1x1x1x16 : Shape := ⟨4, ![1, 1, 1, 16]⟩
abbrev S8x1x2x128 : Shape := ⟨4, ![8, 1, 2, 128]⟩
abbrev S8x1x2x16 : Shape := ⟨4, ![8, 1, 2, 16]⟩
abbrev S8x1x2x96 : Shape := ⟨4, ![8, 1, 2, 96]⟩
abbrev S8x1x4x64 : Shape := ⟨4, ![8, 1, 4, 64]⟩
abbrev S8 : Shape := ⟨1, ![8]⟩
abbrev S1x8 : Shape := ⟨2, ![1, 8]⟩
abbrev S1x1x8 : Shape := ⟨3, ![1, 1, 8]⟩
abbrev S8x1x4x8 : Shape := ⟨4, ![8, 1, 4, 8]⟩
abbrev S8x1x4x48 : Shape := ⟨4, ![8, 1, 4, 48]⟩
abbrev S1x1x1x8 : Shape := ⟨4, ![1, 1, 1, 8]⟩
abbrev S8x1x8 : Shape := ⟨3, ![8, 1, 8]⟩
abbrev S8x1x48 : Shape := ⟨3, ![8, 1, 48]⟩
abbrev S8x64 : Shape := ⟨2, ![8, 64]⟩
abbrev S8x4 : Shape := ⟨2, ![8, 4]⟩
abbrev S8x60 : Shape := ⟨2, ![8, 60]⟩
abbrev S8x128 : Shape := ⟨2, ![8, 128]⟩
abbrev S8x1024 : Shape := ⟨2, ![8, 1024]⟩
abbrev S8x256 : Shape := ⟨2, ![8, 256]⟩

abbrev nBuf : Space → Nat
  | .hbm => 192
  | .vmem => 0
  | .smem => 0
  | _ => 0

abbrev hbmTy0_0 (i : Nat) : BufTy := match i % 128 with
  | 0 => ⟨S8x1x2048, .f32⟩
  | 1 => ⟨S1x2048, .f32⟩
  | 2 => ⟨S1x2048x6980, .f32⟩
  | 3 => ⟨S1, .i32⟩
  | 4 => ⟨S_, .i32⟩
  | 5 => ⟨S1, .i32⟩
  | 6 => ⟨S1, .i32⟩
  | 7 => ⟨S2048, .f32⟩
  | 8 => ⟨S8x1x2048, .f32⟩
  | 9 => ⟨S_, .f32⟩
  | 10 => ⟨S8x1, .f32⟩
  | 11 => ⟨S8x1x1, .f32⟩
  | 12 => ⟨S_, .f32⟩
  | 13 => ⟨S8x1x1, .f32⟩
  | 14 => ⟨S8x1x1, .f32⟩
  | 15 => ⟨S_, .f32⟩
  | 16 => ⟨S8x1x1, .f32⟩
  | 17 => ⟨S8x1x1, .f32⟩
  | 18 => ⟨S8x1x1, .f32⟩
  | 19 => ⟨S8x1x2048, .f32⟩
  | 20 => ⟨S8x1x2048, .f32⟩
  | 21 => ⟨S1x1x2048, .f32⟩
  | 22 => ⟨S8x1x2048, .f32⟩
  | 23 => ⟨S8x1x2048, .f32⟩
  | 24 => ⟨S1x2048x2884, .f32⟩
  | 25 => ⟨S2048x2884, .f32⟩
  | 26 => ⟨S8x1x2884, .f32⟩
  | 27 => ⟨S8x1x1024, .f32⟩
  | 28 => ⟨S8x1x256, .f32⟩
  | 29 => ⟨S8x1x256, .f32⟩
  | 30 => ⟨S8x1x1024, .f32⟩
  | 31 => ⟨S8x1x256, .f32⟩
  | 32 => ⟨S8x1x64, .f32⟩
  | 33 => ⟨S8x1x4, .f32⟩
  | 34 => ⟨S8x1x8x128, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S1, .f32⟩
  | 43 => ⟨S1x1, .f32⟩
  | 44 => ⟨S1x16, .f32⟩
  | 45 => ⟨S1x16, .f32⟩
  | 46 => ⟨S1x16, .f32⟩
  | 47 => ⟨S1x1x16, .f32⟩
  | 48 => ⟨S1x1x16, .f32⟩
  | 49 => ⟨S1x1x16, .f32⟩
  | 50 => ⟨S8x1x8x16, .f32⟩
  | 51 => ⟨S8x1x8x16, .f32⟩
  | 52 => ⟨S8x1x8x96, .f32⟩
  | 53 => ⟨S1x1x1x16, .f32⟩
  | 54 => ⟨S8x1x8x16, .f32⟩
  | 55 => ⟨S8x1x8x16, .f32⟩
  | 56 => ⟨S1x1x1x16, .f32⟩
  | 57 => ⟨S8x1x8x16, .f32⟩
  | 58 => ⟨S8x1x8x16, .f32⟩
  | 59 => ⟨S8x1x8x16, .f32⟩
  | 60 => ⟨S1x1x1x16, .f32⟩
  | 61 => ⟨S8x1x8x16, .f32⟩
  | 62 => ⟨S8x1x8x16, .f32⟩
  | 63 => ⟨S1x1x1x16, .f32⟩
  | 64 => ⟨S8x1x8x16, .f32⟩
  | 65 => ⟨S8x1x8x16, .f32⟩
  | 66 => ⟨S8x1x8x16, .f32⟩
  | 67 => ⟨S8x1x8x128, .f32⟩
  | 68 => ⟨S_, .f32⟩
  | 69 => ⟨S8x1x8x128, .f32⟩
  | 70 => ⟨S8x1x8x128, .f32⟩
  | 71 => ⟨S8x1x2x128, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S1, .f32⟩
  | 80 => ⟨S1x1, .f32⟩
  | 81 => ⟨S1x16, .f32⟩
  | 82 => ⟨S1x16, .f32⟩
  | 83 => ⟨S1x16, .f32⟩
  | 84 => ⟨S1x1x16, .f32⟩
  | 85 => ⟨S1x1x16, .f32⟩
  | 86 => ⟨S1x1x16, .f32⟩
  | 87 => ⟨S8x1x2x16, .f32⟩
  | 88 => ⟨S8x1x2x16, .f32⟩
  | 89 => ⟨S8x1x2x96, .f32⟩
  | 90 => ⟨S1x1x1x16, .f32⟩
  | 91 => ⟨S8x1x2x16, .f32⟩
  | 92 => ⟨S8x1x2x16, .f32⟩
  | 93 => ⟨S1x1x1x16, .f32⟩
  | 94 => ⟨S8x1x2x16, .f32⟩
  | 95 => ⟨S8x1x2x16, .f32⟩
  | 96 => ⟨S8x1x2x16, .f32⟩
  | 97 => ⟨S1x1x1x16, .f32⟩
  | 98 => ⟨S8x1x2x16, .f32⟩
  | 99 => ⟨S8x1x2x16, .f32⟩
  | 100 => ⟨S1x1x1x16, .f32⟩
  | 101 => ⟨S8x1x2x16, .f32⟩
  | 102 => ⟨S8x1x2x16, .f32⟩
  | 103 => ⟨S8x1x2x16, .f32⟩
  | 104 => ⟨S8x1x2x128, .f32⟩
  | 105 => ⟨S8x1x4x64, .f32⟩
  | 106 => ⟨S8, .f32⟩
  | 107 => ⟨S_, .f32⟩
  | 108 => ⟨S8, .f32⟩
  | 109 => ⟨S8, .f32⟩
  | 110 => ⟨S_, .f32⟩
  | 111 => ⟨S8, .f32⟩
  | 112 => ⟨S8, .f32⟩
  | 113 => ⟨S1, .f32⟩
  | 114 => ⟨S1x1, .f32⟩
  | 115 => ⟨S1x8, .f32⟩
  | 116 => ⟨S1x8, .f32⟩
  | 117 => ⟨S1x8, .f32⟩
  | 118 => ⟨S1x1x8, .f32⟩
  | 119 => ⟨S1x1x8, .f32⟩
  | 120 => ⟨S1x1x8, .f32⟩
  | 121 => ⟨S8x1x4x8, .f32⟩
  | 122 => ⟨S8x1x4x8, .f32⟩
  | 123 => ⟨S8x1x4x48, .f32⟩
  | 124 => ⟨S1x1x1x8, .f32⟩
  | 125 => ⟨S8x1x4x8, .f32⟩
  | 126 => ⟨S8x1x4x8, .f32⟩
  | 127 => ⟨S1x1x1x8, .f32⟩
  | _ => ⟨S8x1x2048, .f32⟩

abbrev hbmTy0_1 (i : Nat) : BufTy := match i % 128 with
  | 0 => ⟨S8x1x4x8, .f32⟩
  | 1 => ⟨S8x1x4x8, .f32⟩
  | 2 => ⟨S8x1x4x8, .f32⟩
  | 3 => ⟨S1x1x1x8, .f32⟩
  | 4 => ⟨S8x1x4x8, .f32⟩
  | 5 => ⟨S8x1x4x8, .f32⟩
  | 6 => ⟨S1x1x1x8, .f32⟩
  | 7 => ⟨S8x1x4x8, .f32⟩
  | 8 => ⟨S8x1x4x8, .f32⟩
  | 9 => ⟨S8x1x4x8, .f32⟩
  | 10 => ⟨S8x1x4x64, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S1, .f32⟩
  | 19 => ⟨S1x1, .f32⟩
  | 20 => ⟨S1x8, .f32⟩
  | 21 => ⟨S1x8, .f32⟩
  | 22 => ⟨S1x8, .f32⟩
  | 23 => ⟨S1x8, .f32⟩
  | 24 => ⟨S1x8, .f32⟩
  | 25 => ⟨S8x1x8, .f32⟩
  | 26 => ⟨S8x1x8, .f32⟩
  | 27 => ⟨S8x1x48, .f32⟩
  | 28 => ⟨S1x1x8, .f32⟩
  | 29 => ⟨S8x1x8, .f32⟩
  | 30 => ⟨S8x1x8, .f32⟩
  | 31 => ⟨S1x1x8, .f32⟩
  | 32 => ⟨S8x1x8, .f32⟩
  | 33 => ⟨S8x1x8, .f32⟩
  | 34 => ⟨S8x1x8, .f32⟩
  | 35 => ⟨S1x1x8, .f32⟩
  | 36 => ⟨S8x1x8, .f32⟩
  | 37 => ⟨S8x1x8, .f32⟩
  | 38 => ⟨S1x1x8, .f32⟩
  | 39 => ⟨S8x1x8, .f32⟩
  | 40 => ⟨S8x1x8, .f32⟩
  | 41 => ⟨S8x1x8, .f32⟩
  | 42 => ⟨S8x1x64, .f32⟩
  | 43 => ⟨S8x64, .f32⟩
  | 44 => ⟨S8x4, .f32⟩
  | 45 => ⟨S_, .f32⟩
  | 46 => ⟨S8x60, .f32⟩
  | 47 => ⟨S8x128, .f32⟩
  | 48 => ⟨S8x1024, .f32⟩
  | 49 => ⟨S8x1024, .bf16⟩
  | 50 => ⟨S8x256, .f32⟩
  | 51 => ⟨S8x256, .f32⟩
  | 52 => ⟨S8x1x1024, .f32⟩
  | 53 => ⟨S8x1x1024, .f32⟩
  | 54 => ⟨S_, .f32⟩
  | 55 => ⟨S8x1x1024, .f32⟩
  | 56 => ⟨S8x1x1024, .f32⟩
  | 57 => ⟨S_, .f32⟩
  | 58 => ⟨S8x1x1024, .f32⟩
  | 59 => ⟨S8x1x1024, .f32⟩
  | 60 => ⟨S8x1x1024, .f32⟩
  | 61 => ⟨S8x1024, .f32⟩
  | 62 => ⟨S8x256, .f32⟩
  | 63 => ⟨S8x256, .bf16⟩
  | _ => ⟨S8x1x2048, .f32⟩

abbrev hbmTy (i : Nat) : BufTy := match i / 128 with
  | 0 => hbmTy0_0 i
  | 1 => hbmTy0_1 i
  | _ => ⟨S8x1x2048, .f32⟩

abbrev bufTy : (tb : Table) → Fin (tcTables nBuf tb) → BufTy
  | .hbm, ⟨i, _⟩ => hbmTy i
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_cst_7 : Ref sig .tc := ⟨.hbm, 107, rfl⟩
abbrev main_v95 : Ref sig .tc := ⟨.hbm, 108, rfl⟩
abbrev main_v96 : Ref sig .tc := ⟨.hbm, 109, rfl⟩
abbrev main_cst_8 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_cst_9 : Ref sig .tc := ⟨.hbm, 140, rfl⟩
abbrev main_v126 : Ref sig .tc := ⟨.hbm, 141, rfl⟩
abbrev main_v127 : Ref sig .tc := ⟨.hbm, 142, rfl⟩
abbrev main_cst_10 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_cst_11 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_call0_v0 : Ref sig .tc := ⟨.hbm, 180, rfl⟩
abbrev main_call0_v1 : Ref sig .tc := ⟨.hbm, 181, rfl⟩
abbrev main_call0_cst : Ref sig .tc := ⟨.hbm, 182, rfl⟩
abbrev main_call0_v2 : Ref sig .tc := ⟨.hbm, 183, rfl⟩
abbrev main_call0_v3 : Ref sig .tc := ⟨.hbm, 184, rfl⟩
abbrev main_call0_cst_0 : Ref sig .tc := ⟨.hbm, 185, rfl⟩
abbrev main_call0_v4 : Ref sig .tc := ⟨.hbm, 186, rfl⟩
abbrev main_call0_v5 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩

abbrev nD : Nat := 1
abbrev τ : Topo := Topo.v7x

variable {F : FTy → Type} [FloatOps F]
-- ==== Kernel6.lean ====
abbrev S8x1x2048 : Shape := ⟨3, ![8, 1, 2048]⟩
abbrev S8x1x1024 : Shape := ⟨3, ![8, 1, 1024]⟩
abbrev S1x8x1x256 : Shape := ⟨4, ![1, 8, 1, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S256x2048 : Shape := ⟨2, ![256, 2048]⟩
abbrev S2048 : Shape := ⟨1, ![2048]⟩
abbrev S8x2048 : Shape := ⟨2, ![8, 2048]⟩
abbrev S8x1024 : Shape := ⟨2, ![8, 1024]⟩
abbrev S8x1x256 : Shape := ⟨3, ![8, 1, 256]⟩
abbrev S8x256 : Shape := ⟨2, ![8, 256]⟩
abbrev S1024x2048 : Shape := ⟨2, ![1024, 2048]⟩
abbrev S8 : Shape := ⟨1, ![8]⟩
abbrev S8x1 : Shape := ⟨2, ![8, 1]⟩

abbrev nBuf : Space → Nat
  | .hbm => 25
  | .vmem => 10
  | .smem => 0
  | _ => 0

abbrev bufTy : (tb : Table) → Fin (tcTables nBuf tb) → BufTy
  | .hbm, ⟨0, _⟩ => ⟨S8x1x2048, .f32⟩
  | .hbm, ⟨1, _⟩ => ⟨S8x1x1024, .bf16⟩
  | .hbm, ⟨2, _⟩ => ⟨S8x1x1024, .bf16⟩
  | .hbm, ⟨3, _⟩ => ⟨S1x8x1x256, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x2048, .f32⟩
  | .hbm, ⟨8, _⟩ => ⟨S1x256x2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8x2048, .f32⟩
  | .hbm, ⟨20, _⟩ => ⟨S8x1024, .bf16⟩
  | .hbm, ⟨21, _⟩ => ⟨S8x1024, .bf16⟩
  | .hbm, ⟨22, _⟩ => ⟨S8x1x256, .f32⟩
  | .hbm, ⟨23, _⟩ => ⟨S8x256, .f32⟩
  | .hbm, ⟨24, _⟩ => ⟨S8x2048, .f32⟩
  | .local _ .vmem, ⟨0, _⟩ => ⟨S8x2048, .f32⟩
  | .local _ .vmem, ⟨1, _⟩ => ⟨S8x1024, .bf16⟩
  | .local _ .vmem, ⟨2, _⟩ => ⟨S8x1024, .bf16⟩
  | .local _ .vmem, ⟨3, _⟩ => ⟨S8x256, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S256x2048, .bf16⟩
  | .local _ .vmem, ⟨9, _⟩ => ⟨S8x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference6Ideal.lean ====
abbrev S8x1x2048 : Shape := ⟨3, ![8, 1, 2048]⟩
abbrev S8x1x1024 : Shape := ⟨3, ![8, 1, 1024]⟩
abbrev S1x8x1x256 : Shape := ⟨4, ![1, 8, 1, 256]⟩
abbrev S1x2048 : Shape := ⟨2, ![1, 2048]⟩
abbrev S1x2048x2048 : Shape := ⟨3, ![1, 2048, 2048]⟩
abbrev S1x256x2048 : Shape := ⟨3, ![1, 256, 2048]⟩
abbrev S2048x2048 : Shape := ⟨2, ![2048, 2048]⟩
abbrev S2048 : Shape := ⟨1, ![2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x256 : Shape := ⟨3, ![8, 1, 256]⟩
abbrev S256x2048 : Shape := ⟨2, ![256, 2048]⟩
abbrev S8x2048 : Shape := ⟨2, ![8, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S8x1x1024, .bf16⟩
  | .hbm, ⟨2, _⟩ => ⟨S8x1x1024, .bf16⟩
  | .hbm, ⟨3, _⟩ => ⟨S1x8x1x256, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x2048, .f32⟩
  | .hbm, ⟨8, _⟩ => ⟨S1x256x2048, .f32⟩
  | .hbm, ⟨9, _⟩ => ⟨S8x1x1024, .f32⟩
  | .hbm, ⟨10, _⟩ => ⟨S8x1x1024, .f32⟩
  | .hbm, ⟨11, _⟩ => ⟨S8x1x2048, .f32⟩
  | .hbm, ⟨12, _⟩ => ⟨S2048x2048, .f32⟩
  | .hbm, ⟨13, _⟩ => ⟨S8x1x2048, .f32⟩
  | .hbm, ⟨14, _⟩ => ⟨S2048, .f32⟩
  | .hbm, ⟨15, _⟩ => ⟨S8x1x2048, .f32⟩
  | .hbm, ⟨16, _⟩ => ⟨S_, .f32⟩
  | .hbm, ⟨17, _⟩ => ⟨S8x1, .f32⟩
  | .hbm, ⟨18, _⟩ => ⟨S8x1x1, .f32⟩
  | .hbm, ⟨19, _⟩ => ⟨S_, .f32⟩
  | .hbm, ⟨20, _⟩ => ⟨S8x1x1, .f32⟩
  | .hbm, ⟨21, _⟩ => ⟨S8x1x1, .f32⟩
  | .hbm, ⟨22, _⟩ => ⟨S_, .f32⟩
  | .hbm, ⟨23, _⟩ => ⟨S8x1x1, .f32⟩
  | .hbm, ⟨24, _⟩ => ⟨S8x1x1, .f32⟩
  | .hbm, ⟨25, _⟩ => ⟨S8x1x1, .f32⟩
  | .hbm, ⟨26, _⟩ => ⟨S8x1x2048, .f32⟩
  | .hbm, ⟨27, _⟩ => ⟨S8x1x2048, .f32⟩
  | .hbm, ⟨28, _⟩ => ⟨S1x1x2048, .f32⟩
  | .hbm, ⟨29, _⟩ => ⟨S8x1x2048, .f32⟩
  | .hbm, ⟨30, _⟩ => ⟨S8x1x2048, .f32⟩
  | .hbm, ⟨31, _⟩ => ⟨S8x1x2048, .f32⟩
  | .hbm, ⟨32, _⟩ => ⟨S2048x2048, .f32⟩
  | .hbm, ⟨33, _⟩ => ⟨S8x1x2048, .f32⟩
  | .hbm, ⟨34, _⟩ => ⟨S2048, .f32⟩
  | .hbm, ⟨35, _⟩ => ⟨S1x1x2048, .f32⟩
  | .hbm, ⟨36, _⟩ => ⟨S8x1x2048, .f32⟩
  | .hbm, ⟨37, _⟩ => ⟨S8x1x2048, .f32⟩
  | .hbm, ⟨38, _⟩ => ⟨S8x1x2048, .f32⟩
  | .hbm, ⟨39, _⟩ => ⟨S8x1x2048, .f32⟩
  | .hbm, ⟨40, _⟩ => ⟨S_, .f32⟩
  | .hbm, ⟨41, _⟩ => ⟨S8x1x2048, .f32⟩
  | .hbm, ⟨42, _⟩ => ⟨S8x1x2048, .f32⟩
  | .hbm, ⟨43, _⟩ => ⟨S_, .f32⟩
  | .hbm, ⟨44, _⟩ => ⟨S8x1x2048, .f32⟩
  | .hbm, ⟨45, _⟩ => ⟨S8x1x2048, .f32⟩
  | .hbm, ⟨46, _⟩ => ⟨S8x1x256, .f32⟩
  | .hbm, ⟨47, _⟩ => ⟨S256x2048, .f32⟩
  | .hbm, ⟨48, _⟩ => ⟨S8x1x2048, .f32⟩
  | .hbm, ⟨49, _⟩ => ⟨S8x1x2048, .f32⟩
  | .hbm, ⟨50, _⟩ => ⟨S8x1x2048, .f32⟩
  | .hbm, ⟨51, _⟩ => ⟨S8x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.OutRow.lean ====
/-
  One row of the output projection, written as plain sums over the extended reals: the two attention outputs times the two
  halves of the output weights, the RMS norm added to the row of the stream, and the sigmoid gate on the projected
  per-layer embedding.
-/
module

public import Idealize.ShloMosaic.PureOps.Ideal

@[expose] public section

noncomputable section

open Idealize.ShloMosaic

namespace Cert.Proof.OutRow

/-- Entry `j` of the row that leaves the output weights: the heads' 2048 outputs, the first 1024 from one attention and the
    rest from the other, times column `j`. -/
def mixed (a1 a2 : Fin 1024 → EReal) (wo : Fin 2048 → Fin 2048 → EReal) (j : Fin 2048) : EReal :=
  (∑ k : Fin 1024, a1 k * wo ⟨k.val, by omega⟩ j) + ∑ k : Fin 1024, a2 k * wo ⟨1024 + k.val, by omega⟩ j

/-- The row `x` plus the RMS norm of the row `o`, weighted by `w`. -/
def normed (x o w : Fin 2048 → EReal) (j : Fin 2048) : EReal :=
  x j + o j * Ideal.rsqrt (Ideal.div (∑ k, o k * o k) (Ideal.ofBits .f32 0x45000000#32) + Ideal.ofBits .f32 0x358637BD#32) * w j

/-- The row `x` plus its sigmoid gate times the projected embedding `p`. -/
def gated (x : Fin 2048 → EReal) (wg : Fin 2048 → Fin 2048 → EReal) (bg : Fin 2048 → EReal)
    (p : Fin 256 → EReal) (we : Fin 256 → Fin 2048 → EReal) (j : Fin 2048) : EReal :=
  x j + Ideal.div 1 (1 + Ideal.exp (-((∑ k, x k * wg k j) + bg j))) * ∑ k, p k * we k j

end Cert.Proof.OutRow

end
-- ==== Proof.OutRef.lean ====
/-
  What the output projection's reference computes: each entry of its result is the row function of `OutRow` at that token's
  row of the arguments.
-/
module

public import proofs.«01_k».proof.Proof.Gen.ReferenceIdeal.Run
public import proofs.«01_k».proof.Proof.OutRow
public import Idealize.ShloMosaic.Lib.Pointwise

@[expose] public section

set_option maxRecDepth 16384

noncomputable section

open Idealize.ShloMosaic Idealize.ShloMosaic.TcCoe Idealize.SL.Sem

namespace Cert.Proof.OutRef

open Cert.ReferenceIdeal Cert.ReferenceIdeal.Gen Cert.Proof.OutRow

/-- The heads' outputs, side by side, times the output weights. -/
def heads (a1 a2 : FVec Ideal S2x4096x1024 .bf16) (wo : FVec Ideal S1x2048x2048 .f32) : FVec Ideal S2x4096x2048 .f32 :=
  Host.dotGeneral dot_S2x4096x2048_S2048x2048_S2x4096x2048_2_0_01_1_n_n none
    (concatenate S2x4096x2048 2 [⟨S2x4096x1024, (extf .f32 a1 bitsLt_bf16_f32)⟩, ⟨S2x4096x1024, (extf .f32 a2 bitsLt_bf16_f32)⟩]
      concatenates_S2x4096x1024_S2x4096x1024_S2x4096x2048_d2)
    (shapeCast S2048x2048 wo shapeCasts_S1x2048x2048_S2048x2048)

/-- The stream plus the RMS norm of `o`. -/
def stream (x o : FVec Ideal S2x4096x2048 .f32) (w : FVec Ideal S1x2048 .f32) : FVec Ideal S2x4096x2048 .f32 :=
  addf x (mulf (mulf o (broadcastInDim S2x4096x2048 ![0, 1, 2] bcast_S2x4096x1_S2x4096x2048_0_1_2
      (Host.rsqrt (addf (Host.divf (broadcastInDim S2x4096x1 ![0, 1] bcast_S2x4096_S2x4096x1_0_1
          (Host.reduceAdd (mulf o o) (constant S_ .f32 0x00000000#32) reducesTo_S2x4096x2048_S2x4096_d2 h_S_))
          (broadcastInDim S2x4096x1 ![] bcast_S_S2x4096x1 (constant S_ .f32 0x45000000#32)))
        (broadcastInDim S2x4096x1 ![] bcast_S_S2x4096x1 (constant S_ .f32 0x358637BD#32))))))
    (broadcastInDim S2x4096x2048 ![0, 1, 2] bcast_S1x1x2048_S2x4096x2048_0_1_2
      (broadcastInDim S1x1x2048 ![2] bcast_S2048_S1x1x2048_2 (shapeCast S2048 w shapeCasts_S1x2048_S2048))))

/-- The stream plus its gate times the projected embedding. -/
def result (x : FVec Ideal S2x4096x2048 .f32) (wg : FVec Ideal S1x2048x2048 .f32) (bg : FVec Ideal S1x2048 .f32)
    (p : FVec Ideal S1x2x4096x256 .f32) (we : FVec Ideal S1x256x2048 .f32) : FVec Ideal S2x4096x2048 .f32 :=
  addf x (mulf (Host.divf (broadcastInDim S2x4096x2048 ![] bcast_S_S2x4096x2048 (constant S_ .f32 0x3F800000#32))
      (addf (broadcastInDim S2x4096x2048 ![] bcast_S_S2x4096x2048 (constant S_ .f32 0x3F800000#32))
        (Host.exp (Host.negf (addf (Host.dotGeneral dot_S2x4096x2048_S2048x2048_S2x4096x2048_2_0_01_1_n_n none x
            (shapeCast S2048x2048 wg shapeCasts_S1x2048x2048_S2048x2048))
          (broadcastInDim S2x4096x2048 ![0, 1, 2] bcast_S1x1x2048_S2x4096x2048_0_1_2
            (broadcastInDim S1x1x2048 ![2] bcast_S2048_S1x1x2048_2 (shapeCast S2048 bg shapeCasts_S1x2048_S2048))))))))
    (Host.dotGeneral dot_S2x4096x256_S256x2048_S2x4096x2048_2_0_01_1_n_n none
      (shapeCast S2x4096x256 p shapeCasts_S1x2x4096x256_S2x4096x256) (shapeCast S256x2048 we shapeCasts_S1x256x2048_S256x2048)))

/-- The product of the heads' outputs, at a token. -/
theorem heads_at (a1 a2 : FVec Ideal S2x4096x1024 .bf16) (wo : FVec Ideal S1x2048x2048 .f32) (b : Fin 2) (t : Fin 4096) (j : Fin 2048) :
    heads a1 a2 wo (ix3 b t j)
      = mixed (fun k => a1 (ix3 b t k)) (fun k => a2 (ix3 b t k)) (fun k i => wo (ix3 0 k i)) j := by
  pointwise [heads]
  rfl

/-- The stream after the norm, at a token. -/
theorem stream_at (x o : FVec Ideal S2x4096x2048 .f32) (w : FVec Ideal S1x2048 .f32) (b : Fin 2) (t : Fin 4096) (j : Fin 2048) :
    stream x o w (ix3 b t j) = normed (fun k => x (ix3 b t k)) (fun k => o (ix3 b t k)) (fun k => w (ix2 0 k)) j := by
  pointwise [stream]
  rfl

/-- The gated result, at a token. -/
theorem result_at (x : FVec Ideal S2x4096x2048 .f32) (wg : FVec Ideal S1x2048x2048 .f32) (bg : FVec Ideal S1x2048 .f32)
    (p : FVec Ideal S1x2x4096x256 .f32) (we : FVec Ideal S1x256x2048 .f32) (b : Fin 2) (t : Fin 4096) (j : Fin 2048) :
    result x wg bg p we (ix3 b t j)
      = gated (fun k => x (ix3 b t k)) (fun k i => wg (ix3 0 k i)) (fun k => bg (ix2 0 k)) (fun k => p (ix4 0 b t k))
          (fun k i => we (ix3 0 k i)) j := by
  pointwise [result]
  rfl

variable (m : (ℓ : Loc nD τ sig) → Buf (Elt Ideal) ℓ) (c : Dev nD)

/-- An entry of the reference's result, from its arguments. -/
theorem res_at (r : Fin 8192) (j : Fin 2048) :
    Cert.ReferenceIdeal.Value.res_out0 m c (ix2 r j)
      = gated (normed (fun k => m ((c.tc : Thread nD τ).loc main_arg0) (ix3 ⟨r.val / 4096, by omega⟩ ⟨r.val % 4096, by omega⟩ k))
          (mixed (fun k => m ((c.tc : Thread nD τ).loc main_arg1) (ix3 ⟨r.val / 4096, by omega⟩ ⟨r.val % 4096, by omega⟩ k))
            (fun k => m ((c.tc : Thread nD τ).loc main_arg2) (ix3 ⟨r.val / 4096, by omega⟩ ⟨r.val % 4096, by omega⟩ k))
            (fun k i => m ((c.tc : Thread nD τ).loc main_arg5) (ix3 0 k i)))
          (fun k => m ((c.tc : Thread nD τ).loc main_arg4) (ix2 0 k)))
        (fun k i => m ((c.tc : Thread nD τ).loc main_arg6) (ix3 0 k i)) (fun k => m ((c.tc : Thread nD τ).loc main_arg7) (ix2 0 k))
        (fun k => m ((c.tc : Thread nD τ).loc main_arg3) (ix4 0 ⟨r.val / 4096, by omega⟩ ⟨r.val % 4096, by omega⟩ k))
        (fun k i => m ((c.tc : Thread nD τ).loc main_arg8) (ix3 0 k i)) j := by
  have e : Cert.ReferenceIdeal.Value.res_out0 m c
      = shapeCast S8192x2048 (result (stream (m ((c.tc : Thread nD τ).loc main_arg0))
          (heads (m ((c.tc : Thread nD τ).loc main_arg1)) (m ((c.tc : Thread nD τ).loc main_arg2)) (m ((c.tc : Thread nD τ).loc main_arg5)))
          (m ((c.tc : Thread nD τ).loc main_arg4))) (m ((c.tc : Thread nD τ).loc main_arg6)) (m ((c.tc : Thread nD τ).loc main_arg7))
          (m ((c.tc : Thread nD τ).loc main_arg3)) (m ((c.tc : Thread nD τ).loc main_arg8))) shapeCasts_S2x4096x2048_S8192x2048 := rfl
  rw [e]
  pointwise
  simp only [result_at, stream_at, heads_at]

end Cert.Proof.OutRef

end
-- ==== Proof.OutBlock.lean ====
/-
  What one grid point of the output projection stores: each entry of its block of 256 rows is the row function of `OutRow`
  at that row of the point's blocks.
-/
module

public import proofs.«01_k».proof.Proof.Gen.KernelIdeal.Value
public import proofs.«01_k».proof.Proof.OutRow
public import Idealize.ShloMosaic.Lib.Pointwise

@[expose] public section

set_option maxRecDepth 16384

noncomputable section

open Idealize.ShloMosaic Idealize.ShloMosaic.TcCoe Idealize.SL.Sem

namespace Cert.Proof.OutBlock

open Cert.KernelIdeal Cert.KernelIdeal.Gen Cert.Proof.OutRow

/-- The residual stream after the norm, at row `r` of the block. -/
theorem stream_at (a1 : Vec Ideal S256x1024 .bf16) (wa : Vec Ideal S1024x2048 .bf16) (a2 : Vec Ideal S256x1024 .bf16)
    (wb : Vec Ideal S1024x2048 .bf16) (x : Vec Ideal S256x2048 .f32) (w : Vec Ideal S1x2048 .f32)
    (wo : Fin 2048 → Fin 2048 → EReal) (ha : ∀ (k : Fin 1024) j, wa (ix2 k j) = wo ⟨k.val, by omega⟩ j)
    (hb : ∀ (k : Fin 1024) j, wb (ix2 k j) = wo ⟨1024 + k.val, by omega⟩ j) (r : Fin 256) (j : Fin 2048) :
    k0_pay2 a1 wa a2 wb x w (ix2 r j)
      = normed (fun k => x (ix2 r k)) (mixed (fun k => a1 (ix2 r k)) (fun k => a2 (ix2 r k)) wo) (fun k => w (ix2 0 k)) j := by
  pointwise [k0_pay2]
  simp only [ha, hb]
  rfl

/-- The gate's argument, at row `r` of the block. -/
theorem gate_at (a1 : Vec Ideal S256x1024 .bf16) (wa : Vec Ideal S1024x2048 .bf16) (a2 : Vec Ideal S256x1024 .bf16)
    (wb : Vec Ideal S1024x2048 .bf16) (x : Vec Ideal S256x2048 .f32) (w : Vec Ideal S1x2048 .f32)
    (wg : Vec Ideal S2048x2048 .bf16) (bg : Vec Ideal S1x2048 .f32) (r : Fin 256) (j : Fin 2048) :
    k0_pay3 a1 wa a2 wb x w wg bg (ix2 r j)
      = (∑ k, k0_pay2 a1 wa a2 wb x w (ix2 r k) * wg (ix2 k j)) + bg (ix2 0 j) := by
  pointwise [k0_pay3]

/-- The stored entry, from the stream and the gate's argument. -/
theorem stored_at (s z : FVec Ideal S256x2048 .f32) (p : Vec Ideal S256x256 .f32) (we : Vec Ideal S256x2048 .bf16)
    (r : Fin 256) (j : Fin 2048) :
    k0_pay1 s z (Scalar.ofBits .f32 0x00000000#32) p we (ix2 r j)
      = s (ix2 r j) + Ideal.div 1 (1 + Ideal.exp (-z (ix2 r j))) * ∑ k, p (ix2 r k) * we (ix2 k j) := by
  pointwise [k0_pay1]
  rw [zero_sub]

/-- The block that a grid point stores, entry by entry. -/
theorem out_at (x : Vec Ideal S256x2048 .f32) (a1 a2 : Vec Ideal S256x1024 .bf16) (p : Vec Ideal S256x256 .f32)
    (wo : Vec Ideal S2048x2048 .bf16) (w : Vec Ideal S1x2048 .f32) (wg : Vec Ideal S2048x2048 .bf16) (bg : Vec Ideal S1x2048 .f32)
    (we : Vec Ideal S256x2048 .bf16) (r : Fin 256) (j : Fin 2048) :
    out0_9 x a1 a2 p wo w wg bg we (ix2 r j)
      = gated (normed (fun k => x (ix2 r k)) (mixed (fun k => a1 (ix2 r k)) (fun k => a2 (ix2 r k)) (fun k i => wo (ix2 k i)))
          (fun k => w (ix2 0 k))) (fun k i => wg (ix2 k i)) (fun k => bg (ix2 0 k)) (fun k => p (ix2 r k)) (fun k i => we (ix2 k i)) j := by
  have hz : (![0, 0] : Fin 2 → Nat) = fun _ => 0 := funext fun a => by fin_cases a <;> rfl
  unfold out0_9
  rw [View.canon_unit_zero hz, stored_at, gate_at]
  have hx (v : Vec Ideal S256x2048 .f32) : View.ld v r0_3 = v := View.ld_unit_zero hz ..
  have he (v : Vec Ideal S256x2048 .bf16) : View.ld v r0_3 = v := View.ld_unit_zero hz ..
  have ha (v : Vec Ideal S256x1024 .bf16) : View.ld v r0_0 = v := View.ld_unit_zero hz ..
  have hp (v : Vec Ideal S256x256 .f32) : View.ld v r0_6 = v := View.ld_unit_zero hz ..
  have hw (v : Vec Ideal S1x2048 .f32) : View.ld v r0_4 = v := View.ld_unit_zero hz ..
  have hg (v : Vec Ideal S2048x2048 .bf16) : View.ld v r0_5 = v := View.ld_unit_zero hz ..
  simp only [hx, he, ha, hp, hw, hg]
  have hs := stream_at a1 (View.ld wo r0_1) a2 (View.ld wo r0_2) x w (fun k i => wo (ix2 k i))
    (fun k j => by pointwise [r0_1]) (fun k j => by pointwise [r0_2]) r
  simp only [hs]
  rw [hg, hw, hp, he]
  rfl

end Cert.Proof.OutBlock

end
-- ==== Proof.OutValue.lean ====
/-
  The output projection as a whole: the grid's 32 blocks of 256 rows tile the result, so each row of the result is the row
  function of `OutRow` at the same row of the arguments.
-/
module

public import proofs.«01_k».proof.Proof.OutBlock
public import Idealize.ShloMosaic.Lib.Claim
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Proof.OutValue

open Cert.KernelIdeal Cert.KernelIdeal.Gen Cert.Proof.OutRow

variable (m : (ℓ : Loc nD τ sig) → Buf (Elt Ideal) ℓ) (ρ : Dev nD → PrngReg) (c : Dev nD)

/-- Row `256·t + r` of the 8192: row `r` of point `t`'s blocks. -/
def row (t : Fin cfg0.N) (r : Fin 256) : Fin 8192 :=
  ⟨256 * t.val + r.val, by have := t.isLt; have : cfg0.N = 32 := N_0; omega⟩

/-- Point `t` reads row block `t` of each array of rows. -/
theorem index_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0) := by decide +kernel

/-- Every point reads the whole of each weight. -/
theorem index_whole : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by decide +kernel

/-- An index of a two-axis array is known by its two coordinates. -/
theorem eq_ix2 {p q : ℕ} (i : (⟨2, ![p, q]⟩ : Shape).Idx) (r : Fin p) (k : Fin q) (h0 : (i 0).val = r.val)
    (h1 : (i 1).val = k.val) : i = ix2 r k := by
  funext a
  apply Fin.ext
  match a with
  | ⟨0, _⟩ => exact h0
  | ⟨1, _⟩ => exact h1

/-- Point `t`'s block of the stream. -/
theorem x_at (t : Fin cfg0.N) (r : Fin 256) (k : Fin 2048) :
    (iblk m c 0 t : Vec Ideal S256x2048 .f32) (ix2 r k) = (V m c main_v10 : Vec Ideal S8192x2048 .f32) (ix2 (row t r) k) := by
  have hi := (index_rows t).1
  refine congrArg (V m c main_v10) (eq_ix2 _ _ _ ?_ ?_)
  · show win0_0.index t 0 * 256 + 1 * r.val = 256 * t.val + r.val
    rw [hi.1]; omega
  · show win0_0.index t 1 * 2048 + 1 * k.val = k.val
    rw [hi.2]; omega

/-- Point `t`'s block of the first attention's output. -/
theorem a1_at (t : Fin cfg0.N) (r : Fin 256) (k : Fin 1024) :
    (iblk m c 1 t : Vec Ideal S256x1024 .bf16) (ix2 r k) = (V m c main_v11 : Vec Ideal S8192x1024 .bf16) (ix2 (row t r) k) := by
  have hi := (index_rows t).2.1
  refine congrArg (V m c main_v11) (eq_ix2 _ _ _ ?_ ?_)
  · show win0_1.index t 0 * 256 + 1 * r.val = 256 * t.val + r.val
    rw [hi.1]; omega
  · show win0_1.index t 1 * 1024 + 1 * k.val = k.val
    rw [hi.2]; omega

/-- Point `t`'s block of the second attention's output. -/
theorem a2_at (t : Fin cfg0.N) (r : Fin 256) (k : Fin 1024) :
    (iblk m c 2 t : Vec Ideal S256x1024 .bf16) (ix2 r k) = (V m c main_v12 : Vec Ideal S8192x1024 .bf16) (ix2 (row t r) k) := by
  have hi := (index_rows t).2.2.1
  refine congrArg (V m c main_v12) (eq_ix2 _ _ _ ?_ ?_)
  · show win0_2.index t 0 * 256 + 1 * r.val = 256 * t.val + r.val
    rw [hi.1]; omega
  · show win0_2.index t 1 * 1024 + 1 * k.val = k.val
    rw [hi.2]; omega

/-- Point `t`'s block of the per-layer embedding. -/
theorem p_at (t : Fin cfg0.N) (r : Fin 256) (k : Fin 256) :
    (iblk m c 3 t : Vec Ideal S256x256 .f32) (ix2 r k) = (V m c main_v14 : Vec Ideal S8192x256 .f32) (ix2 (row t r) k) := by
  have hi := (index_rows t).2.2.2.1
  refine congrArg (V m c main_v14) (eq_ix2 _ _ _ ?_ ?_)
  · show win0_3.index t 0 * 256 + 1 * r.val = 256 * t.val + r.val
    rw [hi.1]; omega
  · show win0_3.index t 1 * 256 + 1 * k.val = k.val
    rw [hi.2]; omega

/-- The output weights, whole at every point. -/
theorem wo_at (t : Fin cfg0.N) (r : Fin 2048) (k : Fin 2048) :
    (iblk m c 4 t : Vec Ideal S2048x2048 .bf16) (ix2 r k) = (V m c main_v1 : Vec Ideal S2048x2048 .bf16) (ix2 r k) := by
  have hi := (index_whole t).1
  refine congrArg (V m c main_v1) (eq_ix2 _ _ _ ?_ ?_)
  · show win0_4.index t 0 * 2048 + 1 * r.val = r.val
    rw [hi.1]; omega
  · show win0_4.index t 1 * 2048 + 1 * k.val = k.val
    rw [hi.2]; omega

/-- The norm's weights, whole at every point. -/
theorem pw_at (t : Fin cfg0.N) (r : Fin 1) (k : Fin 2048) :
    (iblk m c 5 t : Vec Ideal S1x2048 .f32) (ix2 r k) = (V m c main_v7 : Vec Ideal S1x2048 .f32) (ix2 r k) := by
  have hi := (index_whole t).2.1
  refine congrArg (V m c main_v7) (eq_ix2 _ _ _ ?_ ?_)
  · show win0_5.index t 0 * 1 + 1 * r.val = r.val
    rw [hi.1]; omega
  · show win0_5.index t 1 * 2048 + 1 * k.val = k.val
    rw [hi.2]; omega

/-- The gate's weights, whole at every point. -/
theorem wg_at (t : Fin cfg0.N) (r : Fin 2048) (k : Fin 2048) :
    (iblk m c 6 t : Vec Ideal S2048x2048 .bf16) (ix2 r k) = (V m c main_v3 : Vec Ideal S2048x2048 .bf16) (ix2 r k) := by
  have hi := (index_whole t).2.2.1
  refine congrArg (V m c main_v3) (eq_ix2 _ _ _ ?_ ?_)
  · show win0_6.index t 0 * 2048 + 1 * r.val = r.val
    rw [hi.1]; omega
  · show win0_6.index t 1 * 2048 + 1 * k.val = k.val
    rw [hi.2]; omega

/-- The gate's bias, whole at every point. -/
theorem bg_at (t : Fin cfg0.N) (r : Fin 1) (k : Fin 2048) :
    (iblk m c 7 t : Vec Ideal S1x2048 .f32) (ix2 r k) = (V m c main_v9 : Vec Ideal S1x2048 .f32) (ix2 r k) := by
  have hi := (index_whole t).2.2.2.1
  refine congrArg (V m c main_v9) (eq_ix2 _ _ _ ?_ ?_)
  · show win0_7.index t 0 * 1 + 1 * r.val = r.val
    rw [hi.1]; omega
  · show win0_7.index t 1 * 2048 + 1 * k.val = k.val
    rw [hi.2]; omega

/-- The embedding's weights, whole at every point. -/
theorem we_at (t : Fin cfg0.N) (r : Fin 256) (k : Fin 2048) :
    (iblk m c 8 t : Vec Ideal S256x2048 .bf16) (ix2 r k) = (V m c main_v5 : Vec Ideal S256x2048 .bf16) (ix2 r k) := by
  have hi := (index_whole t).2.2.2.2
  refine congrArg (V m c main_v5) (eq_ix2 _ _ _ ?_ ?_)
  · show win0_8.index t 0 * 256 + 1 * r.val = r.val
    rw [hi.1]; omega
  · show win0_8.index t 1 * 2048 + 1 * k.val = k.val
    rw [hi.2]; omega

/-! ## The arrays the windows read, in terms of the arguments -/

/-- The stream's row `r` is token `r mod 4096` of batch `r / 4096`. -/
theorem x_arr (r : Fin 8192) (k : Fin 2048) : (V m c main_v10 : Vec Ideal S8192x2048 .f32) (ix2 r k)
    = m ((c.tc : Thread nD τ).loc main_arg0) (ix3 ⟨r.val / 4096, by omega⟩ ⟨r.val % 4096, by omega⟩ k) := by
  entry_read
  pointwise

theorem a1_arr (r : Fin 8192) (k : Fin 1024) : (V m c main_v11 : Vec Ideal S8192x1024 .bf16) (ix2 r k)
    = m ((c.tc : Thread nD τ).loc main_arg1) (ix3 ⟨r.val / 4096, by omega⟩ ⟨r.val % 4096, by omega⟩ k) := by
  entry_read
  pointwise

theorem a2_arr (r : Fin 8192) (k : Fin 1024) : (V m c main_v12 : Vec Ideal S8192x1024 .bf16) (ix2 r k)
    = m ((c.tc : Thread nD τ).loc main_arg2) (ix3 ⟨r.val / 4096, by omega⟩ ⟨r.val % 4096, by omega⟩ k) := by
  entry_read
  pointwise

theorem p_arr (r : Fin 8192) (k : Fin 256) : (V m c main_v14 : Vec Ideal S8192x256 .f32) (ix2 r k)
    = m ((c.tc : Thread nD τ).loc main_arg3) (ix4 0 ⟨r.val / 4096, by omega⟩ ⟨r.val % 4096, by omega⟩ k) := by
  entry_read
  pointwise

/-- The output weights, read by rows and columns of the layer's one slice. -/
theorem wo_arr (k j : Fin 2048) : (V m c main_v1 : Vec Ideal S2048x2048 .bf16) (ix2 k j)
    = m ((c.tc : Thread nD τ).loc main_arg5) (ix3 0 k j) := by
  entry_read
  pointwise

theorem wg_arr (k j : Fin 2048) : (V m c main_v3 : Vec Ideal S2048x2048 .bf16) (ix2 k j)
    = m ((c.tc : Thread nD τ).loc main_arg6) (ix3 0 k j) := by
  entry_read
  pointwise

theorem we_arr (k : Fin 256) (j : Fin 2048) : (V m c main_v5 : Vec Ideal S256x2048 .bf16) (ix2 k j)
    = m ((c.tc : Thread nD τ).loc main_arg8) (ix3 0 k j) := by
  entry_read
  pointwise

theorem pw_arr (k : Fin 2048) : (V m c main_v7 : Vec Ideal S1x2048 .f32) (ix2 0 k)
    = m ((c.tc : Thread nD τ).loc main_arg4) (ix2 0 k) := by
  entry_read
  pointwise

theorem bg_arr (k : Fin 2048) : (V m c main_v9 : Vec Ideal S1x2048 .f32) (ix2 0 k)
    = m ((c.tc : Thread nD τ).loc main_arg7) (ix2 0 k) := by
  entry_read
  pointwise

/-- Entry `j` of the result's row `r`, as a function of the arguments. -/
def entry (r : Fin 8192) (j : Fin 2048) : EReal :=
  gated (normed (fun k => m ((c.tc : Thread nD τ).loc main_arg0) (ix3 ⟨r.val / 4096, by omega⟩ ⟨r.val % 4096, by omega⟩ k))
      (mixed (fun k => m ((c.tc : Thread nD τ).loc main_arg1) (ix3 ⟨r.val / 4096, by omega⟩ ⟨r.val % 4096, by omega⟩ k))
        (fun k => m ((c.tc : Thread nD τ).loc main_arg2) (ix3 ⟨r.val / 4096, by omega⟩ ⟨r.val % 4096, by omega⟩ k))
        (fun k i => m ((c.tc : Thread nD τ).loc main_arg5) (ix3 0 k i)))
      (fun k => m ((c.tc : Thread nD τ).loc main_arg4) (ix2 0 k)))
    (fun k i => m ((c.tc : Thread nD τ).loc main_arg6) (ix3 0 k i)) (fun k => m ((c.tc : Thread nD τ).loc main_arg7) (ix2 0 k))
    (fun k => m ((c.tc : Thread nD τ).loc main_arg3) (ix4 0 ⟨r.val / 4096, by omega⟩ ⟨r.val % 4096, by omega⟩ k))
    (fun k i => m ((c.tc : Thread nD τ).loc main_arg8) (ix3 0 k i)) j

/-- The result, entry by entry. -/
def result : Buf (Elt Ideal) ((c.tc : Thread nD τ).loc main_v15) :=
  (fun i => entry m c (i 0) (i 1) : Vec Ideal S8192x2048 .f32)

/-- What point `t` writes back is its 256 rows of the result. -/
theorem flushed_eq (t : Fin cfg0.N) :
    (dats m 0 c).flushed 9 t = ((cfg0.win 9).blk t).view.read (Elt Ideal) (result m c) := by
  rw [Value.flushed9]
  funext y
  obtain ⟨r, j, rfl⟩ : ∃ (r : Fin 256) (j : Fin 2048), y = ix2 r j := ⟨y 0, y 1, eq_ix2 _ _ _ rfl rfl⟩
  have hi := (index_rows t).2.2.2.2
  have hemb : ((cfg0.win 9).blk t).view.emb (ix2 r j) = (ix2 (row t r) j : S8192x2048.Idx) := by
    refine eq_ix2 _ _ _ ?_ ?_
    · show win0_9.index t 0 * 256 + 1 * r.val = 256 * t.val + r.val
      rw [hi.1]; omega
    · show win0_9.index t 1 * 2048 + 1 * j.val = j.val
      rw [hi.2]; omega
  have hr : ((cfg0.win 9).blk t).view.read (Elt Ideal) (result m c) (ix2 r j) = entry m c (row t r) j :=
    congrArg (result m c) hemb
  rw [hr]
  refine (OutBlock.out_at _ _ _ _ _ _ _ _ _ r j).trans ?_
  simp only [fun k => (x_at m c t r k).trans (x_arr m c _ k),
    fun k => (a1_at m c t r k).trans (a1_arr m c _ k),
    fun k => (a2_at m c t r k).trans (a2_arr m c _ k),
    fun k => (p_at m c t r k).trans (p_arr m c _ k),
    fun k j => (wo_at m c t k j).trans (wo_arr m c k j),
    fun k j => (wg_at m c t k j).trans (wg_arr m c k j),
    fun k j => (we_at m c t k j).trans (we_arr m c k j),
    fun k => (pw_at m c t 0 k).trans (pw_arr m c k),
    fun k => (bg_at m c t 0 k).trans (bg_arr m c k)]
  rfl

/-- An index of the result is in point `t`'s block when its row is among the point's 256. -/
theorem mem_blk (t : Fin cfg0.N) (i : S8192x2048.Idx) (h : (i 0).val / 256 = t.val) : i ∈ ((cfg0.win 9).blk t).view.set := by
  show i ∈ ((View.whole main_v15).slice (win0_9.rect t)).set
  rw [View.set_slice_whole, Rect.mem_set_unit]
  have hi := (index_rows t).2.2.2.2
  have h1 : (i 1 : Nat) < 2048 := (i 1).isLt
  intro a
  match a with
  | ⟨0, _⟩ => show win0_9.index t 0 * 256 ≤ (i 0 : Nat) ∧ (i 0 : Nat) < win0_9.index t 0 * 256 + 256
              rw [hi.1]; omega
  | ⟨1, _⟩ => show win0_9.index t 1 * 2048 ≤ (i 1 : Nat) ∧ (i 1 : Nat) < win0_9.index t 1 * 2048 + 2048
              rw [hi.2]; omega

/-- The 32 blocks tile the result, so it ends holding the row function of every row. -/
theorem final : (dats m 0 c).arrAt 9 cfg0.N = result m c :=
  (dats m 0 c).arrAt_eq_of_cover 9 (result m c) (fun t _ => flushed_eq m c t) fun i => by
    have h0 : ((i : S8192x2048.Idx) 0 : Nat) < 8192 := ((i : S8192x2048.Idx) 0).isLt
    have hN : cfg0.N = 32 := N_0
    exact ⟨⟨((i : S8192x2048.Idx) 0).val / 256, by omega⟩, flush0_9 _, mem_blk _ i rfl⟩

end Cert.Proof.OutValue

end
-- ==== Proof.InRow.lean ====
/-
  One row of the input projection, written as plain sums over the extended reals: the RMS norm of the row, its product with a
  column of the weights, the rotation of the leading entries of every head by the position's angles, and the gate.
-/
module

public import Idealize.ShloMosaic.PureOps.Ideal

@[expose] public section

noncomputable section

open Idealize.ShloMosaic

namespace Cert.Proof.InRow

/-- The RMS norm of the row `x`, weighted by `w`. -/
def normed (x w : Fin 2048 → EReal) (k : Fin 2048) : EReal :=
  x k * Ideal.rsqrt (Ideal.div (∑ i, x i * x i) (Ideal.ofBits .f32 0x45000000#32) + Ideal.ofBits .f32 0x358637BD#32) * w k

/-- The normed row times one column of the weights. -/
def projected (x w u : Fin 2048 → EReal) : EReal := ∑ k, normed x w k * u k

/-- `z` times its own sigmoid. -/
def silu (z : EReal) : EReal := z * Ideal.div 1 (1 + Ideal.exp (-z))

/-- The angle of position `t` in pair `i`, where the frequency's exponent falls by `step` (as a 32-bit literal) per pair. -/
def angle (step : BitVec 32) (t i : ℕ) : EReal :=
  FloatOps.sitofp (F := Ideal) FTy.f32 (BitVec.ofNat 32 t)
    * Ideal.pow (Ideal.ofBits FTy.f32 0x48F42400#32)
        (Ideal.ofBits FTy.f32 step * FloatOps.sitofp (F := Ideal) FTy.f32 (BitVec.ofNat 32 i))

/-- The cosines and sines of the position of row `r` in its sequence. -/
def cosine (step : BitVec 32) (r : Fin 8192) (i : ℕ) : EReal := Ideal.cos (angle step (r.val % 4096) i)

def sine (step : BitVec 32) (r : Fin 8192) (i : ℕ) : EReal := Ideal.sin (angle step (r.val % 4096) i)

/-- Entry `J` of a row of heads of width `d`, of which the first `2 * p` entries are rotated: entry `i` with entry `p + i`, by
    the angle with cosine `c i` and sine `s i`. -/
def rotated {n : ℕ} (d p : ℕ) (z : Fin n → EReal) (c s : ℕ → EReal) (J : Fin n) : EReal :=
  if J.val % d < p then z J * c (J.val % d) - z ⟨(J.val + p) % n, Nat.mod_lt _ J.pos⟩ * s (J.val % d)
  else if J.val % d - p < p then
    z J * c (J.val % d - p) + z ⟨J.val - p, by omega⟩ * s (J.val % d - p)
  else z J

theorem rotated_low {n d p : ℕ} (z : Fin n → EReal) (c s : ℕ → EReal) (J B : Fin n) (h : J.val % d < p)
    (hB : B.val = J.val + p) : rotated d p z c s J = z J * c (J.val % d) - z B * s (J.val % d) := by
  have e : (⟨(J.val + p) % n, Nat.mod_lt _ J.pos⟩ : Fin n) = B :=
    Fin.ext (by show (J.val + p) % n = B.val; rw [← hB, Nat.mod_eq_of_lt B.isLt])
  unfold rotated
  rw [if_pos h, e]

theorem rotated_high {n d p : ℕ} (z : Fin n → EReal) (c s : ℕ → EReal) (J B : Fin n) (h : ¬J.val % d < p)
    (h' : J.val % d - p < p) (hB : B.val = J.val - p) :
    rotated d p z c s J = z J * c (J.val % d - p) + z B * s (J.val % d - p) := by
  have e : (⟨J.val - p, by omega⟩ : Fin n) = B := Fin.ext hB.symm
  unfold rotated
  rw [if_neg h, if_pos h', e]

theorem rotated_rest {n d p : ℕ} (z : Fin n → EReal) (c s : ℕ → EReal) (J : Fin n) (h : ¬J.val % d < p)
    (h' : ¬J.val % d - p < p) : rotated d p z c s J = z J := by
  unfold rotated
  rw [if_neg h, if_neg h']

/-- The first head of a row is rotated the same by itself. -/
theorem rotated_head {n : ℕ} (hn : 64 ≤ n) (z : Fin n → EReal) (c s : ℕ → EReal) (l : Fin 64) :
    rotated 64 8 z c s ⟨l.val, by omega⟩ = rotated 64 8 (fun j : Fin 64 => z ⟨j.val, by omega⟩) c s l := by
  have hl := l.isLt
  by_cases h : l.val % 64 < 8
  · rw [rotated_low z c s _ ⟨l.val + 8, by omega⟩ h rfl, rotated_low _ c s l ⟨l.val + 8, by omega⟩ h rfl]
  · by_cases h' : l.val % 64 - 8 < 8
    · rw [rotated_high z c s _ ⟨l.val - 8, by omega⟩ h h' rfl, rotated_high _ c s l ⟨l.val - 8, by omega⟩ h h' rfl]
    · rw [rotated_rest z c s _ h h', rotated_rest _ c s l h h']

/-- A rotation carried out by cases, on slices of a head laid side by side: the same row function, where the entries that each
    case reads are entry `J` itself and its partner. -/
theorem rotated_cases {n d p : ℕ} (z : Fin n → EReal) (c s : ℕ → EReal) (J : Fin n) (a a' : J.val % d < p → Fin n)
    (b b' : ¬J.val % d < p → J.val % d - p < p → Fin n) (e : ¬J.val % d < p → ¬J.val % d - p < p → Fin n)
    (ha : ∀ h, (a h).val = J.val) (ha' : ∀ h, (a' h).val = J.val + p) (hb : ∀ h h', (b h h').val = J.val)
    (hb' : ∀ h h', (b' h h').val = J.val - p) (he : ∀ h h', (e h h').val = J.val) :
    (if h : J.val % d < p then z (a h) * c (J.val % d) - z (a' h) * s (J.val % d)
      else if h' : J.val % d - p < p then z (b h h') * c (J.val % d - p) + z (b' h h') * s (J.val % d - p) else z (e h h'))
      = rotated d p z c s J := by
  by_cases h : J.val % d < p
  · rw [dif_pos h, rotated_low z c s J (a' h) h (ha' h), show a h = J from Fin.ext (ha h)]
  · rw [dif_neg h]
    by_cases h' : J.val % d - p < p
    · rw [dif_pos h', rotated_high z c s J (b' h h') h h' (hb' h h'), show b h h' = J from Fin.ext (hb h h')]
    · rw [dif_neg h', rotated_rest z c s J h h', show e h h' = J from Fin.ext (he h h')]

/-- The three tables at lane `l` of a head of width `d`: one for `a` on the first `p` entries, `b` on the next `p`, and `e` on
    the rest. -/
def lane (d p : ℕ) (a b : ℕ → EReal) (e : EReal) (l : ℕ) : EReal :=
  if l % d < p then a (l % d) else if l % d - p < p then b (l % d - p) else e

/-- A rotation carried out on a run of 128 lanes from lane `o` on is the rotation of the row: the lanes times the cosine table,
    plus the lanes turned one way and the other times the two sine tables. -/
theorem rotated_lanes {n : ℕ} (d p o : ℕ) (z : Fin n → EReal) (c s : ℕ → EReal) (J A B : Fin n) (l : Fin 128)
    (hd : d = 64 ∧ p = 8 ∨ d = 128 ∧ p = 16) (ho : o % 128 = 0) (hJ : J.val = o + l.val)
    (hA : A.val = o + (l.val + 128 - (128 - p)) % 128) (hB : B.val = o + (l.val + 128 - p) % 128) :
    z J * lane d p c c 1 l.val + z A * lane d p (fun i => -s i) (fun _ => 0) 0 l.val + z B * lane d p (fun _ => 0) s 0 l.val
      = rotated d p z c s J := by
  have hl := l.isLt
  have hJn := J.isLt
  have e : J.val % d = l.val % d := by rcases hd with ⟨rfl, rfl⟩ | ⟨rfl, rfl⟩ <;> omega
  by_cases h : l.val % d < p
  · rw [rotated_low z c s J A (e ▸ h) (by rcases hd with ⟨rfl, rfl⟩ | ⟨rfl, rfl⟩ <;> omega), e]
    simp only [lane, if_pos h, mul_zero, add_zero, mul_neg]
    rfl
  · by_cases h' : l.val % d - p < p
    · rw [rotated_high z c s J B (e ▸ h) (e ▸ h') (by rcases hd with ⟨rfl, rfl⟩ | ⟨rfl, rfl⟩ <;> omega), e]
      simp only [lane, if_neg h, if_pos h', mul_zero, add_zero]
    · rw [rotated_rest z c s J (e ▸ h) (e ▸ h')]
      simp only [lane, if_neg h, if_neg h', mul_zero, add_zero, mul_one]

end Cert.Proof.InRow

end
-- ==== Proof.InRef.lean ====
/-
  What the input projection's reference computes: each entry of its results is the row function of `InRow` at that token's row
  of the arguments.
-/
module

public import proofs.«01_k».proof.Proof.Gen.Reference2Ideal.Run
public import proofs.«01_k».proof.Proof.InRow
public import Idealize.ShloMosaic.Lib.Pointwise

@[expose] public section

set_option maxRecDepth 65536

noncomputable section

open Idealize.ShloMosaic Idealize.ShloMosaic.TcCoe Idealize.SL.Sem

namespace Cert.Proof.InRef

open Cert.Reference2Ideal Cert.Reference2Ideal.Gen Cert.Proof.InRow

/-- The angles: each position times each of the eight frequencies. -/
def angles : FVec Ideal S4096x8 .f32 :=
  mulf (broadcastInDim S4096x8 ![0, 1] bcast_S4096x1_S4096x8_0_1
      (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0))))))

/-- One value per position and pair, the same for every sequence, head and map. -/
def spread (a : FVec Ideal S4096x1x1x8 .f32) : FVec Ideal S2x4096x8x2x8 .f32 :=
  broadcastInDim S2x4096x8x2x8 ![0, 1, 2, 3, 4] bcast_S1x4096x1x1x8_S2x4096x8x2x8_0_1_2_3_4
    (broadcastInDim S1x4096x1x1x8 ![1, 2, 3, 4] bcast_S4096x1x1x8_S1x4096x1x1x8_1_2_3_4 a)

/-- The rotation of every head's leading entries by the angles `a`. -/
def turned (a : FVec Ideal S4096x1x1x8 .f32) (p : FVec Ideal S2x4096x8x2x64 .f32) : FVec Ideal S2x4096x8x2x64 .f32 :=
  concatenate S2x4096x8x2x64 4
    [⟨S2x4096x8x2x8, subf
        (mulf (extractStridedSlice S2x4096x8x2x8 ![0, 0, 0, 0, 0] p slices_S2x4096x8x2x64_S2x4096x8x2x8_0_0_0_0_0) (spread (Host.cos a)))
        (mulf (extractStridedSlice S2x4096x8x2x8 ![0, 0, 0, 0, 8] p slices_S2x4096x8x2x64_S2x4096x8x2x8_0_0_0_0_8) (spread (Host.sin a)))⟩,
     ⟨S2x4096x8x2x8, addf
        (mulf (extractStridedSlice S2x4096x8x2x8 ![0, 0, 0, 0, 8] p slices_S2x4096x8x2x64_S2x4096x8x2x8_0_0_0_0_8) (spread (Host.cos a)))
        (mulf (extractStridedSlice S2x4096x8x2x8 ![0, 0, 0, 0, 0] p slices_S2x4096x8x2x64_S2x4096x8x2x8_0_0_0_0_0) (spread (Host.sin a)))⟩,
     ⟨S2x4096x8x2x48, extractStridedSlice S2x4096x8x2x48 ![0, 0, 0, 0, 16] p slices_S2x4096x8x2x64_S2x4096x8x2x48_0_0_0_0_16⟩]
    concatenates_S2x4096x8x2x8_S2x4096x8x2x8_S2x4096x8x2x48_S2x4096x8x2x64_d4

theorem angles_at (t : Fin 4096) (i : Fin 8) : angles (ix2 t i) = angle 0xBE000000#32 t.val i.val := by
  pointwise [angles]
  rfl

/-- The rotated heads, back in rows, entry by entry. -/
theorem turned_at (a : FVec Ideal S4096x8 .f32) (p : FVec Ideal S2x4096x1024 .f32) (r : Fin 8192) (J : Fin 1024) (α : ℕ → EReal)
    (ha : ∀ i : Fin 8, a (ix2 ⟨r.val % 4096, by omega⟩ i) = α i.val) :
    shapeCast S8192x1024 (turned (shapeCast _ a shapeCasts_S4096x8_S4096x1x1x8)
      (shapeCast _ p shapeCasts_S2x4096x1024_S2x4096x8x2x64)) shapeCasts_S2x4096x8x2x64_S8192x1024 (ix2 r J)
      = rotated 64 8 (fun j => p (ix3 ⟨r.val / 4096, by omega⟩ ⟨r.val % 4096, by omega⟩ j))
          (fun i => Ideal.cos (α i)) (fun i => Ideal.sin (α i)) J := by
  have hJ := J.isLt
  pointwise [turned, spread]
  simp only [ha]
  let z : Fin 1024 → EReal := fun j => p (ix3 ⟨r.val / 4096, by omega⟩ ⟨r.val % 4096, by omega⟩ j)
  by_cases h : J.val % 64 < 8
  · exact (dif_pos h).trans (rotated_low z (fun i => Ideal.cos (α i)) (fun i => Ideal.sin (α i)) J
      ⟨J.val / 128 * 128 + J.val / 64 % 2 * 64 + (8 + J.val % 64), by omega⟩ h (by
        show J.val / 128 * 128 + J.val / 64 % 2 * 64 + (8 + J.val % 64) = J.val + 8
        omega)).symm
  · refine (dif_neg h).trans ?_
    by_cases h' : J.val % 64 - 8 < 8
    · have e : (⟨J.val / 128 * 128 + J.val / 64 % 2 * 64 + (8 + (J.val % 64 - 8)), by omega⟩ : Fin 1024) = J :=
        Fin.ext (by show J.val / 128 * 128 + J.val / 64 % 2 * 64 + (8 + (J.val % 64 - 8)) = J.val; omega)
      refine (dif_pos h').trans ?_
      refine (congrArg (fun j => z j * Ideal.cos (α (J.val % 64 - 8))
        + z ⟨J.val / 128 * 128 + J.val / 64 % 2 * 64 + (J.val % 64 - 8), by omega⟩ * Ideal.sin (α (J.val % 64 - 8))) e).trans ?_
      exact (rotated_high z (fun i => Ideal.cos (α i)) (fun i => Ideal.sin (α i)) J _ h h' (by
        show J.val / 128 * 128 + J.val / 64 % 2 * 64 + (J.val % 64 - 8) = J.val - 8
        omega)).symm
    · have e : (⟨J.val / 128 * 128 + J.val / 64 % 2 * 64 + (16 + (J.val % 64 - 8 - 8)), by omega⟩ : Fin 1024) = J :=
        Fin.ext (by show J.val / 128 * 128 + J.val / 64 % 2 * 64 + (16 + (J.val % 64 - 8 - 8)) = J.val; omega)
      refine (dif_neg h').trans ?_
      exact (congrArg z e).trans (rotated_rest z (fun i => Ideal.cos (α i)) (fun i => Ideal.sin (α i)) J h h').symm

/-- The normed tokens times the first 4096 columns of the input weights. -/
def projection (x : FVec Ideal S2x4096x2048 .f32) (nw : FVec Ideal S1x2048 .f32) (w : FVec Ideal S1x2048x6980 .f32) :
    FVec Ideal S2x4096x4096 .f32 :=
  Host.dotGeneral dot_S2x4096x2048_S2048x4096_S2x4096x4096_2_0_01_1_n_n none
    (mulf (mulf x (broadcastInDim S2x4096x2048 ![0, 1, 2] bcast_S2x4096x1_S2x4096x2048_0_1_2
        (Host.rsqrt (addf (Host.divf (broadcastInDim S2x4096x1 ![0, 1] bcast_S2x4096_S2x4096x1_0_1
          (Host.reduceAdd (mulf x x) (constant S_ .f32 0x00000000#32) reducesTo_S2x4096x2048_S2x4096_d2 h_S_))
            (broadcastInDim S2x4096x1 ![] bcast_S_S2x4096x1 (constant S_ .f32 0x45000000#32)))
          (broadcastInDim S2x4096x1 ![] bcast_S_S2x4096x1 (constant S_ .f32 0x358637BD#32))))))
      (broadcastInDim S2x4096x2048 ![0, 1, 2] bcast_S1x1x2048_S2x4096x2048_0_1_2
        (broadcastInDim S1x1x2048 ![2] bcast_S2048_S1x1x2048_2 (shapeCast _ nw shapeCasts_S1x2048_S2048))))
    (shapeCast _ (extractStridedSlice S1x2048x4096 ![0, 0, 0] w slices_S1x2048x6980_S1x2048x4096_0_0_0)
      shapeCasts_S1x2048x4096_S2048x4096)

theorem projection_at (x : FVec Ideal S2x4096x2048 .f32) (nw : FVec Ideal S1x2048 .f32) (w : FVec Ideal S1x2048x6980 .f32)
    (b : Fin 2) (t j : Fin 4096) : projection x nw w (ix3 b t j)
      = projected (fun k => x (ix3 b t k)) (fun k => nw (ix2 0 k)) (fun k => w (ix3 0 k ⟨j.val, by omega⟩)) := by
  pointwise [projection]
  rfl

variable (m : (ℓ : Loc nD τ sig) → Buf (Elt Ideal) ℓ) (c : Dev nD)

/-- The projection of the arguments. -/
abbrev whole : FVec Ideal S2x4096x4096 .f32 := projection (m ((c.tc : Thread nD τ).loc main_arg0))
  (m ((c.tc : Thread nD τ).loc main_arg1)) (m ((c.tc : Thread nD τ).loc main_arg2))

/-- Token `r` of the arguments times column `j` of the weights. -/
def column (r : Fin 8192) (j : Fin 4096) : EReal :=
  projected (fun k => m ((c.tc : Thread nD τ).loc main_arg0) (ix3 ⟨r.val / 4096, by omega⟩ ⟨r.val % 4096, by omega⟩ k))
    (fun k => m ((c.tc : Thread nD τ).loc main_arg1) (ix2 0 k))
    (fun k => m ((c.tc : Thread nD τ).loc main_arg2) (ix3 0 k ⟨j.val, by omega⟩))

/-- The cosines and sines of token `r`'s position. -/
def cosine (r : Fin 8192) (i : ℕ) : EReal := Ideal.cos (angle 0xBE000000#32 (r.val % 4096) i)

def sine (r : Fin 8192) (i : ℕ) : EReal := Ideal.sin (angle 0xBE000000#32 (r.val % 4096) i)

theorem queries_at (r : Fin 8192) (J : Fin 1024) : (Cert.Reference2Ideal.Value.res_out0 m c : FVec Ideal S8192x1024 .bf16) (ix2 r J)
    = rotated 64 8 (fun j : Fin 1024 => column m c r ⟨j.val, by omega⟩) (cosine r) (sine r) J * Ideal.ofBits .f32 0x3E38AA3B#32 := by
  have e : (Cert.Reference2Ideal.Value.res_out0 m c : FVec Ideal S8192x1024 .bf16)
      = truncf .bf16 (shapeCast _ (mulf (turned (shapeCast _ angles shapeCasts_S4096x8_S4096x1x1x8)
          (shapeCast _ (extractStridedSlice S2x4096x1024 ![0, 0, 0] (whole m c) slices_S2x4096x4096_S2x4096x1024_0_0_0)
            shapeCasts_S2x4096x1024_S2x4096x8x2x64))
          (broadcastInDim S2x4096x8x2x64 ![] bcast_S_S2x4096x8x2x64 (constant S_ .f32 0x3E38AA3B#32)))
          shapeCasts_S2x4096x8x2x64_S8192x1024) bitsLt_bf16_f32 := rfl
  rw [e]
  refine (congrArg (· * Ideal.ofBits .f32 0x3E38AA3B#32) (turned_at angles _ r J _ fun i => angles_at _ i)).trans ?_
  refine congrArg (fun z : Fin 1024 → EReal => rotated 64 8 z (cosine r) (sine r) J * Ideal.ofBits .f32 0x3E38AA3B#32) (funext fun j => ?_)
  pointwise
  exact projection_at _ _ _ _ _ _

theorem keys_at (r : Fin 8192) (J : Fin 1024) : (Cert.Reference2Ideal.Value.res_out1 m c : FVec Ideal S8192x1024 .f32) (ix2 r J)
    = rotated 64 8 (fun j : Fin 1024 => column m c r ⟨1024 + j.val, by omega⟩) (cosine r) (sine r) J := by
  have e : (Cert.Reference2Ideal.Value.res_out1 m c : FVec Ideal S8192x1024 .f32)
      = shapeCast _ (turned (shapeCast _ angles shapeCasts_S4096x8_S4096x1x1x8)
          (shapeCast _ (extractStridedSlice S2x4096x1024 ![0, 0, 1024] (whole m c) slices_S2x4096x4096_S2x4096x1024_0_0_1024)
            shapeCasts_S2x4096x1024_S2x4096x8x2x64)) shapeCasts_S2x4096x8x2x64_S8192x1024 := rfl
  rw [e]
  refine (turned_at angles _ r J _ fun i => angles_at _ i).trans (congrArg (fun z : Fin 1024 → EReal => rotated 64 8 z (cosine r) (sine r) J) (funext fun j => ?_))
  pointwise
  exact projection_at _ _ _ _ _ _

/-- The values: a slice of the projection. -/
abbrev values : FVec Ideal S8192x1024 .f32 :=
  shapeCast _ (extractStridedSlice S2x4096x1024 ![0, 0, 2048] (whole m c) slices_S2x4096x4096_S2x4096x1024_0_0_2048)
    shapeCasts_S2x4096x1024_S8192x1024

theorem values_at (r : Fin 8192) (J : Fin 1024) : values m c (ix2 r J) = column m c r ⟨2048 + J.val, by omega⟩ := by
  pointwise
  exact projection_at _ _ _ _ _ _

theorem turned_values_at (r : Fin 8192) (J : Fin 1024) :
    (truncf .bf16 (transpose S1024x8192 [1, 0] (values m c) transposes_S8192x1024_S1024x8192_1_0) bitsLt_bf16_f32
      : FVec Ideal S1024x8192 .bf16) (ix2 J r) = column m c r ⟨2048 + J.val, by omega⟩ := by
  pointwise
  exact projection_at _ _ _ _ _ _

/-- The gate: the last slice of the projection, times its own sigmoid. -/
abbrev gates : FVec Ideal S8192x1024 .f32 :=
  let g : FVec Ideal S2x4096x1024 .f32 := extractStridedSlice S2x4096x1024 ![0, 0, 3072] (whole m c) slices_S2x4096x4096_S2x4096x1024_0_0_3072
  shapeCast _ (mulf g (Host.divf (broadcastInDim S2x4096x1024 ![] bcast_S_S2x4096x1024 (constant S_ .f32 0x3F800000#32))
      (addf (broadcastInDim S2x4096x1024 ![] bcast_S_S2x4096x1024 (constant S_ .f32 0x3F800000#32)) (Host.exp (Host.negf g)))))
    shapeCasts_S2x4096x1024_S8192x1024

theorem gates_at (r : Fin 8192) (J : Fin 1024) : gates m c (ix2 r J) = silu (column m c r ⟨3072 + J.val, by omega⟩) := by
  have e : whole m c (ix3 ⟨r.val / 4096, by omega⟩ ⟨r.val % 4096, by omega⟩ ⟨3072 + J.val, by omega⟩)
      = column m c r ⟨3072 + J.val, by omega⟩ := projection_at _ _ _ _ _ _
  unfold gates
  pointwise
  rw [e]
  rfl

end Cert.Proof.InRef

end
-- ==== Proof.InBlock.lean ====
/-
  What one grid point of the input projection stores: each entry of its blocks of 256 rows is the row function of `InRow` at
  that row of the point's blocks.
-/
module

public import proofs.«01_k».proof.Proof.Gen.Kernel2Ideal.Value
public import proofs.«01_k».proof.Proof.InRow
public import Idealize.ShloMosaic.Lib.Pointwise

@[expose] public section

set_option maxRecDepth 16384

noncomputable section

open Idealize.ShloMosaic Idealize.ShloMosaic.TcCoe Idealize.SL.Sem

namespace Cert.Proof.InBlock

open Cert.Kernel2Ideal Cert.Kernel2Ideal.Gen Cert.Proof.InRow

/-- The normed rows of a block times 1024 rows of the weights. -/
def product (x : Vec Ideal S256x2048 .f32) (w : Vec Ideal S1x2048 .f32) (u : Vec Ideal S1024x2048 .bf16) (r : Fin 256)
    (j : Fin 1024) : EReal := projected (fun k => x (ix2 r k)) (fun k => w (ix2 0 k)) (fun k => u (ix2 j k))

variable (x : Vec Ideal S256x2048 .f32) (w : Vec Ideal S1x2048 .f32) (u : Vec Ideal S1024x2048 .bf16)
  (tc tl th : Vec Ideal S256x128 .f32) (co si : Fin 256 → ℕ → EReal)
  (hc : ∀ r (l : Fin 128), tc (ix2 r l) = lane 64 8 (co r) (co r) 1 l.val)
  (hl : ∀ r (l : Fin 128), tl (ix2 r l) = lane 64 8 (fun i => -si r i) (fun _ => 0) 0 l.val)
  (hh : ∀ r (l : Fin 128), th (ix2 r l) = lane 64 8 (fun _ => 0) (si r) 0 l.val)

theorem normed_at (r : Fin 256) (k : Fin 2048) :
    k0_pay5 x w (ix2 r k) = normed (fun k => x (ix2 r k)) (fun k => w (ix2 0 k)) k := by
  pointwise [k0_pay5]
  rfl

theorem queries_product (r : Fin 256) (j : Fin 1024) : k0_pay9 x w u (ix2 r j) = product x w u r j := by
  pointwise [k0_pay9]
  simp only [normed_at]
  rfl

theorem keys_product (h : FVec Ideal S256x2048 .bf16) (r : Fin 256) (j : Fin 1024) :
    k0_pay22 h u (ix2 r j) = ∑ k, h (ix2 r k) * u (ix2 j k) := by
  pointwise [k0_pay22]

theorem values_product (h : FVec Ideal S256x2048 .bf16) (r : Fin 256) (j : Fin 1024) :
    k0_pay2 h u (ix2 r j) = ∑ k, h (ix2 r k) * u (ix2 j k) := by
  pointwise [k0_pay2]

theorem turned_product (h : FVec Ideal S256x2048 .bf16) (r : Fin 256) (j : Fin 1024) :
    k0_pay3 h u (ix2 j r) = ∑ k, h (ix2 r k) * u (ix2 j k) := by
  pointwise [k0_pay3, k0_pay2]

theorem gate_product (h : FVec Ideal S256x2048 .bf16) (r : Fin 256) (j : Fin 1024) :
    k0_pay4 h u (ix2 r j) = silu (∑ k, h (ix2 r k) * u (ix2 j k)) := by
  pointwise [k0_pay4]
  rw [zero_sub]
  rfl

/-- A value of 128 lanes at offset `o` of a block whose every entry is `G` there is the block's `G` under its place. -/
theorem placed (G : Fin 256 → Fin 1024 → EReal) (o : ℕ) (hb : o + 128 ≤ 1024)
    (inb : ∀ a, (![0, o] : Fin 2 → Nat) a + S256x128.size a ≤ S256x1024.size a) (q : S256x128.Idx → EReal)
    (hq : ∀ (r : Fin 256) (l : Fin 128), q (ix2 r l) = G r ⟨o + l.val, by omega⟩) (y : S256x128.Idx) :
    q y = (fun i : S256x1024.Idx => G (i 0) (i 1)) ((Rect.unit (s := S256x1024) ![0, o] S256x128.size inb).emb y) := by
  obtain ⟨r, l, rfl⟩ : ∃ (r : Fin 256) (l : Fin 128), y = ix2 r l :=
    ⟨y 0, y 1, funext fun a => by match a with | ⟨0, _⟩ => rfl | ⟨1, _⟩ => rfl⟩
  rw [hq]
  refine congrArg₂ G (Fin.ext ?_) (Fin.ext ?_)
  · show r.val = 0 + 1 * r.val
    omega
  · show o + l.val = o + 1 * l.val
    omega

include hc hl hh

/-- 128 lanes of a block from lane `o` on, times the three tables, are those lanes of the rotated rows. -/
theorem lanes_at (z : FVec Ideal S256x1024 .f32) (o : ℕ) (ho : o % 128 = 0) (hb : o + 128 ≤ 1024) (r : Fin 256) (l : Fin 128) :
    z (ix2 r ⟨o + l.val, by omega⟩) * tc (ix2 r l)
      + z (ix2 r ⟨o + (l.val + 128 - 120) % 128, by omega⟩) * tl (ix2 r l)
      + z (ix2 r ⟨o + (l.val + 128 - 8) % 128, by omega⟩) * th (ix2 r l)
      = rotated 64 8 (fun j => z (ix2 r j)) (co r) (si r) ⟨o + l.val, by omega⟩ := by
  rw [hc, hl, hh]
  exact rotated_lanes 64 8 o (fun j => z (ix2 r j)) (co r) (si r) ⟨o + l.val, by omega⟩ _ _ l (.inl ⟨rfl, rfl⟩) ho rfl rfl rfl

/-- The same for a value that is `f` of those lanes, under its place in the block. -/
theorem rotated_piece (f : EReal → EReal) (z : FVec Ideal S256x1024 .f32) (o : ℕ) (ho : o % 128 = 0) (hb : o + 128 ≤ 1024)
    (inb : ∀ a, (![0, o] : Fin 2 → Nat) a + S256x128.size a ≤ S256x1024.size a) (q : S256x128.Idx → EReal)
    (hq : ∀ (r : Fin 256) (l : Fin 128), q (ix2 r l) = f (z (ix2 r ⟨o + l.val, by omega⟩) * tc (ix2 r l)
      + z (ix2 r ⟨o + (l.val + 128 - 120) % 128, by omega⟩) * tl (ix2 r l)
      + z (ix2 r ⟨o + (l.val + 128 - 8) % 128, by omega⟩) * th (ix2 r l))) (y : S256x128.Idx) :
    q y = (fun i : S256x1024.Idx => f (rotated 64 8 (fun j => z (ix2 (i 0) j)) (co (i 0)) (si (i 0)) (i 1)))
      ((Rect.unit (s := S256x1024) ![0, o] S256x128.size inb).emb y) :=
  placed (fun r j => f (rotated 64 8 (fun i => z (ix2 r i)) (co r) (si r) j)) o hb inb q
    (fun r l => (hq r l).trans (congrArg f (lanes_at tc tl th co si hc hl hh z o ho hb r l))) y

/-- The first result's block: the rotated products, scaled. -/
theorem queries_canon (r : Fin 256) (j : Fin 1024) :
    (View.canon [⟨r0_11, k0_pay21 (k0_pay20 tc tl th (k0_pay9 x w u)) (Scalar.ofBits .f32 0x3E38AA3B#32)⟩,
      ⟨r0_10, k0_pay19 tc tl th (k0_pay9 x w u)⟩, ⟨r0_9, k0_pay18 tc tl th (k0_pay9 x w u)⟩,
      ⟨r0_8, k0_pay17 th (k0_pay14 (k0_pay9 x w u)) (k0_pay15 tc (k0_pay9 x w u)) (k0_pay16 tl (k0_pay9 x w u))⟩,
      ⟨r0_7, k0_pay13 tc tl th (k0_pay9 x w u)⟩, ⟨r0_6, k0_pay12 tc tl th (k0_pay9 x w u)⟩,
      ⟨r0_5, k0_pay11 tc tl th (k0_pay9 x w u)⟩, ⟨r0_4, k0_pay10 x w tc tl th u⟩] : Vec Ideal S256x1024 .bf16) (ix2 r j)
      = rotated 64 8 (product x w u r) (co r) (si r) j * Ideal.ofBits .f32 0x3E38AA3B#32 := by
  have e : product x w u r = fun j => k0_pay9 x w u (ix2 r j) := funext fun j => (queries_product x w u r j).symm
  rw [e]
  have key := rotated_piece tc tl th co si hc hl hh (fun v => v * Ideal.ofBits .f32 0x3E38AA3B#32) (k0_pay9 x w u)
  refine (View.canon_apply_of_pieces
    (fun i : S256x1024.Idx => rotated 64 8 (fun j => k0_pay9 x w u (ix2 (i 0) j)) (co (i 0)) (si (i 0)) (i 1) * Ideal.ofBits .f32 0x3E38AA3B#32)
    _ (fun p hp => ?_) (ix2 r j) (cover0_6 _ _ _ _ _ _ _ _ _)).trans ?_
  · simp only [List.mem_cons, List.not_mem_nil, or_false] at hp
    rcases hp with rfl | rfl | rfl | rfl | rfl | rfl | rfl | rfl
    · exact key 896 rfl (by omega) inb_S256x1024_S256x128_0_896 _ fun r l => by pointwise [k0_pay21, k0_pay20]
    · exact key 768 rfl (by omega) inb_S256x1024_S256x128_0_768 _ fun r l => by pointwise [k0_pay19]
    · exact key 640 rfl (by omega) inb_S256x1024_S256x128_0_640 _ fun r l => by pointwise [k0_pay18]
    · exact key 512 rfl (by omega) inb_S256x1024_S256x128_0_512 _ fun r l => by
        pointwise [k0_pay17, k0_pay14, k0_pay15, k0_pay16]
    · exact key 384 rfl (by omega) inb_S256x1024_S256x128_0_384 _ fun r l => by pointwise [k0_pay13]
    · exact key 256 rfl (by omega) inb_S256x1024_S256x128_0_256 _ fun r l => by pointwise [k0_pay12]
    · exact key 128 rfl (by omega) inb_S256x1024_S256x128_0_128 _ fun r l => by pointwise [k0_pay11]
    · exact key 0 rfl (by omega) inb_S256x1024_S256x128_0_0 _ fun r l => by pointwise [k0_pay10, k0_pay6, k0_pay7, k0_pay8]
  · rfl

/-- The second result's block: the rotated products. -/
theorem keys_canon (r : Fin 256) (j : Fin 1024) :
    (View.canon [⟨r0_11, k0_pay1 (k0_pay34 tc tl (k0_pay22 (k0_pay5 x w) u)) (k0_pay35 th (k0_pay22 (k0_pay5 x w) u))⟩,
      ⟨r0_10, k0_pay32 tc tl th (k0_pay22 (k0_pay5 x w) u)⟩, ⟨r0_9, k0_pay31 tc tl th (k0_pay22 (k0_pay5 x w) u)⟩,
      ⟨r0_8, k0_pay30 tc tl th (k0_pay22 (k0_pay5 x w) u)⟩,
      ⟨r0_7, k0_pay29 th (k0_pay26 (k0_pay5 x w) u) (k0_pay27 (k0_pay5 x w) tc u) (k0_pay28 (k0_pay5 x w) tl u)⟩,
      ⟨r0_6, k0_pay25 (k0_pay5 x w) tc tl th u⟩, ⟨r0_5, k0_pay24 (k0_pay5 x w) tc tl th u⟩,
      ⟨r0_4, k0_pay23 (k0_pay5 x w) tc tl th u⟩] : Vec Ideal S256x1024 .f32) (ix2 r j)
      = rotated 64 8 (product x w u r) (co r) (si r) j := by
  have e : product x w u r = fun j => k0_pay22 (k0_pay5 x w) u (ix2 r j) :=
    funext fun j => by rw [keys_product]; simp only [normed_at]; rfl
  rw [e]
  have key := rotated_piece tc tl th co si hc hl hh (fun v => v) (k0_pay22 (k0_pay5 x w) u)
  refine (View.canon_apply_of_pieces
    (fun i : S256x1024.Idx => rotated 64 8 (fun j => k0_pay22 (k0_pay5 x w) u (ix2 (i 0) j)) (co (i 0)) (si (i 0)) (i 1))
    _ (fun p hp => ?_) (ix2 r j) (cover0_7 _ _ _ _ _ _ _ _ _)).trans ?_
  · simp only [List.mem_cons, List.not_mem_nil, or_false] at hp
    rcases hp with rfl | rfl | rfl | rfl | rfl | rfl | rfl | rfl
    · exact key 896 rfl (by omega) inb_S256x1024_S256x128_0_896 _ fun r l => by pointwise [k0_pay1, k0_pay34, k0_pay35, k0_pay33]
    · exact key 768 rfl (by omega) inb_S256x1024_S256x128_0_768 _ fun r l => by pointwise [k0_pay32]
    · exact key 640 rfl (by omega) inb_S256x1024_S256x128_0_640 _ fun r l => by pointwise [k0_pay31]
    · exact key 512 rfl (by omega) inb_S256x1024_S256x128_0_512 _ fun r l => by pointwise [k0_pay30]
    · exact key 384 rfl (by omega) inb_S256x1024_S256x128_0_384 _ fun r l => by
        pointwise [k0_pay29, k0_pay26, k0_pay27, k0_pay28]
    · exact key 256 rfl (by omega) inb_S256x1024_S256x128_0_256 _ fun r l => by pointwise [k0_pay25]
    · exact key 128 rfl (by omega) inb_S256x1024_S256x128_0_128 _ fun r l => by pointwise [k0_pay24]
    · exact key 0 rfl (by omega) inb_S256x1024_S256x128_0_0 _ fun r l => by pointwise [k0_pay23]
  · rfl

omit hc hl hh

theorem origin : (![0, 0] : Fin 2 → Nat) = fun _ => 0 := funext fun a => by fin_cases a <;> rfl

theorem whole_rows (v : Vec Ideal S256x2048 .f32) : View.ld v r0_0 = v := View.ld_unit_zero origin ..

theorem whole_weight (v : Vec Ideal S1x2048 .f32) : View.ld v r0_1 = v := View.ld_unit_zero origin ..

theorem whole_table (v : Vec Ideal S256x128 .f32) : k0_pay6 (View.ld v r0_2) = v ∧ k0_pay7 (View.ld v r0_2) = v ∧ k0_pay8 (View.ld v r0_2) = v := by
  have e : View.ld v r0_2 = v := View.ld_unit_zero origin ..
  have i (v : Vec Ideal S256x128 .f32) : k0_pay6 v = v ∧ k0_pay7 v = v ∧ k0_pay8 v = v := by
    refine ⟨?_, ?_, ?_⟩ <;> funext y
    · exact congrFun (shapeCast_id ..) y
    · exact congrFun (shapeCast_id ..) y
    · exact congrFun (shapeCast_id ..) y
  rw [e]
  exact i v

/-- The normed rows of the point's block times row `j` of the whole weights. -/
def column (x : Vec Ideal S256x2048 .f32) (w : Vec Ideal S1x2048 .f32) (v : Vec Ideal S4096x2048 .bf16) (r : Fin 256)
    (j : Fin 4096) : EReal := projected (fun k => x (ix2 r k)) (fun k => w (ix2 0 k)) (fun k => v (ix2 j k))

variable (v : Vec Ideal S4096x2048 .bf16)

include hc hl hh

theorem queries_at (r : Fin 256) (j : Fin 1024) : out0_6 x w v tc tl th (ix2 r j)
    = rotated 64 8 (fun i : Fin 1024 => column x w v r ⟨i.val, by omega⟩) (co r) (si r) j * Ideal.ofBits .f32 0x3E38AA3B#32 := by
  unfold out0_6 k0_pay40 k0_pay39 k0_pay38 k0_pay37
  simp only [(whole_table tc).1, (whole_table tl).2.1, (whole_table th).2.2, whole_rows, whole_weight]
  have e : View.ld tc r0_2 = tc ∧ View.ld tl r0_2 = tl ∧ View.ld th r0_2 = th :=
    ⟨View.ld_unit_zero origin .., View.ld_unit_zero origin .., View.ld_unit_zero origin ..⟩
  rw [e.1, e.2.1, e.2.2]
  refine (queries_canon x w (View.ld v r0_3) tc tl th co si hc hl hh r j).trans ?_
  have h : product x w (View.ld v r0_3) r = fun i : Fin 1024 => column x w v r ⟨i.val, by omega⟩ :=
    funext fun i => congrArg (projected _ _) (funext fun k => by pointwise [r0_3])
  rw [h]

theorem keys_at (r : Fin 256) (j : Fin 1024) : out0_7 x w v tc tl th (ix2 r j)
    = rotated 64 8 (fun i : Fin 1024 => column x w v r ⟨1024 + i.val, by omega⟩) (co r) (si r) j := by
  unfold out0_7 k0_pay41 k0_pay39 k0_pay38 k0_pay37 k0_pay36
  simp only [(whole_table tc).1, (whole_table tl).2.1, (whole_table th).2.2, whole_rows, whole_weight]
  refine (keys_canon x w (View.ld v r0_12) tc tl th co si hc hl hh r j).trans ?_
  have h : product x w (View.ld v r0_12) r = fun i : Fin 1024 => column x w v r ⟨1024 + i.val, by omega⟩ :=
    funext fun i => congrArg (projected _ _) (funext fun k => by pointwise [r0_12])
  rw [h]

omit hc hl hh

theorem values_at (r : Fin 256) (j : Fin 1024) : out0_8 x w v tc tl th (ix2 r j) = column x w v r ⟨2048 + j.val, by omega⟩ := by
  unfold out0_8 k0_pay36
  rw [View.canon_unit_zero origin, whole_rows, whole_weight, values_product]
  simp only [normed_at]
  exact congrArg (projected _ _) (funext fun k => by pointwise [r0_13])

theorem turned_at (r : Fin 256) (j : Fin 1024) : out0_10 x w v tc tl th (ix2 j r) = column x w v r ⟨2048 + j.val, by omega⟩ := by
  unfold out0_10 k0_pay36
  rw [View.canon_unit_zero origin, whole_rows, whole_weight, turned_product]
  simp only [normed_at]
  exact congrArg (projected _ _) (funext fun k => by pointwise [r0_13])

theorem gate_at (r : Fin 256) (j : Fin 1024) : out0_9 x w v tc tl th (ix2 r j) = silu (column x w v r ⟨3072 + j.val, by omega⟩) := by
  unfold out0_9 k0_pay36
  rw [View.canon_unit_zero origin, whole_rows, whole_weight, gate_product]
  simp only [normed_at]
  exact congrArg silu (congrArg (projected _ _) (funext fun k => by pointwise [r0_16]))

end Cert.Proof.InBlock

end
-- ==== Proof.InTables.lean ====
/-
  The tables that the host hands to the input projection: the cosines and the two signed halves of the sines of every position,
  laid out over 128 lanes.
-/
module

public import proofs.«01_k».proof.Proof.Gen.Kernel2Ideal.Value
public import proofs.«01_k».proof.Proof.InRow
public import Idealize.ShloMosaic.Lib.Pointwise

@[expose] public section

set_option maxRecDepth 65536

noncomputable section

open Idealize.ShloMosaic Idealize.ShloMosaic.TcCoe Idealize.SL.Sem

namespace Cert.Proof.InTables

open Cert.Kernel2Ideal Cert.Kernel2Ideal.Gen Cert.Proof.InRow

/-- The angles: each position times each of the eight frequencies. -/
def angles : FVec Ideal S4096x8 .f32 :=
  mulf (broadcastInDim S4096x8 ![0, 1] bcast_S4096x1_S4096x8_0_1
      (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0))))))

/-- Zero for each pair. -/
def zeros : FVec Ideal S4096x8 .f32 := broadcastInDim S4096x8 ![] bcast_S_S4096x8 (constant S_ .f32 0x00000000#32)

/-- One value for the entries of a head that are not rotated. -/
def rest (b : BitVec 32) : FVec Ideal S4096x48 .f32 := broadcastInDim S4096x48 ![] bcast_S_S4096x48 (constant S_ .f32 b)

/-- A table of one head, twice side by side. -/
def table (u v : FVec Ideal S4096x8 .f32) (w : FVec Ideal S4096x48 .f32) : FVec Ideal S4096x128 .f32 :=
  shapeCast _ (broadcastInDim S1x4096x2x64 ![0, 1, 2, 3] bcast_S1x4096x1x64_S1x4096x2x64_0_1_2_3
    (shapeCast _ (concatenate S4096x64 1 [⟨S4096x8, u⟩, ⟨S4096x8, v⟩, ⟨S4096x48, w⟩] concatenates_S4096x8_S4096x8_S4096x48_S4096x64_d1)
      shapeCasts_S4096x64_S1x4096x1x64)) shapeCasts_S1x4096x2x64_S4096x128

/-- The table of the cosines, entry by entry. -/
theorem cosines_at (t : Fin 4096) (l : Fin 128) : table (Host.cos angles) (Host.cos angles) (rest 0x3F800000#32) (ix2 t l)
    = lane 64 8 (fun i => Ideal.cos (angle 0xBE000000#32 t.val i)) (fun i => Ideal.cos (angle 0xBE000000#32 t.val i)) 1 l.val := by
  pointwise [table, rest, angles]
  rfl

/-- The table of the sines that the first half of the rotated entries takes, entry by entry. -/
theorem lows_at (t : Fin 4096) (l : Fin 128) : table (Host.negf (Host.sin angles)) zeros (rest 0x00000000#32) (ix2 t l)
    = lane 64 8 (fun i => -Ideal.sin (angle 0xBE000000#32 t.val i)) (fun _ => 0) 0 l.val := by
  pointwise [table, rest, zeros, angles]
  rfl

/-- The table of the sines that the second half takes, entry by entry. -/
theorem highs_at (t : Fin 4096) (l : Fin 128) : table zeros (Host.sin angles) (rest 0x00000000#32) (ix2 t l)
    = lane 64 8 (fun _ => 0) (fun i => Ideal.sin (angle 0xBE000000#32 t.val i)) 0 l.val := by
  pointwise [table, rest, zeros, angles]
  rfl

variable (m : (ℓ : Loc nD τ sig) → Buf (Elt Ideal) ℓ) (c : Dev nD)

theorem cosines_arr (t : Fin 4096) (l : Fin 128) : (V m c main_v30 : Vec Ideal S4096x128 .f32) (ix2 t l)
    = lane 64 8 (fun i => Ideal.cos (angle 0xBE000000#32 t.val i)) (fun i => Ideal.cos (angle 0xBE000000#32 t.val i)) 1 l.val := by
  have e : (V m c main_v30 : Vec Ideal S4096x128 .f32) = table (Host.cos angles) (Host.cos angles) (rest 0x3F800000#32) := rfl
  rw [e, cosines_at]

theorem lows_arr (t : Fin 4096) (l : Fin 128) : (V m c main_v33 : Vec Ideal S4096x128 .f32) (ix2 t l)
    = lane 64 8 (fun i => -Ideal.sin (angle 0xBE000000#32 t.val i)) (fun _ => 0) 0 l.val := by
  have e : (V m c main_v33 : Vec Ideal S4096x128 .f32) = table (Host.negf (Host.sin angles)) zeros (rest 0x00000000#32) := rfl
  rw [e, lows_at]

theorem highs_arr (t : Fin 4096) (l : Fin 128) : (V m c main_v36 : Vec Ideal S4096x128 .f32) (ix2 t l)
    = lane 64 8 (fun _ => 0) (fun i => Ideal.sin (angle 0xBE000000#32 t.val i)) 0 l.val := by
  have e : (V m c main_v36 : Vec Ideal S4096x128 .f32) = table zeros (Host.sin angles) (rest 0x00000000#32) := rfl
  rw [e, highs_at]

end Cert.Proof.InTables

end
-- ==== Proof.InValue.lean ====
/-
  The input projection as a whole: the grid's 32 blocks of 256 rows tile each result, so each entry of a result is the row
  function of `InRow` at the same row of the arguments.
-/
module

public import proofs.«01_k».proof.Proof.InBlock
public import proofs.«01_k».proof.Proof.InTables
public import proofs.«01_k».proof.Proof.OutValue

@[expose] public section

set_option maxRecDepth 16384

noncomputable section

open Idealize.ShloMosaic Idealize.ShloMosaic.TcCoe Idealize.SL.Sem
open Idealize.ShloMosaic.Pipeline (Dat)

namespace Cert.Proof.InValue

open Cert.Kernel2Ideal Cert.Kernel2Ideal.Gen Cert.Proof.InRow
open Cert.Proof.OutValue (eq_ix2)

variable (m : (ℓ : Loc nD τ sig) → Buf (Elt Ideal) ℓ) (c : Dev nD)

/-- Row `256·t + r` of the 8192: row `r` of point `t`'s blocks. -/
def row (t : Fin cfg0.N) (r : Fin 256) : Fin 8192 :=
  ⟨256 * t.val + r.val, by have := t.isLt; have : cfg0.N = 32 := N_0; omega⟩

/-- The position of a row in its sequence. -/
def position (r : Fin 8192) : Fin 4096 := ⟨r.val % 4096, by omega⟩

/-- Point `t` reads and writes block `t` of the rows, and reads block `t mod 16` of the tables. -/
theorem index_rows : ∀ t : Fin cfg0.N, (win0_0.index t 0 = t.val ∧ win0_0.index t 1 = 0)
    ∧ (win0_3.index t 0 = t.val % 16 ∧ win0_3.index t 1 = 0) ∧ (win0_4.index t 0 = t.val % 16 ∧ win0_4.index t 1 = 0)
    ∧ (win0_5.index t 0 = t.val % 16 ∧ win0_5.index t 1 = 0) := by decide +kernel

theorem index_results : ∀ t : Fin cfg0.N, (win0_6.index t 0 = t.val ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) ∧ (win0_10.index t 0 = 0 ∧ win0_10.index t 1 = t.val) := by decide +kernel

/-- Every point reads the whole of each weight. -/
theorem index_whole : ∀ t : Fin cfg0.N,
    (win0_1.index t 0 = 0 ∧ win0_1.index t 1 = 0) ∧ (win0_2.index t 0 = 0 ∧ win0_2.index t 1 = 0) := by decide +kernel

/-! ## The arrays the windows read, in terms of the arguments -/

theorem x_arr (r : Fin 8192) (k : Fin 2048) : (V m c main_v6 : Vec Ideal S8192x2048 .f32) (ix2 r k)
    = m ((c.tc : Thread nD τ).loc main_arg0) (ix3 ⟨r.val / 4096, by omega⟩ ⟨r.val % 4096, by omega⟩ k) := by
  entry_read
  pointwise

theorem w_arr (k : Fin 2048) : (V m c main_v5 : Vec Ideal S1x2048 .f32) (ix2 0 k)
    = m ((c.tc : Thread nD τ).loc main_arg1) (ix2 0 k) := by
  entry_read
  pointwise

theorem v_arr (j : Fin 4096) (k : Fin 2048) : (V m c main_v3 : Vec Ideal S4096x2048 .bf16) (ix2 j k)
    = m ((c.tc : Thread nD τ).loc main_arg2) (ix3 0 k ⟨j.val, by omega⟩) := by
  entry_read
  pointwise

/-! ## The blocks of a point -/

theorem x_at (t : Fin cfg0.N) (r : Fin 256) (k : Fin 2048) : (iblk m c 0 t : Vec Ideal S256x2048 .f32) (ix2 r k)
    = m ((c.tc : Thread nD τ).loc main_arg0) (ix3 ⟨(row t r).val / 4096, by omega⟩ ⟨(row t r).val % 4096, by omega⟩ k) := by
  have hi := (index_rows t).1
  refine (congrArg (V m c main_v6) (eq_ix2 _ (row t r) k ?_ ?_)).trans (x_arr m c _ k)
  · show win0_0.index t 0 * 256 + 1 * r.val = 256 * t.val + r.val
    rw [hi.1]; omega
  · show win0_0.index t 1 * 2048 + 1 * k.val = k.val
    rw [hi.2]; omega

theorem w_at (t : Fin cfg0.N) (k : Fin 2048) : (iblk m c 1 t : Vec Ideal S1x2048 .f32) (ix2 0 k)
    = m ((c.tc : Thread nD τ).loc main_arg1) (ix2 0 k) := by
  have hi := (index_whole t).1
  refine (congrArg (V m c main_v5) (eq_ix2 _ 0 k ?_ ?_)).trans (w_arr m c k)
  · show win0_1.index t 0 * 1 + 1 * 0 = 0
    rw [hi.1]
  · show win0_1.index t 1 * 2048 + 1 * k.val = k.val
    rw [hi.2]; omega

theorem v_at (t : Fin cfg0.N) (j : Fin 4096) (k : Fin 2048) : (iblk m c 2 t : Vec Ideal S4096x2048 .bf16) (ix2 j k)
    = m ((c.tc : Thread nD τ).loc main_arg2) (ix3 0 k ⟨j.val, by omega⟩) := by
  have hi := (index_whole t).2
  refine (congrArg (V m c main_v3) (eq_ix2 _ j k ?_ ?_)).trans (v_arr m c j k)
  · show win0_2.index t 0 * 4096 + 1 * j.val = j.val
    rw [hi.1]; omega
  · show win0_2.index t 1 * 2048 + 1 * k.val = k.val
    rw [hi.2]; omega

/-- The cosines and sines of row `r`'s position. -/
def cosine (r : Fin 8192) (i : ℕ) : EReal := Ideal.cos (angle 0xBE000000#32 (r.val % 4096) i)

def sine (r : Fin 8192) (i : ℕ) : EReal := Ideal.sin (angle 0xBE000000#32 (r.val % 4096) i)

/-- Row `r` of point `t`'s tables is that of its position. -/
theorem position_row (t : Fin cfg0.N) (r : Fin 256) (q : ℕ) (hq : q = t.val % 16) :
    q * 256 + 1 * r.val = (position (row t r)).val := by
  show q * 256 + 1 * r.val = (256 * t.val + r.val) % 4096
  omega

theorem cosines_at (t : Fin cfg0.N) (r : Fin 256) (l : Fin 128) : (iblk m c 3 t : Vec Ideal S256x128 .f32) (ix2 r l)
    = lane 64 8 (cosine (row t r)) (cosine (row t r)) 1 l.val := by
  have hi := (index_rows t).2.1
  refine (congrArg (V m c main_v30) (eq_ix2 _ (position (row t r)) l (position_row t r _ hi.1) ?_)).trans
    (InTables.cosines_arr m c _ l)
  show win0_3.index t 1 * 128 + 1 * l.val = l.val
  rw [hi.2]; omega

theorem lows_at (t : Fin cfg0.N) (r : Fin 256) (l : Fin 128) : (iblk m c 4 t : Vec Ideal S256x128 .f32) (ix2 r l)
    = lane 64 8 (fun i => -sine (row t r) i) (fun _ => 0) 0 l.val := by
  have hi := (index_rows t).2.2.1
  refine (congrArg (V m c main_v33) (eq_ix2 _ (position (row t r)) l (position_row t r _ hi.1) ?_)).trans
    (InTables.lows_arr m c _ l)
  show win0_4.index t 1 * 128 + 1 * l.val = l.val
  rw [hi.2]; omega

theorem highs_at (t : Fin cfg0.N) (r : Fin 256) (l : Fin 128) : (iblk m c 5 t : Vec Ideal S256x128 .f32) (ix2 r l)
    = lane 64 8 (fun _ => 0) (sine (row t r)) 0 l.val := by
  have hi := (index_rows t).2.2.2
  refine (congrArg (V m c main_v36) (eq_ix2 _ (position (row t r)) l (position_row t r _ hi.1) ?_)).trans
    (InTables.highs_arr m c _ l)
  show win0_5.index t 1 * 128 + 1 * l.val = l.val
  rw [hi.2]; omega

/-- Row `r` of the arguments, normed, times column `j` of the weights. -/
def column (r : Fin 8192) (j : Fin 4096) : EReal :=
  projected (fun k => m ((c.tc : Thread nD τ).loc main_arg0) (ix3 ⟨r.val / 4096, by omega⟩ ⟨r.val % 4096, by omega⟩ k))
    (fun k => m ((c.tc : Thread nD τ).loc main_arg1) (ix2 0 k))
    (fun k => m ((c.tc : Thread nD τ).loc main_arg2) (ix3 0 k ⟨j.val, by omega⟩))

theorem column_at (t : Fin cfg0.N) (r : Fin 256) :
    InBlock.column (iblk m c 0 t) (iblk m c 1 t) (iblk m c 2 t) r = column m c (row t r) := by
  funext j
  unfold InBlock.column column
  simp only [x_at, w_at, v_at]

/-! ## The results -/

/-- The queries: the first 1024 columns, rotated and scaled. -/
def query (r : Fin 8192) (j : Fin 1024) : EReal :=
  rotated 64 8 (fun i : Fin 1024 => column m c r ⟨i.val, by omega⟩) (cosine r) (sine r) j * Ideal.ofBits .f32 0x3E38AA3B#32

/-- The keys: the next 1024, rotated. -/
def key (r : Fin 8192) (j : Fin 1024) : EReal :=
  rotated 64 8 (fun i : Fin 1024 => column m c r ⟨1024 + i.val, by omega⟩) (cosine r) (sine r) j

/-- The values: the next 1024. -/
def value (r : Fin 8192) (j : Fin 1024) : EReal := column m c r ⟨2048 + j.val, by omega⟩

/-- The gate: the last 1024. -/
def gate (r : Fin 8192) (j : Fin 1024) : EReal := silu (column m c r ⟨3072 + j.val, by omega⟩)

def queries : Buf (Elt Ideal) ((c.tc : Thread nD τ).loc main_v37_0) := (fun i => query m c (i 0) (i 1) : Vec Ideal S8192x1024 .bf16)
def keys : Buf (Elt Ideal) ((c.tc : Thread nD τ).loc main_v37_1) := (fun i => key m c (i 0) (i 1) : Vec Ideal S8192x1024 .f32)
def values : Buf (Elt Ideal) ((c.tc : Thread nD τ).loc main_v37_2) := (fun i => value m c (i 0) (i 1) : Vec Ideal S8192x1024 .f32)
def gates : Buf (Elt Ideal) ((c.tc : Thread nD τ).loc main_v37_3) := (fun i => gate m c (i 0) (i 1) : Vec Ideal S8192x1024 .f32)
def turned : Buf (Elt Ideal) ((c.tc : Thread nD τ).loc main_v37_4) := (fun i => value m c (i 1) (i 0) : Vec Ideal S1024x8192 .bf16)

/-- Row `r` of row block `a` is row `r` of point `t`'s, where `a` is `t`. -/
theorem row_place (t : Fin cfg0.N) (r : Fin 256) (a : ℕ) (ha : a = t.val) : a * 256 + 1 * r.val = (row t r).val := by
  show a * 256 + 1 * r.val = 256 * t.val + r.val
  omega

/-- A column of the one block of columns. -/
theorem whole_place {n : ℕ} (j : Fin n) (b : ℕ) (hb : b = 0) : b * n + 1 * j.val = j.val := by
  rw [hb]; omega

/-- A row is among the 256 of its block. -/
theorem row_bounds (x t a : ℕ) (h : x / 256 = t) (ha : a = t) : a * 256 ≤ x ∧ x < a * 256 + 256 := by omega

/-- A column is among those of the one block of columns. -/
theorem whole_bounds (n x b : ℕ) (h : x < n) (hb : b = 0) : b * n ≤ x ∧ x < b * n + n := by
  rw [hb]; omega

/-- The point whose blocks hold row `r`. -/
def point (r : Fin 8192) : Fin cfg0.N := ⟨r.val / 256, by have : cfg0.N = 32 := N_0; omega⟩

/-- The first result ends holding the queries. -/
theorem queries_final : (dats m 0 c).arrAt 6 cfg0.N = queries m c := by
  refine (dats m 0 c).arrAt_eq_of_cover 6 (queries m c) (fun t _ => ?_) fun i => ⟨point ((i : S8192x1024.Idx) 0), flush0_6 _, ?_⟩
  · have hi := (index_results t).1
    rw [Value.flushed6]
    funext y
    obtain ⟨r, j, rfl⟩ : ∃ (r : Fin 256) (j : Fin 1024), y = ix2 r j := ⟨y 0, y 1, eq_ix2 _ _ _ rfl rfl⟩
    have hemb : ((cfg0.win 6).blk t).view.emb (ix2 r j) = (ix2 (row t r) j : S8192x1024.Idx) :=
      eq_ix2 _ _ _ (row_place t r _ hi.1) (whole_place j _ hi.2)
    refine (InBlock.queries_at _ _ _ _ _ (fun r => cosine (row t r)) (fun r => sine (row t r)) (cosines_at m c t) (lows_at m c t) (highs_at m c t) _ r j).trans (Eq.trans ?_ (congrArg (queries m c) hemb).symm)
    rw [column_at]
    rfl
  · have hi := (index_results (point ((i : S8192x1024.Idx) 0))).1
    show (i : S8192x1024.Idx) ∈ ((View.whole main_v37_0).slice (win0_6.rect (point ((i : S8192x1024.Idx) 0)))).set
    rw [View.set_slice_whole, Rect.mem_set_unit]
    intro a
    match a with
    | ⟨0, _⟩ => exact row_bounds _ _ _ rfl hi.1
    | ⟨1, _⟩ => exact whole_bounds 1024 _ _ ((i : S8192x1024.Idx) 1).isLt hi.2

/-- The second ends holding the keys. -/
theorem keys_final : (dats m 0 c).arrAt 7 cfg0.N = keys m c := by
  refine (dats m 0 c).arrAt_eq_of_cover 7 (keys m c) (fun t _ => ?_) fun i => ⟨point ((i : S8192x1024.Idx) 0), flush0_7 _, ?_⟩
  · have hi := (index_results t).2.1
    rw [Value.flushed7]
    funext y
    obtain ⟨r, j, rfl⟩ : ∃ (r : Fin 256) (j : Fin 1024), y = ix2 r j := ⟨y 0, y 1, eq_ix2 _ _ _ rfl rfl⟩
    have hemb : ((cfg0.win 7).blk t).view.emb (ix2 r j) = (ix2 (row t r) j : S8192x1024.Idx) :=
      eq_ix2 _ _ _ (row_place t r _ hi.1) (whole_place j _ hi.2)
    refine (InBlock.keys_at _ _ _ _ _ (fun r => cosine (row t r)) (fun r => sine (row t r)) (cosines_at m c t) (lows_at m c t) (highs_at m c t) _ r j).trans (Eq.trans ?_ (congrArg (keys m c) hemb).symm)
    rw [column_at]
    rfl
  · have hi := (index_results (point ((i : S8192x1024.Idx) 0))).2.1
    show (i : S8192x1024.Idx) ∈ ((View.whole main_v37_1).slice (win0_7.rect (point ((i : S8192x1024.Idx) 0)))).set
    rw [View.set_slice_whole, Rect.mem_set_unit]
    intro a
    match a with
    | ⟨0, _⟩ => exact row_bounds _ _ _ rfl hi.1
    | ⟨1, _⟩ => exact whole_bounds 1024 _ _ ((i : S8192x1024.Idx) 1).isLt hi.2

/-- The third ends holding the values. -/
theorem values_final : (dats m 0 c).arrAt 8 cfg0.N = values m c := by
  refine (dats m 0 c).arrAt_eq_of_cover 8 (values m c) (fun t _ => ?_) fun i => ⟨point ((i : S8192x1024.Idx) 0), flush0_8 _, ?_⟩
  · have hi := (index_results t).2.2.1
    rw [Value.flushed8]
    funext y
    obtain ⟨r, j, rfl⟩ : ∃ (r : Fin 256) (j : Fin 1024), y = ix2 r j := ⟨y 0, y 1, eq_ix2 _ _ _ rfl rfl⟩
    have hemb : ((cfg0.win 8).blk t).view.emb (ix2 r j) = (ix2 (row t r) j : S8192x1024.Idx) :=
      eq_ix2 _ _ _ (row_place t r _ hi.1) (whole_place j _ hi.2)
    refine (InBlock.values_at _ _ _ _ _ _ r j).trans (Eq.trans ?_ (congrArg (values m c) hemb).symm)
    rw [column_at]
    rfl
  · have hi := (index_results (point ((i : S8192x1024.Idx) 0))).2.2.1
    show (i : S8192x1024.Idx) ∈ ((View.whole main_v37_2).slice (win0_8.rect (point ((i : S8192x1024.Idx) 0)))).set
    rw [View.set_slice_whole, Rect.mem_set_unit]
    intro a
    match a with
    | ⟨0, _⟩ => exact row_bounds _ _ _ rfl hi.1
    | ⟨1, _⟩ => exact whole_bounds 1024 _ _ ((i : S8192x1024.Idx) 1).isLt hi.2

/-- The fourth ends holding the gate. -/
theorem gates_final : (dats m 0 c).arrAt 9 cfg0.N = gates m c := by
  refine (dats m 0 c).arrAt_eq_of_cover 9 (gates m c) (fun t _ => ?_) fun i => ⟨point ((i : S8192x1024.Idx) 0), flush0_9 _, ?_⟩
  · have hi := (index_results t).2.2.2.1
    rw [Value.flushed9]
    funext y
    obtain ⟨r, j, rfl⟩ : ∃ (r : Fin 256) (j : Fin 1024), y = ix2 r j := ⟨y 0, y 1, eq_ix2 _ _ _ rfl rfl⟩
    have hemb : ((cfg0.win 9).blk t).view.emb (ix2 r j) = (ix2 (row t r) j : S8192x1024.Idx) :=
      eq_ix2 _ _ _ (row_place t r _ hi.1) (whole_place j _ hi.2)
    refine (InBlock.gate_at _ _ _ _ _ _ r j).trans (Eq.trans ?_ (congrArg (gates m c) hemb).symm)
    rw [column_at]
    rfl
  · have hi := (index_results (point ((i : S8192x1024.Idx) 0))).2.2.2.1
    show (i : S8192x1024.Idx) ∈ ((View.whole main_v37_3).slice (win0_9.rect (point ((i : S8192x1024.Idx) 0)))).set
    rw [View.set_slice_whole, Rect.mem_set_unit]
    intro a
    match a with
    | ⟨0, _⟩ => exact row_bounds _ _ _ rfl hi.1
    | ⟨1, _⟩ => exact whole_bounds 1024 _ _ ((i : S8192x1024.Idx) 1).isLt hi.2

/-- The fifth ends holding the values, turned. -/
theorem turned_final : (dats m 0 c).arrAt 10 cfg0.N = turned m c := by
  refine (dats m 0 c).arrAt_eq_of_cover 10 (turned m c) (fun t _ => ?_) fun i => ⟨point ((i : S1024x8192.Idx) 1), flush0_10 _, ?_⟩
  · have hi := (index_results t).2.2.2.2
    rw [Value.flushed10]
    funext y
    obtain ⟨j, r, rfl⟩ : ∃ (j : Fin 1024) (r : Fin 256), y = ix2 j r := ⟨y 0, y 1, eq_ix2 _ _ _ rfl rfl⟩
    have hemb : ((cfg0.win 10).blk t).view.emb (ix2 j r) = (ix2 j (row t r) : S1024x8192.Idx) :=
      eq_ix2 _ _ _ (whole_place j _ hi.1) (row_place t r _ hi.2)
    refine (InBlock.turned_at _ _ _ _ _ _ r j).trans (Eq.trans ?_ (congrArg (turned m c) hemb).symm)
    rw [column_at]
    rfl
  · have hi := (index_results (point ((i : S1024x8192.Idx) 1))).2.2.2.2
    show (i : S1024x8192.Idx) ∈ ((View.whole main_v37_4).slice (win0_10.rect (point ((i : S1024x8192.Idx) 1)))).set
    rw [View.set_slice_whole, Rect.mem_set_unit]
    intro a
    match a with
    | ⟨0, _⟩ => exact whole_bounds 1024 _ _ ((i : S1024x8192.Idx) 0).isLt hi.1
    | ⟨1, _⟩ => exact row_bounds _ _ _ rfl hi.2

end Cert.Proof.InValue

end
-- ==== Proof.SelRef.lean ====
/-
  What the reference of the sparse heads' input projection computes: each entry of its results is the row function of `InRow` at that token's row
  of the arguments.
-/
module

public import proofs.«01_k».proof.Proof.Gen.Reference3Ideal.Run
public import proofs.«01_k».proof.Proof.InRow
public import Idealize.ShloMosaic.Lib.Pointwise

@[expose] public section

set_option maxRecDepth 65536

noncomputable section

open Idealize.ShloMosaic Idealize.ShloMosaic.TcCoe Idealize.SL.Sem

namespace Cert.Proof.SelRef

open Cert.Reference3Ideal Cert.Reference3Ideal.Gen Cert.Proof.InRow

/-- The angles: each position times each of the eight frequencies. -/
def angles : FVec Ideal S4096x8 .f32 :=
  mulf (broadcastInDim S4096x8 ![0, 1] bcast_S4096x1_S4096x8_0_1
      (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0))))))

/-- The angles: each position times each of the sixteen frequencies. -/
def wideAngles : FVec Ideal S4096x16 .f32 :=
  mulf (broadcastInDim S4096x16 ![0, 1] bcast_S4096x1_S4096x16_0_1
      (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (mulf (broadcastInDim S16 ![] bcast_S_S16 (constant S_ .f32 0xBD800000#32)) (sitofp .f32 (iotaInDim S16 32 0))))))

theorem angles_at (t : Fin 4096) (i : Fin 8) : angles (ix2 t i) = angle 0xBE000000#32 t.val i.val := by
  pointwise [angles]
  rfl

theorem wideAngles_at (t : Fin 4096) (i : Fin 16) : wideAngles (ix2 t i) = angle 0xBD800000#32 t.val i.val := by
  pointwise [wideAngles]
  rfl

/-- The rotation of the eight query heads by the angles `a`. -/
def turnedQueries (a : FVec Ideal S4096x1x16 .f32) (x : FVec Ideal S2x4096x8x128 .f32) : FVec Ideal S2x4096x8x128 .f32 :=
  let co : FVec Ideal S2x4096x8x16 .f32 := broadcastInDim S2x4096x8x16 ![0, 1, 2, 3] bcast_S1x4096x1x16_S2x4096x8x16_0_1_2_3
    (broadcastInDim S1x4096x1x16 ![1, 2, 3] bcast_S4096x1x16_S1x4096x1x16_1_2_3 (Host.cos a))
  let si : FVec Ideal S2x4096x8x16 .f32 := broadcastInDim S2x4096x8x16 ![0, 1, 2, 3] bcast_S1x4096x1x16_S2x4096x8x16_0_1_2_3
    (broadcastInDim S1x4096x1x16 ![1, 2, 3] bcast_S4096x1x16_S1x4096x1x16_1_2_3 (Host.sin a))
  let u : FVec Ideal S2x4096x8x16 .f32 := extractStridedSlice S2x4096x8x16 ![0, 0, 0, 0] x slices_S2x4096x8x128_S2x4096x8x16_0_0_0_0
  let v : FVec Ideal S2x4096x8x16 .f32 := extractStridedSlice S2x4096x8x16 ![0, 0, 0, 16] x slices_S2x4096x8x128_S2x4096x8x16_0_0_0_16
  concatenate S2x4096x8x128 3 [⟨S2x4096x8x16, subf (mulf u co) (mulf v si)⟩, ⟨S2x4096x8x16, addf (mulf v co) (mulf u si)⟩,
     ⟨S2x4096x8x96, extractStridedSlice S2x4096x8x96 ![0, 0, 0, 32] x slices_S2x4096x8x128_S2x4096x8x96_0_0_0_32⟩]
    concatenates_S2x4096x8x16_S2x4096x8x16_S2x4096x8x96_S2x4096x8x128_d3

theorem turnedQueries_at (a : FVec Ideal S4096x16 .f32) (x : FVec Ideal S2x4096x1024 .f32) (r : Fin 8192) (J : Fin 1024) (α : ℕ → EReal)
    (ha : ∀ i : Fin 16, a (ix2 ⟨r.val % 4096, by omega⟩ i) = α i.val) :
    shapeCast S8192x1024 (turnedQueries (shapeCast _ a shapeCasts_S4096x16_S4096x1x16)
      (shapeCast _ x shapeCasts_S2x4096x1024_S2x4096x8x128)) shapeCasts_S2x4096x8x128_S8192x1024 (ix2 r J)
      = rotated 128 16 (fun j => x (ix3 ⟨r.val / 4096, by omega⟩ ⟨r.val % 4096, by omega⟩ j))
          (fun i => Ideal.cos (α i)) (fun i => Ideal.sin (α i)) J := by
  have hJ := J.isLt
  pointwise [turnedQueries]
  simp only [ha]
  refine rotated_cases (d := 128) (p := 16) (fun j => x (ix3 ⟨r.val / 4096, by omega⟩ ⟨r.val % 4096, by omega⟩ j))
    (fun i => Ideal.cos (α i)) (fun i => Ideal.sin (α i)) J _ _ _ _ _ ?_ ?_ ?_ ?_ ?_ <;> intros <;> dsimp only <;> omega

/-- The rotation of the two key heads. -/
def turnedKeys (a : FVec Ideal S4096x1x16 .f32) (x : FVec Ideal S2x4096x2x128 .f32) : FVec Ideal S2x4096x2x128 .f32 :=
  let co : FVec Ideal S2x4096x2x16 .f32 := broadcastInDim S2x4096x2x16 ![0, 1, 2, 3] bcast_S1x4096x1x16_S2x4096x2x16_0_1_2_3
    (broadcastInDim S1x4096x1x16 ![1, 2, 3] bcast_S4096x1x16_S1x4096x1x16_1_2_3 (Host.cos a))
  let si : FVec Ideal S2x4096x2x16 .f32 := broadcastInDim S2x4096x2x16 ![0, 1, 2, 3] bcast_S1x4096x1x16_S2x4096x2x16_0_1_2_3
    (broadcastInDim S1x4096x1x16 ![1, 2, 3] bcast_S4096x1x16_S1x4096x1x16_1_2_3 (Host.sin a))
  let u : FVec Ideal S2x4096x2x16 .f32 := extractStridedSlice S2x4096x2x16 ![0, 0, 0, 0] x slices_S2x4096x2x128_S2x4096x2x16_0_0_0_0
  let v : FVec Ideal S2x4096x2x16 .f32 := extractStridedSlice S2x4096x2x16 ![0, 0, 0, 16] x slices_S2x4096x2x128_S2x4096x2x16_0_0_0_16
  concatenate S2x4096x2x128 3 [⟨S2x4096x2x16, subf (mulf u co) (mulf v si)⟩, ⟨S2x4096x2x16, addf (mulf v co) (mulf u si)⟩,
     ⟨S2x4096x2x96, extractStridedSlice S2x4096x2x96 ![0, 0, 0, 32] x slices_S2x4096x2x128_S2x4096x2x96_0_0_0_32⟩]
    concatenates_S2x4096x2x16_S2x4096x2x16_S2x4096x2x96_S2x4096x2x128_d3

theorem turnedKeys_at (a : FVec Ideal S4096x16 .f32) (x : FVec Ideal S2x4096x256 .f32) (r : Fin 8192) (J : Fin 256) (α : ℕ → EReal)
    (ha : ∀ i : Fin 16, a (ix2 ⟨r.val % 4096, by omega⟩ i) = α i.val) :
    shapeCast S8192x256 (turnedKeys (shapeCast _ a shapeCasts_S4096x16_S4096x1x16)
      (shapeCast _ x shapeCasts_S2x4096x256_S2x4096x2x128)) shapeCasts_S2x4096x2x128_S8192x256 (ix2 r J)
      = rotated 128 16 (fun j => x (ix3 ⟨r.val / 4096, by omega⟩ ⟨r.val % 4096, by omega⟩ j))
          (fun i => Ideal.cos (α i)) (fun i => Ideal.sin (α i)) J := by
  have hJ := J.isLt
  pointwise [turnedKeys]
  simp only [ha]
  refine rotated_cases (d := 128) (p := 16) (fun j => x (ix3 ⟨r.val / 4096, by omega⟩ ⟨r.val % 4096, by omega⟩ j))
    (fun i => Ideal.cos (α i)) (fun i => Ideal.sin (α i)) J _ _ _ _ _ ?_ ?_ ?_ ?_ ?_ <;> intros <;> dsimp only <;> omega

/-- The rotation of the four heads of the index queries. -/
def turnedIndex (a : FVec Ideal S4096x1x8 .f32) (x : FVec Ideal S2x4096x4x64 .f32) : FVec Ideal S2x4096x4x64 .f32 :=
  let co : FVec Ideal S2x4096x4x8 .f32 := broadcastInDim S2x4096x4x8 ![0, 1, 2, 3] bcast_S1x4096x1x8_S2x4096x4x8_0_1_2_3
    (broadcastInDim S1x4096x1x8 ![1, 2, 3] bcast_S4096x1x8_S1x4096x1x8_1_2_3 (Host.cos a))
  let si : FVec Ideal S2x4096x4x8 .f32 := broadcastInDim S2x4096x4x8 ![0, 1, 2, 3] bcast_S1x4096x1x8_S2x4096x4x8_0_1_2_3
    (broadcastInDim S1x4096x1x8 ![1, 2, 3] bcast_S4096x1x8_S1x4096x1x8_1_2_3 (Host.sin a))
  let u : FVec Ideal S2x4096x4x8 .f32 := extractStridedSlice S2x4096x4x8 ![0, 0, 0, 0] x slices_S2x4096x4x64_S2x4096x4x8_0_0_0_0
  let v : FVec Ideal S2x4096x4x8 .f32 := extractStridedSlice S2x4096x4x8 ![0, 0, 0, 8] x slices_S2x4096x4x64_S2x4096x4x8_0_0_0_8
  concatenate S2x4096x4x64 3 [⟨S2x4096x4x8, subf (mulf u co) (mulf v si)⟩, ⟨S2x4096x4x8, addf (mulf v co) (mulf u si)⟩,
     ⟨S2x4096x4x48, extractStridedSlice S2x4096x4x48 ![0, 0, 0, 16] x slices_S2x4096x4x64_S2x4096x4x48_0_0_0_16⟩]
    concatenates_S2x4096x4x8_S2x4096x4x8_S2x4096x4x48_S2x4096x4x64_d3

theorem turnedIndex_at (a : FVec Ideal S4096x8 .f32) (x : FVec Ideal S2x4096x256 .f32) (r : Fin 8192) (J : Fin 256) (α : ℕ → EReal)
    (ha : ∀ i : Fin 8, a (ix2 ⟨r.val % 4096, by omega⟩ i) = α i.val) :
    shapeCast S8192x256 (turnedIndex (shapeCast _ a shapeCasts_S4096x8_S4096x1x8)
      (shapeCast _ x shapeCasts_S2x4096x256_S2x4096x4x64)) shapeCasts_S2x4096x4x64_S8192x256 (ix2 r J)
      = rotated 64 8 (fun j => x (ix3 ⟨r.val / 4096, by omega⟩ ⟨r.val % 4096, by omega⟩ j))
          (fun i => Ideal.cos (α i)) (fun i => Ideal.sin (α i)) J := by
  have hJ := J.isLt
  pointwise [turnedIndex]
  simp only [ha]
  refine rotated_cases (d := 64) (p := 8) (fun j => x (ix3 ⟨r.val / 4096, by omega⟩ ⟨r.val % 4096, by omega⟩ j))
    (fun i => Ideal.cos (α i)) (fun i => Ideal.sin (α i)) J _ _ _ _ _ ?_ ?_ ?_ ?_ ?_ <;> intros <;> dsimp only <;> omega

/-- The rotation of the one head of index keys. -/
def turnedLast (a : FVec Ideal S4096x8 .f32) (x : FVec Ideal S2x4096x64 .f32) : FVec Ideal S2x4096x64 .f32 :=
  let co : FVec Ideal S2x4096x8 .f32 := broadcastInDim S2x4096x8 ![0, 1, 2] bcast_S1x4096x8_S2x4096x8_0_1_2
    (broadcastInDim S1x4096x8 ![1, 2] bcast_S4096x8_S1x4096x8_1_2 (Host.cos a))
  let si : FVec Ideal S2x4096x8 .f32 := broadcastInDim S2x4096x8 ![0, 1, 2] bcast_S1x4096x8_S2x4096x8_0_1_2
    (broadcastInDim S1x4096x8 ![1, 2] bcast_S4096x8_S1x4096x8_1_2 (Host.sin a))
  let u : FVec Ideal S2x4096x8 .f32 := extractStridedSlice S2x4096x8 ![0, 0, 0] x slices_S2x4096x64_S2x4096x8_0_0_0
  let v : FVec Ideal S2x4096x8 .f32 := extractStridedSlice S2x4096x8 ![0, 0, 8] x slices_S2x4096x64_S2x4096x8_0_0_8
  concatenate S2x4096x64 2 [⟨S2x4096x8, subf (mulf u co) (mulf v si)⟩, ⟨S2x4096x8, addf (mulf v co) (mulf u si)⟩,
     ⟨S2x4096x48, extractStridedSlice S2x4096x48 ![0, 0, 16] x slices_S2x4096x64_S2x4096x48_0_0_16⟩]
    concatenates_S2x4096x8_S2x4096x8_S2x4096x48_S2x4096x64_d2

theorem turnedLast_at (a : FVec Ideal S4096x8 .f32) (x : FVec Ideal S2x4096x64 .f32) (b : Fin 2) (t : Fin 4096) (J : Fin 64)
    (α : ℕ → EReal) (ha : ∀ i : Fin 8, a (ix2 t i) = α i.val) : turnedLast a x (ix3 b t J)
      = rotated 64 8 (fun j => x (ix3 b t j)) (fun i => Ideal.cos (α i)) (fun i => Ideal.sin (α i)) J := by
  have e : J.val % 64 = J.val := Nat.mod_eq_of_lt J.isLt
  pointwise [turnedLast]
  simp only [ha]
  have h := rotated_cases (d := 64) (p := 8) (fun j => x (ix3 b t j)) (fun i => Ideal.cos (α i)) (fun i => Ideal.sin (α i)) J
  rw [e] at h
  refine h _ _ _ _ _ ?_ ?_ ?_ ?_ ?_ <;> intros <;> dsimp only <;> omega

/-- The normed tokens times the last 2884 columns of the input weights. -/
def projection (x : FVec Ideal S2x4096x2048 .f32) (nw : FVec Ideal S1x2048 .f32) (w : FVec Ideal S1x2048x6980 .f32) :
    FVec Ideal S2x4096x2884 .f32 :=
  Host.dotGeneral dot_S2x4096x2048_S2048x2884_S2x4096x2884_2_0_01_1_n_n none
    (mulf (mulf x (broadcastInDim S2x4096x2048 ![0, 1, 2] bcast_S2x4096x1_S2x4096x2048_0_1_2
        (Host.rsqrt (addf (Host.divf (broadcastInDim S2x4096x1 ![0, 1] bcast_S2x4096_S2x4096x1_0_1
          (Host.reduceAdd (mulf x x) (constant S_ .f32 0x00000000#32) reducesTo_S2x4096x2048_S2x4096_d2 h_S_))
            (broadcastInDim S2x4096x1 ![] bcast_S_S2x4096x1 (constant S_ .f32 0x45000000#32)))
          (broadcastInDim S2x4096x1 ![] bcast_S_S2x4096x1 (constant S_ .f32 0x358637BD#32))))))
      (broadcastInDim S2x4096x2048 ![0, 1, 2] bcast_S1x1x2048_S2x4096x2048_0_1_2
        (broadcastInDim S1x1x2048 ![2] bcast_S2048_S1x1x2048_2 (shapeCast _ nw shapeCasts_S1x2048_S2048))))
    (shapeCast _ (extractStridedSlice S1x2048x2884 ![0, 0, 4096] w slices_S1x2048x6980_S1x2048x2884_0_0_4096)
      shapeCasts_S1x2048x2884_S2048x2884)

theorem projection_at (x : FVec Ideal S2x4096x2048 .f32) (nw : FVec Ideal S1x2048 .f32) (w : FVec Ideal S1x2048x6980 .f32)
    (b : Fin 2) (t : Fin 4096) (j : Fin 2884) : projection x nw w (ix3 b t j)
      = projected (fun k => x (ix3 b t k)) (fun k => nw (ix2 0 k)) (fun k => w (ix3 0 k ⟨4096 + j.val, by omega⟩)) := by
  pointwise [projection]
  rfl

variable (m : (ℓ : Loc nD τ sig) → Buf (Elt Ideal) ℓ) (c : Dev nD)

/-- The projection of the arguments. -/
abbrev whole : FVec Ideal S2x4096x2884 .f32 := projection (m ((c.tc : Thread nD τ).loc main_arg0))
  (m ((c.tc : Thread nD τ).loc main_arg1)) (m ((c.tc : Thread nD τ).loc main_arg2))

/-- Token `r` of the arguments times column `4096 + j` of the weights. -/
def column (r : Fin 8192) (j : Fin 2884) : EReal :=
  projected (fun k => m ((c.tc : Thread nD τ).loc main_arg0) (ix3 ⟨r.val / 4096, by omega⟩ ⟨r.val % 4096, by omega⟩ k))
    (fun k => m ((c.tc : Thread nD τ).loc main_arg1) (ix2 0 k))
    (fun k => m ((c.tc : Thread nD τ).loc main_arg2) (ix3 0 k ⟨4096 + j.val, by omega⟩))

/-- The query heads: the first slice of the projection, rotated and scaled. -/
abbrev queries : FVec Ideal S8192x1024 .bf16 :=
  truncf .bf16 (shapeCast _ (mulf (turnedQueries (shapeCast _ wideAngles shapeCasts_S4096x16_S4096x1x16)
    (shapeCast _ (extractStridedSlice S2x4096x1024 ![0, 0, 0] (whole m c) slices_S2x4096x2884_S2x4096x1024_0_0_0)
      shapeCasts_S2x4096x1024_S2x4096x8x128))
    (broadcastInDim S2x4096x8x128 ![] bcast_S_S2x4096x8x128 (constant S_ .f32 0x3E0293EE#32)))
    shapeCasts_S2x4096x8x128_S8192x1024) bitsLt_bf16_f32

theorem queries_at (r : Fin 8192) (J : Fin 1024) : queries m c (ix2 r J)
    = rotated 128 16 (fun j : Fin 1024 => column m c r ⟨j.val, by omega⟩) (cosine 0xBD800000#32 r) (sine 0xBD800000#32 r) J
      * Ideal.ofBits .f32 0x3E0293EE#32 := by
  refine (congrArg (· * Ideal.ofBits .f32 0x3E0293EE#32) (turnedQueries_at wideAngles _ r J _ fun i => wideAngles_at _ i)).trans ?_
  refine congrArg (fun z : Fin 1024 → EReal => rotated 128 16 z (cosine 0xBD800000#32 r) (sine 0xBD800000#32 r) J * Ideal.ofBits .f32 0x3E0293EE#32)
    (funext fun j => ?_)
  pointwise
  exact projection_at _ _ _ _ _ _

/-- The key heads: the second slice, rotated. -/
abbrev keys : FVec Ideal S8192x256 .f32 :=
  shapeCast _ (turnedKeys (shapeCast _ wideAngles shapeCasts_S4096x16_S4096x1x16)
    (shapeCast _ (extractStridedSlice S2x4096x256 ![0, 0, 1024] (whole m c) slices_S2x4096x2884_S2x4096x256_0_0_1024)
      shapeCasts_S2x4096x256_S2x4096x2x128)) shapeCasts_S2x4096x2x128_S8192x256

theorem keys_at (r : Fin 8192) (J : Fin 256) : keys m c (ix2 r J)
    = rotated 128 16 (fun j : Fin 256 => column m c r ⟨1024 + j.val, by omega⟩) (cosine 0xBD800000#32 r) (sine 0xBD800000#32 r) J := by
  refine (turnedKeys_at wideAngles _ r J _ fun i => wideAngles_at _ i).trans
    (congrArg (fun z : Fin 256 → EReal => rotated 128 16 z (cosine 0xBD800000#32 r) (sine 0xBD800000#32 r) J) (funext fun j => ?_))
  pointwise
  exact projection_at _ _ _ _ _ _

/-- The values: the third slice. -/
abbrev values : FVec Ideal S8192x256 .f32 :=
  shapeCast _ (extractStridedSlice S2x4096x256 ![0, 0, 1280] (whole m c) slices_S2x4096x2884_S2x4096x256_0_0_1280)
    shapeCasts_S2x4096x256_S8192x256

theorem values_at (r : Fin 8192) (J : Fin 256) : values m c (ix2 r J) = column m c r ⟨1280 + J.val, by omega⟩ := by
  pointwise
  exact projection_at _ _ _ _ _ _

theorem turned_values_at (r : Fin 8192) (J : Fin 256) :
    (truncf .bf16 (transpose S256x8192 [1, 0] (values m c) transposes_S8192x256_S256x8192_1_0) bitsLt_bf16_f32
      : FVec Ideal S256x8192 .bf16) (ix2 J r) = column m c r ⟨1280 + J.val, by omega⟩ := by
  pointwise
  exact projection_at _ _ _ _ _ _

/-- The gate: the fourth slice, times its own sigmoid. -/
abbrev gates : FVec Ideal S8192x1024 .f32 :=
  let g : FVec Ideal S2x4096x1024 .f32 := extractStridedSlice S2x4096x1024 ![0, 0, 1536] (whole m c) slices_S2x4096x2884_S2x4096x1024_0_0_1536
  shapeCast _ (mulf g (Host.divf (broadcastInDim S2x4096x1024 ![] bcast_S_S2x4096x1024 (constant S_ .f32 0x3F800000#32))
      (addf (broadcastInDim S2x4096x1024 ![] bcast_S_S2x4096x1024 (constant S_ .f32 0x3F800000#32)) (Host.exp (Host.negf g)))))
    shapeCasts_S2x4096x1024_S8192x1024

theorem gates_at (r : Fin 8192) (J : Fin 1024) : gates m c (ix2 r J) = silu (column m c r ⟨1536 + J.val, by omega⟩) := by
  have e : whole m c (ix3 ⟨r.val / 4096, by omega⟩ ⟨r.val % 4096, by omega⟩ ⟨1536 + J.val, by omega⟩)
      = column m c r ⟨1536 + J.val, by omega⟩ := projection_at _ _ _ _ _ _
  unfold gates
  pointwise
  rw [e]
  rfl

/-- The index queries: the fifth slice, rotated. -/
abbrev indices : FVec Ideal S8192x256 .bf16 :=
  truncf .bf16 (shapeCast _ (turnedIndex (shapeCast _ angles shapeCasts_S4096x8_S4096x1x8)
    (shapeCast _ (extractStridedSlice S2x4096x256 ![0, 0, 2560] (whole m c) slices_S2x4096x2884_S2x4096x256_0_0_2560)
      shapeCasts_S2x4096x256_S2x4096x4x64)) shapeCasts_S2x4096x4x64_S8192x256) bitsLt_bf16_f32

theorem indices_at (r : Fin 8192) (J : Fin 256) : indices m c (ix2 r J)
    = rotated 64 8 (fun j : Fin 256 => column m c r ⟨2560 + j.val, by omega⟩) (cosine 0xBE000000#32 r) (sine 0xBE000000#32 r) J := by
  refine (turnedIndex_at angles _ r J _ fun i => angles_at _ i).trans
    (congrArg (fun z : Fin 256 → EReal => rotated 64 8 z (cosine 0xBE000000#32 r) (sine 0xBE000000#32 r) J) (funext fun j => ?_))
  pointwise
  exact projection_at _ _ _ _ _ _

/-- The index keys, rotated, the weights of the index heads, and zeros up to 128 columns. -/
abbrev lasts : FVec Ideal S8192x128 .f32 :=
  concatenate S8192x128 1 [⟨S8192x64, shapeCast S8192x64 (turnedLast angles
      (extractStridedSlice S2x4096x64 ![0, 0, 2816] (whole m c) slices_S2x4096x2884_S2x4096x64_0_0_2816)) shapeCasts_S2x4096x64_S8192x64⟩,
    ⟨S8192x4, shapeCast S8192x4 (extractStridedSlice S2x4096x4 ![0, 0, 2880] (whole m c) slices_S2x4096x2884_S2x4096x4_0_0_2880)
      shapeCasts_S2x4096x4_S8192x4⟩,
    ⟨S8192x60, broadcastInDim S8192x60 ![] bcast_S_S8192x60 (constant S_ .f32 0x00000000#32)⟩]
    concatenates_S8192x64_S8192x4_S8192x60_S8192x128_d1

theorem lasts_at (r : Fin 8192) (l : Fin 128) : lasts m c (ix2 r l)
    = if h : l.val < 64 then
        rotated 64 8 (fun j : Fin 64 => column m c r ⟨2816 + j.val, by omega⟩) (cosine 0xBE000000#32 r) (sine 0xBE000000#32 r) ⟨l.val, h⟩
      else if h : l.val - 64 < 4 then column m c r ⟨2880 + (l.val - 64), by omega⟩ else 0 := by
  pointwise
  split
  · refine (turnedLast_at angles _ _ _ _ _ fun i => angles_at _ i).trans
      (congrArg (fun z : Fin 64 → EReal => rotated 64 8 z (cosine 0xBE000000#32 r) (sine 0xBE000000#32 r) _) (funext fun j => ?_))
    pointwise
    exact projection_at _ _ _ _ _ _
  · split
    · exact projection_at _ _ _ _ _ _
    · rfl

end Cert.Proof.SelRef

end
-- ==== Proof.SelBlock.lean ====
/-
  What one grid point of the sparse heads' input projection stores: each entry of its blocks of 256 rows is the row function of
  `InRow` at that row of the point's blocks.
-/
module

public import proofs.«01_k».proof.Proof.Gen.Kernel3Ideal.Value
public import proofs.«01_k».proof.Proof.InRow
public import Idealize.ShloMosaic.Lib.Pointwise

@[expose] public section

set_option maxRecDepth 16384

noncomputable section

open Idealize.ShloMosaic Idealize.ShloMosaic.TcCoe Idealize.SL.Sem

namespace Cert.Proof.SelBlock

open Cert.Kernel3Ideal Cert.Kernel3Ideal.Gen Cert.Proof.InRow

/-- The normed rows of a block times the rows of a weight. -/
def product {n : ℕ} (x : Vec Ideal S256x2048 .f32) (w : Vec Ideal S1x2048 .f32) (u : (⟨2, ![n, 2048]⟩ : Shape).Idx → EReal)
    (r : Fin 256) (j : Fin n) : EReal :=
  projected (fun k => x (ix2 r k)) (fun k => w (ix2 0 k)) (fun k => u (ix2 j k))

theorem product_congr {n n' : ℕ} (x : Vec Ideal S256x2048 .f32) (w : Vec Ideal S1x2048 .f32)
    (u : (⟨2, ![n, 2048]⟩ : Shape).Idx → EReal) (u' : (⟨2, ![n', 2048]⟩ : Shape).Idx → EReal) (r : Fin 256) (j : Fin n) (j' : Fin n')
    (h : ∀ k, u (ix2 j k) = u' (ix2 j' k)) : product x w u r j = product x w u' r j' :=
  congrArg (projected _ _) (funext h)

variable (x : Vec Ideal S256x2048 .f32) (w : Vec Ideal S1x2048 .f32) (u : Vec Ideal S1024x2048 .bf16)
  (v : Vec Ideal S256x2048 .bf16) (q : Vec Ideal S128x2048 .bf16)

theorem normed_at (r : Fin 256) (k : Fin 2048) :
    k0_pay3 x w (ix2 r k) = normed (fun k => x (ix2 r k)) (fun k => w (ix2 0 k)) k := by
  pointwise [k0_pay3]
  rfl

theorem queries_product (r : Fin 256) (j : Fin 1024) : k0_pay10 x w u (ix2 r j) = product x w u r j := by
  pointwise [k0_pay10]
  simp only [normed_at]
  rfl

theorem keys_product (r : Fin 256) (j : Fin 256) : k0_pay23 (k0_pay3 x w) v (ix2 r j) = product x w v r j := by
  pointwise [k0_pay23]
  simp only [normed_at]
  rfl

theorem values_product (r : Fin 256) (j : Fin 256) : k0_pay26 (k0_pay3 x w) v (ix2 r j) = product x w v r j := by
  pointwise [k0_pay26]
  simp only [normed_at]
  rfl

theorem turned_product (r : Fin 256) (j : Fin 256) : k0_pay27 (k0_pay26 (k0_pay3 x w) v) (ix2 j r) = product x w v r j := by
  pointwise [k0_pay27, k0_pay26]
  simp only [normed_at]
  rfl

theorem gate_product (r : Fin 256) (j : Fin 1024) : k0_pay28 (k0_pay3 x w) u (ix2 r j) = silu (product x w u r j) := by
  pointwise [k0_pay28]
  simp only [normed_at]
  rw [zero_sub]
  rfl

theorem index_product (r : Fin 256) (j : Fin 256) : k0_pay29 (k0_pay3 x w) v (ix2 r j) = product x w v r j := by
  pointwise [k0_pay29]
  simp only [normed_at]
  rfl

/-- A value of 128 lanes at offset `o` of a block of `n` whose every entry is `G` there is the block's `G` under its place. -/
theorem placed {n : ℕ} (G : Fin 256 → Fin n → EReal) (o : ℕ) (hb : o + 128 ≤ n)
    (inb : ∀ a, (![0, o] : Fin 2 → Nat) a + S256x128.size a ≤ (⟨2, ![256, n]⟩ : Shape).size a) (p : S256x128.Idx → EReal)
    (hp : ∀ (r : Fin 256) (l : Fin 128), p (ix2 r l) = G r ⟨o + l.val, by omega⟩) (y : S256x128.Idx) :
    p y = (fun i : (⟨2, ![256, n]⟩ : Shape).Idx => G (i 0) (i 1))
      ((Rect.unit (s := ⟨2, ![256, n]⟩) ![0, o] S256x128.size inb).emb y) := by
  obtain ⟨r, l, rfl⟩ : ∃ (r : Fin 256) (l : Fin 128), y = ix2 r l :=
    ⟨y 0, y 1, funext fun a => by match a with | ⟨0, _⟩ => rfl | ⟨1, _⟩ => rfl⟩
  rw [hp]
  refine congrArg₂ G (Fin.ext ?_) (Fin.ext ?_)
  · show r.val = 0 + 1 * r.val
    omega
  · show o + l.val = o + 1 * l.val
    omega

/-- A value that is `f` of 128 lanes from lane `o` on, times the three tables of heads of width `d`, is `f` of those lanes of
    the rotated rows, under its place in the block. -/
theorem rotated_piece {n : ℕ} (d p : ℕ) (hd : d = 64 ∧ p = 8 ∨ d = 128 ∧ p = 16) (tc tl th : Vec Ideal S256x128 .f32)
    (co si : Fin 256 → ℕ → EReal) (hc : ∀ r (l : Fin 128), tc (ix2 r l) = lane d p (co r) (co r) 1 l.val)
    (hl : ∀ r (l : Fin 128), tl (ix2 r l) = lane d p (fun i => -si r i) (fun _ => 0) 0 l.val)
    (hh : ∀ r (l : Fin 128), th (ix2 r l) = lane d p (fun _ => 0) (si r) 0 l.val) (f : EReal → EReal)
    (z : (⟨2, ![256, n]⟩ : Shape).Idx → EReal) (o : ℕ) (ho : o % 128 = 0) (hb : o + 128 ≤ n)
    (inb : ∀ a, (![0, o] : Fin 2 → Nat) a + S256x128.size a ≤ (⟨2, ![256, n]⟩ : Shape).size a) (g : S256x128.Idx → EReal)
    (hg : ∀ (r : Fin 256) (l : Fin 128), g (ix2 r l) = f (z (ix2 r ⟨o + l.val, by omega⟩) * tc (ix2 r l)
      + z (ix2 r ⟨o + (l.val + 128 - (128 - p)) % 128, by omega⟩) * tl (ix2 r l)
      + z (ix2 r ⟨o + (l.val + 128 - p) % 128, by omega⟩) * th (ix2 r l))) (y : S256x128.Idx) :
    g y = (fun i : (⟨2, ![256, n]⟩ : Shape).Idx => f (rotated d p (fun j => z (ix2 (i 0) j)) (co (i 0)) (si (i 0)) (i 1)))
      ((Rect.unit (s := ⟨2, ![256, n]⟩) ![0, o] S256x128.size inb).emb y) :=
  placed (fun r j => f (rotated d p (fun i => z (ix2 r i)) (co r) (si r) j)) o hb inb g (fun r l => (hg r l).trans (congrArg f (by
    rw [hc, hl, hh]
    exact rotated_lanes d p o (fun j => z (ix2 r j)) (co r) (si r) ⟨o + l.val, by omega⟩ _ _ l hd ho rfl rfl rfl))) y

section wide

variable (tc tl th : Vec Ideal S256x128 .f32) (co si : Fin 256 → ℕ → EReal)
  (hc : ∀ r (l : Fin 128), tc (ix2 r l) = lane 128 16 (co r) (co r) 1 l.val)
  (hl : ∀ r (l : Fin 128), tl (ix2 r l) = lane 128 16 (fun i => -si r i) (fun _ => 0) 0 l.val)
  (hh : ∀ r (l : Fin 128), th (ix2 r l) = lane 128 16 (fun _ => 0) (si r) 0 l.val)

include hc hl hh

/-- The first result's block: the rotated products, scaled. -/
theorem queries_canon (r : Fin 256) (j : Fin 1024) :
    (View.canon [⟨r0_11, k0_pay22 tc tl th (k0_pay10 x w u)⟩, ⟨r0_10, k0_pay21 tc tl th (k0_pay10 x w u)⟩,
      ⟨r0_9, k0_pay20 tc tl th (k0_pay10 x w u)⟩, ⟨r0_8, k0_pay19 tc tl th (k0_pay10 x w u)⟩,
      ⟨r0_7, k0_pay18 (k0_pay17 tc tl th (k0_pay10 x w u)) (Scalar.ofBits .f32 0x3E0293EE#32)⟩,
      ⟨r0_6, k0_pay16 tc tl th (k0_pay10 x w u)⟩, ⟨r0_5, k0_pay15 tc tl th (k0_pay10 x w u)⟩,
      ⟨r0_4, k0_pay14 th (k0_pay11 x w u) (k0_pay12 x w tc u) (k0_pay13 x w tl u)⟩] : Vec Ideal S256x1024 .bf16) (ix2 r j)
      = rotated 128 16 (product x w u r) (co r) (si r) j * Ideal.ofBits .f32 0x3E0293EE#32 := by
  have e : product x w u r = fun j => k0_pay10 x w u (ix2 r j) := funext fun j => (queries_product x w u r j).symm
  rw [e]
  have key := rotated_piece (n := 1024) 128 16 (.inr ⟨rfl, rfl⟩) tc tl th co si hc hl hh (fun v => v * Ideal.ofBits .f32 0x3E0293EE#32) (k0_pay10 x w u)
  refine (View.canon_apply_of_pieces
    (fun i : S256x1024.Idx => rotated 128 16 (fun j => k0_pay10 x w u (ix2 (i 0) j)) (co (i 0)) (si (i 0)) (i 1) * Ideal.ofBits .f32 0x3E0293EE#32)
    _ (fun p hp => ?_) (ix2 r j) (cover0_10 _ _ _ _ _ _ _ _ _)).trans ?_
  · simp only [List.mem_cons, List.not_mem_nil, or_false] at hp
    rcases hp with rfl | rfl | rfl | rfl | rfl | rfl | rfl | rfl
    · exact key 896 rfl (by omega) inb_S256x1024_S256x128_0_896 _ fun r l => by pointwise [k0_pay22]
    · exact key 768 rfl (by omega) inb_S256x1024_S256x128_0_768 _ fun r l => by pointwise [k0_pay21]
    · exact key 640 rfl (by omega) inb_S256x1024_S256x128_0_640 _ fun r l => by pointwise [k0_pay20]
    · exact key 512 rfl (by omega) inb_S256x1024_S256x128_0_512 _ fun r l => by pointwise [k0_pay19]
    · exact key 384 rfl (by omega) inb_S256x1024_S256x128_0_384 _ fun r l => by pointwise [k0_pay18, k0_pay17]
    · exact key 256 rfl (by omega) inb_S256x1024_S256x128_0_256 _ fun r l => by pointwise [k0_pay16]
    · exact key 128 rfl (by omega) inb_S256x1024_S256x128_0_128 _ fun r l => by pointwise [k0_pay15]
    · exact key 0 rfl (by omega) inb_S256x1024_S256x128_0_0 _ fun r l => by
        pointwise [k0_pay14, k0_pay11, k0_pay12, k0_pay13, k0_pay4, k0_pay5]
  · rfl

/-- The second result's block: the rotated products. -/
theorem keys_canon (r : Fin 256) (j : Fin 256) :
    (View.canon [⟨r0_14, k0_pay25 (k0_pay3 x w) tc tl th v⟩, ⟨r0_13, k0_pay24 (k0_pay3 x w) tc tl th v⟩] : Vec Ideal S256x256 .f32) (ix2 r j)
      = rotated 128 16 (product x w v r) (co r) (si r) j := by
  have e : product x w v r = fun j => k0_pay23 (k0_pay3 x w) v (ix2 r j) := funext fun j => (keys_product x w v r j).symm
  rw [e]
  have key := rotated_piece (n := 256) 128 16 (.inr ⟨rfl, rfl⟩) tc tl th co si hc hl hh (fun v => v) (k0_pay23 (k0_pay3 x w) v)
  refine (View.canon_apply_of_pieces
    (fun i : S256x256.Idx => rotated 128 16 (fun j => k0_pay23 (k0_pay3 x w) v (ix2 (i 0) j)) (co (i 0)) (si (i 0)) (i 1))
    _ (fun p hp => ?_) (ix2 r j) (cover0_11 _ _ _)).trans ?_
  · simp only [List.mem_cons, List.not_mem_nil, or_false] at hp
    rcases hp with rfl | rfl
    · exact key 128 rfl (by omega) inb_S256x256_S256x128_0_128 _ fun r l => by pointwise [k0_pay25]
    · exact key 0 rfl (by omega) inb_S256x256_S256x128_0_0 _ fun r l => by pointwise [k0_pay24]
  · rfl

end wide

section narrow

variable (tc tl th : Vec Ideal S256x128 .f32) (co si : Fin 256 → ℕ → EReal)
  (hc : ∀ r (l : Fin 128), tc (ix2 r l) = lane 64 8 (co r) (co r) 1 l.val)
  (hl : ∀ r (l : Fin 128), tl (ix2 r l) = lane 64 8 (fun i => -si r i) (fun _ => 0) 0 l.val)
  (hh : ∀ r (l : Fin 128), th (ix2 r l) = lane 64 8 (fun _ => 0) (si r) 0 l.val)

include hc hl hh

/-- The fifth result's block: the rotated products of the index queries. -/
theorem index_canon (r : Fin 256) (j : Fin 256) :
    (View.canon [⟨r0_14, k0_pay1 (k0_pay32 (k0_pay3 x w) tc tl v) (k0_pay33 (k0_pay3 x w) th v)⟩,
      ⟨r0_13, k0_pay30 (k0_pay3 x w) tc tl th v⟩] : Vec Ideal S256x256 .bf16) (ix2 r j)
      = rotated 64 8 (product x w v r) (co r) (si r) j := by
  have e : product x w v r = fun j => k0_pay29 (k0_pay3 x w) v (ix2 r j) := funext fun j => (index_product x w v r j).symm
  rw [e]
  have key := rotated_piece (n := 256) 64 8 (.inl ⟨rfl, rfl⟩) tc tl th co si hc hl hh (fun v => v) (k0_pay29 (k0_pay3 x w) v)
  refine (View.canon_apply_of_pieces
    (fun i : S256x256.Idx => rotated 64 8 (fun j => k0_pay29 (k0_pay3 x w) v (ix2 (i 0) j)) (co (i 0)) (si (i 0)) (i 1))
    _ (fun p hp => ?_) (ix2 r j) (cover0_14 _ _ _)).trans ?_
  · simp only [List.mem_cons, List.not_mem_nil, or_false] at hp
    rcases hp with rfl | rfl
    · exact key 128 rfl (by omega) inb_S256x256_S256x128_0_128 _ fun r l => by pointwise [k0_pay1, k0_pay32, k0_pay33, k0_pay31]
    · exact key 0 rfl (by omega) inb_S256x256_S256x128_0_0 _ fun r l => by pointwise [k0_pay30]
  · rfl

omit hc hl hh in
/-- The lanes below 64, as the body compares them. -/
theorem below : ∀ l : Fin 128, IntOp.cmpi .slt (BitVec.ofNat 32 l.val) 64#32 = if l.val < 64 then 1#1 else 0#1 := by decide

/-- The sixth result's block: the index keys, rotated, and beside them the rest of the last columns. -/
theorem tail_at (r : Fin 256) (l : Fin 128) : k0_pay2 (k0_pay3 x w) tc tl th q (ix2 r l)
    = if l.val < 64 then rotated 64 8 (product x w q r) (co r) (si r) l else product x w q r l := by
  have h := rotated_lanes 64 8 0 (product x w q r) (co r) (si r) l
    ⟨(l.val + 128 - (128 - 8)) % 128, by omega⟩ ⟨(l.val + 128 - 8) % 128, by omega⟩ l (.inl ⟨rfl, rfl⟩) rfl (by simp) (by simp) (by simp)
  rw [← h, ← hc, ← hl, ← hh]
  pointwise [k0_pay2]
  simp only [normed_at]
  rw [below]
  split <;> rfl

end narrow

/-! ## The point's blocks -/

theorem origin : (![0, 0] : Fin 2 → Nat) = fun _ => 0 := funext fun a => by fin_cases a <;> rfl

theorem whole_rows (v : Vec Ideal S256x2048 .f32) : View.ld v r0_0 = v := View.ld_unit_zero origin ..

theorem whole_weight (v : Vec Ideal S1x2048 .f32) : View.ld v r0_1 = v := View.ld_unit_zero origin ..

theorem whole_tail (v : Vec Ideal S128x2048 .bf16) : View.ld v r0_20 = v := View.ld_unit_zero origin ..

theorem whole_lanes (v : Vec Ideal S256x128 .f32) : View.ld v r0_2 = v := View.ld_unit_zero origin ..

/-- The six tables are read as they are. -/
theorem whole_table (v : Vec Ideal S256x128 .f32) :
    (k0_pay4 v = v ∧ k0_pay5 v = v ∧ k0_pay6 v = v) ∧ k0_pay7 v = v ∧ k0_pay8 v = v ∧ k0_pay9 v = v :=
  ⟨⟨shapeCast_id .., shapeCast_id .., shapeCast_id ..⟩, shapeCast_id .., shapeCast_id .., shapeCast_id ..⟩

/-- The normed rows of the point's block times row `j` of the whole weights. -/
def column (x : Vec Ideal S256x2048 .f32) (w : Vec Ideal S1x2048 .f32) (y : Vec Ideal S2816x2048 .bf16) (r : Fin 256)
    (j : Fin 2816) : EReal := product x w y r j

variable (y : Vec Ideal S2816x2048 .bf16) (t4 t5 t6 t7 t8 t9 : Vec Ideal S256x128 .f32)

theorem queries_at (co si : Fin 256 → ℕ → EReal) (hc : ∀ r (l : Fin 128), t4 (ix2 r l) = lane 128 16 (co r) (co r) 1 l.val)
    (hl : ∀ r (l : Fin 128), t5 (ix2 r l) = lane 128 16 (fun i => -si r i) (fun _ => 0) 0 l.val)
    (hh : ∀ r (l : Fin 128), t6 (ix2 r l) = lane 128 16 (fun _ => 0) (si r) 0 l.val) (r : Fin 256) (j : Fin 1024) :
    out0_10 x w y q t4 t5 t6 t7 t8 t9 (ix2 r j)
      = rotated 128 16 (fun i : Fin 1024 => column x w y r ⟨i.val, by omega⟩) (co r) (si r) j * Ideal.ofBits .f32 0x3E0293EE#32 := by
  unfold out0_10 k0_pay41 k0_pay37 k0_pay36 k0_pay35
  simp only [whole_table, whole_rows, whole_weight, whole_lanes]
  refine (queries_canon x w (View.ld y r0_3) t4 t5 t6 co si hc hl hh r j).trans ?_
  have h : product x w (View.ld y r0_3) r = fun i : Fin 1024 => column x w y r ⟨i.val, by omega⟩ :=
    funext fun i => product_congr x w _ y r _ _ fun k => by pointwise [r0_3]
  rw [h]

theorem keys_at (co si : Fin 256 → ℕ → EReal) (hc : ∀ r (l : Fin 128), t4 (ix2 r l) = lane 128 16 (co r) (co r) 1 l.val)
    (hl : ∀ r (l : Fin 128), t5 (ix2 r l) = lane 128 16 (fun i => -si r i) (fun _ => 0) 0 l.val)
    (hh : ∀ r (l : Fin 128), t6 (ix2 r l) = lane 128 16 (fun _ => 0) (si r) 0 l.val) (r : Fin 256) (j : Fin 256) :
    out0_11 x w y q t4 t5 t6 t7 t8 t9 (ix2 r j)
      = rotated 128 16 (fun i : Fin 256 => column x w y r ⟨1024 + i.val, by omega⟩) (co r) (si r) j := by
  unfold out0_11 k0_pay37 k0_pay36 k0_pay35 k0_pay34
  simp only [whole_table, whole_rows, whole_weight, whole_lanes]
  refine (keys_canon x w (View.ld y r0_12) t4 t5 t6 co si hc hl hh r j).trans ?_
  have h : product x w (View.ld y r0_12) r = fun i : Fin 256 => column x w y r ⟨1024 + i.val, by omega⟩ :=
    funext fun i => product_congr x w _ y r _ _ fun k => by pointwise [r0_12]
  rw [h]

theorem values_at (r : Fin 256) (j : Fin 256) : out0_12 x w y q t4 t5 t6 t7 t8 t9 (ix2 r j) = column x w y r ⟨1280 + j.val, by omega⟩ := by
  unfold out0_12 k0_pay42 k0_pay34
  rw [View.canon_unit_zero origin, whole_rows, whole_weight, values_product]
  exact product_congr x w _ y r _ _ fun k => by pointwise [r0_15]

theorem turned_at (r : Fin 256) (j : Fin 256) : out0_16 x w y q t4 t5 t6 t7 t8 t9 (ix2 j r) = column x w y r ⟨1280 + j.val, by omega⟩ := by
  unfold out0_16 k0_pay42 k0_pay34
  rw [View.canon_unit_zero origin, whole_rows, whole_weight, turned_product]
  exact product_congr x w _ y r _ _ fun k => by pointwise [r0_15]

theorem gate_at (r : Fin 256) (j : Fin 1024) : out0_13 x w y q t4 t5 t6 t7 t8 t9 (ix2 r j) = silu (column x w y r ⟨1536 + j.val, by omega⟩) := by
  unfold out0_13 k0_pay34
  rw [View.canon_unit_zero origin, whole_rows, whole_weight, gate_product]
  exact congrArg silu (product_congr x w _ y r _ _ fun k => by pointwise [r0_17])

theorem index_at (co si : Fin 256 → ℕ → EReal) (hc : ∀ r (l : Fin 128), t7 (ix2 r l) = lane 64 8 (co r) (co r) 1 l.val)
    (hl : ∀ r (l : Fin 128), t8 (ix2 r l) = lane 64 8 (fun i => -si r i) (fun _ => 0) 0 l.val)
    (hh : ∀ r (l : Fin 128), t9 (ix2 r l) = lane 64 8 (fun _ => 0) (si r) 0 l.val) (r : Fin 256) (j : Fin 256) :
    out0_14 x w y q t4 t5 t6 t7 t8 t9 (ix2 r j)
      = rotated 64 8 (fun i : Fin 256 => column x w y r ⟨2560 + i.val, by omega⟩) (co r) (si r) j := by
  unfold out0_14 k0_pay40 k0_pay39 k0_pay38 k0_pay34
  simp only [whole_table, whole_rows, whole_weight, whole_lanes]
  refine (index_canon x w (View.ld y r0_19) t7 t8 t9 co si hc hl hh r j).trans ?_
  have h : product x w (View.ld y r0_19) r = fun i : Fin 256 => column x w y r ⟨2560 + i.val, by omega⟩ :=
    funext fun i => product_congr x w _ y r _ _ fun k => by pointwise [r0_19]
  rw [h]

theorem last_at (co si : Fin 256 → ℕ → EReal) (hc : ∀ r (l : Fin 128), t7 (ix2 r l) = lane 64 8 (co r) (co r) 1 l.val)
    (hl : ∀ r (l : Fin 128), t8 (ix2 r l) = lane 64 8 (fun i => -si r i) (fun _ => 0) 0 l.val)
    (hh : ∀ r (l : Fin 128), t9 (ix2 r l) = lane 64 8 (fun _ => 0) (si r) 0 l.val) (r : Fin 256) (l : Fin 128) :
    out0_15 x w y q t4 t5 t6 t7 t8 t9 (ix2 r l)
      = if l.val < 64 then rotated 64 8 (product x w q r) (co r) (si r) l else product x w q r l := by
  unfold out0_15 k0_pay40 k0_pay39 k0_pay38 k0_pay34
  rw [View.canon_unit_zero origin]
  simp only [whole_table, whole_rows, whole_weight, whole_lanes, whole_tail]
  exact tail_at x w q t7 t8 t9 co si hc hl hh r l

end Cert.Proof.SelBlock

end
-- ==== Proof.SelTables.lean ====
/-
  The tables that the host hands to the input projection of the sparse heads: the cosines and the two signed halves of the sines
  of every position, laid out over 128 lanes, once for heads of width 128 and once for heads of width 64.
-/
module

public import proofs.«01_k».proof.Proof.Gen.Kernel3Ideal.Value
public import proofs.«01_k».proof.Proof.InRow
public import Idealize.ShloMosaic.Lib.Pointwise

@[expose] public section

set_option maxRecDepth 65536

noncomputable section

open Idealize.ShloMosaic Idealize.ShloMosaic.TcCoe Idealize.SL.Sem

namespace Cert.Proof.SelTables

open Cert.Kernel3Ideal Cert.Kernel3Ideal.Gen Cert.Proof.InRow

/-! ## Heads of width 64: eight pairs -/

/-- The angles: each position times each of the eight frequencies. -/
def angles : FVec Ideal S4096x8 .f32 :=
  mulf (broadcastInDim S4096x8 ![0, 1] bcast_S4096x1_S4096x8_0_1
      (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0))))))

/-- Zero for each pair. -/
def zeros : FVec Ideal S4096x8 .f32 := broadcastInDim S4096x8 ![] bcast_S_S4096x8 (constant S_ .f32 0x00000000#32)

/-- One value for the entries of a head that are not rotated. -/
def rest (b : BitVec 32) : FVec Ideal S4096x48 .f32 := broadcastInDim S4096x48 ![] bcast_S_S4096x48 (constant S_ .f32 b)

/-- A table of one head, twice side by side. -/
def table (u v : FVec Ideal S4096x8 .f32) (w : FVec Ideal S4096x48 .f32) : FVec Ideal S4096x128 .f32 :=
  shapeCast _ (broadcastInDim S1x4096x2x64 ![0, 1, 2, 3] bcast_S1x4096x1x64_S1x4096x2x64_0_1_2_3
    (shapeCast _ (concatenate S4096x64 1 [⟨S4096x8, u⟩, ⟨S4096x8, v⟩, ⟨S4096x48, w⟩] concatenates_S4096x8_S4096x8_S4096x48_S4096x64_d1)
      shapeCasts_S4096x64_S1x4096x1x64)) shapeCasts_S1x4096x2x64_S4096x128

/-- The table of the cosines, entry by entry. -/
theorem cosines_at (t : Fin 4096) (l : Fin 128) : table (Host.cos angles) (Host.cos angles) (rest 0x3F800000#32) (ix2 t l)
    = lane 64 8 (fun i => Ideal.cos (angle 0xBE000000#32 t.val i)) (fun i => Ideal.cos (angle 0xBE000000#32 t.val i)) 1 l.val := by
  pointwise [table, rest, angles]
  rfl

/-- The table of the sines that the first half of the rotated entries takes, entry by entry. -/
theorem lows_at (t : Fin 4096) (l : Fin 128) : table (Host.negf (Host.sin angles)) zeros (rest 0x00000000#32) (ix2 t l)
    = lane 64 8 (fun i => -Ideal.sin (angle 0xBE000000#32 t.val i)) (fun _ => 0) 0 l.val := by
  pointwise [table, rest, zeros, angles]
  rfl

/-- The table of the sines that the second half takes, entry by entry. -/
theorem highs_at (t : Fin 4096) (l : Fin 128) : table zeros (Host.sin angles) (rest 0x00000000#32) (ix2 t l)
    = lane 64 8 (fun _ => 0) (fun i => Ideal.sin (angle 0xBE000000#32 t.val i)) 0 l.val := by
  pointwise [table, rest, zeros, angles]
  rfl

/-! ## Heads of width 128: sixteen pairs -/

/-- The angles: each position times each of the sixteen frequencies. -/
def wideAngles : FVec Ideal S4096x16 .f32 :=
  mulf (broadcastInDim S4096x16 ![0, 1] bcast_S4096x1_S4096x16_0_1
      (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (mulf (broadcastInDim S16 ![] bcast_S_S16 (constant S_ .f32 0xBD800000#32)) (sitofp .f32 (iotaInDim S16 32 0))))))

/-- Zero for each pair. -/
def wideZeros : FVec Ideal S4096x16 .f32 := broadcastInDim S4096x16 ![] bcast_S_S4096x16 (constant S_ .f32 0x00000000#32)

/-- One value for the entries of a head that are not rotated. -/
def wideRest (b : BitVec 32) : FVec Ideal S4096x96 .f32 := broadcastInDim S4096x96 ![] bcast_S_S4096x96 (constant S_ .f32 b)

/-- A table of one head. -/
def wideTable (u v : FVec Ideal S4096x16 .f32) (w : FVec Ideal S4096x96 .f32) : FVec Ideal S4096x128 .f32 :=
  shapeCast _ (broadcastInDim S1x4096x1x128 ![0, 1, 2, 3] bcast_S1x4096x1x128_S1x4096x1x128_0_1_2_3
    (shapeCast _ (concatenate S4096x128 1 [⟨S4096x16, u⟩, ⟨S4096x16, v⟩, ⟨S4096x96, w⟩] concatenates_S4096x16_S4096x16_S4096x96_S4096x128_d1)
      shapeCasts_S4096x128_S1x4096x1x128)) shapeCasts_S1x4096x1x128_S4096x128

/-- The table of the cosines, entry by entry. -/
theorem wide_cosines_at (t : Fin 4096) (l : Fin 128) : wideTable (Host.cos wideAngles) (Host.cos wideAngles) (wideRest 0x3F800000#32) (ix2 t l)
    = lane 128 16 (fun i => Ideal.cos (angle 0xBD800000#32 t.val i)) (fun i => Ideal.cos (angle 0xBD800000#32 t.val i)) 1 l.val := by
  pointwise [wideTable, wideRest, wideAngles]
  unfold lane
  rw [Nat.mod_eq_of_lt l.isLt]
  rfl

/-- The table of the sines that the first half of the rotated entries takes, entry by entry. -/
theorem wide_lows_at (t : Fin 4096) (l : Fin 128) : wideTable (Host.negf (Host.sin wideAngles)) wideZeros (wideRest 0x00000000#32) (ix2 t l)
    = lane 128 16 (fun i => -Ideal.sin (angle 0xBD800000#32 t.val i)) (fun _ => 0) 0 l.val := by
  pointwise [wideTable, wideRest, wideZeros, wideAngles]
  unfold lane
  rw [Nat.mod_eq_of_lt l.isLt]
  rfl

/-- The table of the sines that the second half takes, entry by entry. -/
theorem wide_highs_at (t : Fin 4096) (l : Fin 128) : wideTable wideZeros (Host.sin wideAngles) (wideRest 0x00000000#32) (ix2 t l)
    = lane 128 16 (fun _ => 0) (fun i => Ideal.sin (angle 0xBD800000#32 t.val i)) 0 l.val := by
  pointwise [wideTable, wideRest, wideZeros, wideAngles]
  unfold lane
  rw [Nat.mod_eq_of_lt l.isLt]
  rfl

/-! ## The arrays that the windows read -/

variable (m : (ℓ : Loc nD τ sig) → Buf (Elt Ideal) ℓ) (c : Dev nD)

theorem cosines_arr (t : Fin 4096) (l : Fin 128) : (V m c main_v64 : Vec Ideal S4096x128 .f32) (ix2 t l)
    = lane 64 8 (fun i => Ideal.cos (angle 0xBE000000#32 t.val i)) (fun i => Ideal.cos (angle 0xBE000000#32 t.val i)) 1 l.val := by
  have e : (V m c main_v64 : Vec Ideal S4096x128 .f32) = table (Host.cos angles) (Host.cos angles) (rest 0x3F800000#32) := rfl
  rw [e, cosines_at]

theorem lows_arr (t : Fin 4096) (l : Fin 128) : (V m c main_v67 : Vec Ideal S4096x128 .f32) (ix2 t l)
    = lane 64 8 (fun i => -Ideal.sin (angle 0xBE000000#32 t.val i)) (fun _ => 0) 0 l.val := by
  have e : (V m c main_v67 : Vec Ideal S4096x128 .f32) = table (Host.negf (Host.sin angles)) zeros (rest 0x00000000#32) := rfl
  rw [e, lows_at]

theorem highs_arr (t : Fin 4096) (l : Fin 128) : (V m c main_v70 : Vec Ideal S4096x128 .f32) (ix2 t l)
    = lane 64 8 (fun _ => 0) (fun i => Ideal.sin (angle 0xBE000000#32 t.val i)) 0 l.val := by
  have e : (V m c main_v70 : Vec Ideal S4096x128 .f32) = table zeros (Host.sin angles) (rest 0x00000000#32) := rfl
  rw [e, highs_at]

theorem wide_cosines_arr (t : Fin 4096) (l : Fin 128) : (V m c main_v35 : Vec Ideal S4096x128 .f32) (ix2 t l)
    = lane 128 16 (fun i => Ideal.cos (angle 0xBD800000#32 t.val i)) (fun i => Ideal.cos (angle 0xBD800000#32 t.val i)) 1 l.val := by
  have e : (V m c main_v35 : Vec Ideal S4096x128 .f32) = wideTable (Host.cos wideAngles) (Host.cos wideAngles) (wideRest 0x3F800000#32) := rfl
  rw [e, wide_cosines_at]

theorem wide_lows_arr (t : Fin 4096) (l : Fin 128) : (V m c main_v38 : Vec Ideal S4096x128 .f32) (ix2 t l)
    = lane 128 16 (fun i => -Ideal.sin (angle 0xBD800000#32 t.val i)) (fun _ => 0) 0 l.val := by
  have e : (V m c main_v38 : Vec Ideal S4096x128 .f32) = wideTable (Host.negf (Host.sin wideAngles)) wideZeros (wideRest 0x00000000#32) := rfl
  rw [e, wide_lows_at]

theorem wide_highs_arr (t : Fin 4096) (l : Fin 128) : (V m c main_v41 : Vec Ideal S4096x128 .f32) (ix2 t l)
    = lane 128 16 (fun _ => 0) (fun i => Ideal.sin (angle 0xBD800000#32 t.val i)) 0 l.val := by
  have e : (V m c main_v41 : Vec Ideal S4096x128 .f32) = wideTable wideZeros (Host.sin wideAngles) (wideRest 0x00000000#32) := rfl
  rw [e, wide_highs_at]

end Cert.Proof.SelTables

end
-- ==== Proof.SelValue.lean ====
/-
  The sparse heads' input projection as a whole: the grid's 32 blocks of 256 rows tile each result, so each entry of a result is
  the row function of `InRow` at the same row of the arguments.
-/
module

public import proofs.«01_k».proof.Proof.SelBlock
public import proofs.«01_k».proof.Proof.SelTables
public import proofs.«01_k».proof.Proof.InValue

@[expose] public section

set_option maxRecDepth 65536

noncomputable section

open Idealize.ShloMosaic Idealize.ShloMosaic.TcCoe Idealize.SL.Sem
open Idealize.ShloMosaic.Pipeline (Dat)

namespace Cert.Proof.SelValue

open Cert.Kernel3Ideal Cert.Kernel3Ideal.Gen Cert.Proof.InRow
open Cert.Proof.OutValue (eq_ix2)
open Cert.Proof.InValue (position whole_place row_bounds whole_bounds)

variable (m : (ℓ : Loc nD τ sig) → Buf (Elt Ideal) ℓ) (c : Dev nD)

/-- Row `256·t + r` of the 8192: row `r` of point `t`'s blocks. -/
def row (t : Fin cfg0.N) (r : Fin 256) : Fin 8192 :=
  ⟨256 * t.val + r.val, by have := t.isLt; have : cfg0.N = 32 := N_0; omega⟩

/-- Point `t` reads block `t` of the rows, and block `t mod 16` of the tables. -/
theorem index_rows : ∀ t : Fin cfg0.N, (win0_0.index t 0 = t.val ∧ win0_0.index t 1 = 0)
    ∧ (win0_4.index t 0 = t.val % 16 ∧ win0_4.index t 1 = 0) ∧ (win0_5.index t 0 = t.val % 16 ∧ win0_5.index t 1 = 0)
    ∧ (win0_6.index t 0 = t.val % 16 ∧ win0_6.index t 1 = 0) ∧ (win0_7.index t 0 = t.val % 16 ∧ win0_7.index t 1 = 0)
    ∧ (win0_8.index t 0 = t.val % 16 ∧ win0_8.index t 1 = 0) ∧ (win0_9.index t 0 = t.val % 16 ∧ win0_9.index t 1 = 0) := by
  decide +kernel

/-- Every point reads the whole of each weight. -/
theorem index_whole : ∀ t : Fin cfg0.N, (win0_1.index t 0 = 0 ∧ win0_1.index t 1 = 0)
    ∧ (win0_2.index t 0 = 0 ∧ win0_2.index t 1 = 0) ∧ (win0_3.index t 0 = 0 ∧ win0_3.index t 1 = 0) := by decide +kernel

/-- Point `t` writes block `t` of the rows of each result; of the last, which is turned, block `t` of the columns. -/
theorem index_results : ∀ t : Fin cfg0.N, (win0_10.index t 0 = t.val ∧ win0_10.index t 1 = 0)
    ∧ (win0_11.index t 0 = t.val ∧ win0_11.index t 1 = 0) ∧ (win0_12.index t 0 = t.val ∧ win0_12.index t 1 = 0)
    ∧ (win0_13.index t 0 = t.val ∧ win0_13.index t 1 = 0) ∧ (win0_14.index t 0 = t.val ∧ win0_14.index t 1 = 0)
    ∧ (win0_15.index t 0 = t.val ∧ win0_15.index t 1 = 0) ∧ (win0_16.index t 0 = 0 ∧ win0_16.index t 1 = t.val) := by
  decide +kernel

/-! ## The arrays the windows read, in terms of the arguments -/

/-- The tokens as rows. -/
def rows (x : FVec Ideal S2x4096x2048 .f32) : FVec Ideal S8192x2048 .f32 := shapeCast _ x shapeCasts_S2x4096x2048_S8192x2048

theorem rows_at (x : FVec Ideal S2x4096x2048 .f32) (r : Fin 8192) (k : Fin 2048) :
    rows x (ix2 r k) = x (ix3 ⟨r.val / 4096, by omega⟩ ⟨r.val % 4096, by omega⟩ k) := by
  pointwise [rows]

/-- The norm's weights. -/
def weights (w : FVec Ideal S1x2048 .f32) : FVec Ideal S1x2048 .f32 :=
  broadcastInDim S1x2048 ![1] bcast_S2048_S1x2048_1 (shapeCast S2048 w shapeCasts_S1x2048_S2048)

theorem weights_at (w : FVec Ideal S1x2048 .f32) (k : Fin 2048) : weights w (ix2 0 k) = w (ix2 0 k) := by
  pointwise [weights]

/-- The columns of the weights from 4096 on, all but the last 68, as rows. -/
def turnedColumns (v : FVec Ideal S1x2048x6980 .f32) : FVec Ideal S2816x2048 .bf16 :=
  truncf .bf16 (transpose S2816x2048 [1, 0] (shapeCast S2048x2816
    (extractStridedSlice S1x2048x2816 ![0, 0, 4096] v slices_S1x2048x6980_S1x2048x2816_0_0_4096) shapeCasts_S1x2048x2816_S2048x2816)
    transposes_S2048x2816_S2816x2048_1_0) bitsLt_bf16_f32

theorem turnedColumns_at (v : FVec Ideal S1x2048x6980 .f32) (j : Fin 2816) (k : Fin 2048) :
    turnedColumns v (ix2 j k) = v (ix3 0 k ⟨4096 + j.val, by omega⟩) := by
  pointwise [turnedColumns]

/-- The last 68 columns, as rows, with rows of zeros up to 128. -/
def turnedTail (v : FVec Ideal S1x2048x6980 .f32) : FVec Ideal S128x2048 .bf16 :=
  truncf .bf16 (pad S128x2048 ![0, 0] ![60, 0] ![0, 0] (transpose S68x2048 [1, 0] (shapeCast S2048x68
      (extractStridedSlice S1x2048x68 ![0, 0, 6912] v slices_S1x2048x6980_S1x2048x68_0_0_6912) shapeCasts_S1x2048x68_S2048x68)
      transposes_S2048x68_S68x2048_1_0) ((sitofp .f32 (constantI S_ 32 0#32)) : FVec Ideal S_ .f32)
    pads_S68x2048_S128x2048_0600_000 h_S_) bitsLt_bf16_f32

theorem turnedTail_at (v : FVec Ideal S1x2048x6980 .f32) (l : Fin 128) (k : Fin 2048) :
    turnedTail v (ix2 l k) = if h : l.val < 68 then v (ix3 0 k ⟨6912 + l.val, by omega⟩) else 0 := by
  pointwise [turnedTail]
  have e : FloatOps.sitofp (F := Ideal) FTy.f32 0#32 = (0 : EReal) := by
    show (((0#32).toInt : ℝ) : EReal) = 0
    simp
  rw [e]

theorem x_arr (r : Fin 8192) (k : Fin 2048) : (V m c main_v11 : Vec Ideal S8192x2048 .f32) (ix2 r k)
    = m ((c.tc : Thread nD τ).loc main_arg0) (ix3 ⟨r.val / 4096, by omega⟩ ⟨r.val % 4096, by omega⟩ k) := by
  have e : (V m c main_v11 : Vec Ideal S8192x2048 .f32) = rows (m ((c.tc : Thread nD τ).loc main_arg0)) := rfl
  rw [e, rows_at]

theorem w_arr (k : Fin 2048) : (V m c main_v10 : Vec Ideal S1x2048 .f32) (ix2 0 k)
    = m ((c.tc : Thread nD τ).loc main_arg1) (ix2 0 k) := by
  have e : (V m c main_v10 : Vec Ideal S1x2048 .f32) = weights (m ((c.tc : Thread nD τ).loc main_arg1)) := rfl
  rw [e, weights_at]

theorem v_arr (j : Fin 2816) (k : Fin 2048) : (V m c main_v3 : Vec Ideal S2816x2048 .bf16) (ix2 j k)
    = m ((c.tc : Thread nD τ).loc main_arg2) (ix3 0 k ⟨4096 + j.val, by omega⟩) := by
  have e : (V m c main_v3 : Vec Ideal S2816x2048 .bf16) = turnedColumns (m ((c.tc : Thread nD τ).loc main_arg2)) := rfl
  rw [e, turnedColumns_at]

/-- The last 68 columns of the argument, as rows, and zeros. -/
def tailWeight (l : Fin 128) (k : Fin 2048) : EReal :=
  if h : l.val < 68 then m ((c.tc : Thread nD τ).loc main_arg2) (ix3 0 k ⟨6912 + l.val, by omega⟩) else 0

theorem q_arr (l : Fin 128) (k : Fin 2048) : (V m c main_v8 : Vec Ideal S128x2048 .bf16) (ix2 l k) = tailWeight m c l k := by
  have e : (V m c main_v8 : Vec Ideal S128x2048 .bf16) = turnedTail (m ((c.tc : Thread nD τ).loc main_arg2)) := rfl
  rw [e, turnedTail_at]
  rfl

/-! ## The blocks of a point -/

theorem x_at (t : Fin cfg0.N) (r : Fin 256) (k : Fin 2048) : (iblk m c 0 t : Vec Ideal S256x2048 .f32) (ix2 r k)
    = m ((c.tc : Thread nD τ).loc main_arg0) (ix3 ⟨(row t r).val / 4096, by omega⟩ ⟨(row t r).val % 4096, by omega⟩ k) := by
  have hi := (index_rows t).1
  refine (congrArg (V m c main_v11) (eq_ix2 _ (row t r) k ?_ (whole_place k _ hi.2))).trans (x_arr m c _ k)
  show win0_0.index t 0 * 256 + 1 * r.val = 256 * t.val + r.val
  rw [hi.1]; omega

theorem w_at (t : Fin cfg0.N) (k : Fin 2048) : (iblk m c 1 t : Vec Ideal S1x2048 .f32) (ix2 0 k)
    = m ((c.tc : Thread nD τ).loc main_arg1) (ix2 0 k) := by
  have hi := (index_whole t).1
  exact (congrArg (V m c main_v10) (eq_ix2 _ 0 k (whole_place (0 : Fin 1) _ hi.1) (whole_place k _ hi.2))).trans (w_arr m c k)

theorem v_at (t : Fin cfg0.N) (j : Fin 2816) (k : Fin 2048) : (iblk m c 2 t : Vec Ideal S2816x2048 .bf16) (ix2 j k)
    = m ((c.tc : Thread nD τ).loc main_arg2) (ix3 0 k ⟨4096 + j.val, by omega⟩) := by
  have hi := (index_whole t).2.1
  exact (congrArg (V m c main_v3) (eq_ix2 _ j k (whole_place j _ hi.1) (whole_place k _ hi.2))).trans (v_arr m c j k)

theorem q_at (t : Fin cfg0.N) (l : Fin 128) (k : Fin 2048) : (iblk m c 3 t : Vec Ideal S128x2048 .bf16) (ix2 l k)
    = tailWeight m c l k := by
  have hi := (index_whole t).2.2
  exact (congrArg (V m c main_v8) (eq_ix2 _ l k (whole_place l _ hi.1) (whole_place k _ hi.2))).trans (q_arr m c l k)

/-- Row `r` of point `t`'s tables is that of its position. -/
theorem position_row (t : Fin cfg0.N) (r : Fin 256) (q : ℕ) (hq : q = t.val % 16) :
    q * 256 + 1 * r.val = (position (row t r)).val := by
  show q * 256 + 1 * r.val = (256 * t.val + r.val) % 4096
  omega

/-- The angles' cosines and sines for the heads of width 128, and for those of width 64. -/
abbrev wideCosine (r : Fin 8192) : ℕ → EReal := cosine 0xBD800000#32 r
abbrev wideSine (r : Fin 8192) : ℕ → EReal := sine 0xBD800000#32 r
abbrev narrowCosine (r : Fin 8192) : ℕ → EReal := cosine 0xBE000000#32 r
abbrev narrowSine (r : Fin 8192) : ℕ → EReal := sine 0xBE000000#32 r

theorem wide_cosines_at (t : Fin cfg0.N) (r : Fin 256) (l : Fin 128) : (iblk m c 4 t : Vec Ideal S256x128 .f32) (ix2 r l)
    = lane 128 16 (wideCosine (row t r)) (wideCosine (row t r)) 1 l.val := by
  have hi := (index_rows t).2.1
  exact (congrArg (V m c main_v35) (eq_ix2 _ (position (row t r)) l (position_row t r _ hi.1) (whole_place l _ hi.2))).trans
    (SelTables.wide_cosines_arr m c _ l)

theorem wide_lows_at (t : Fin cfg0.N) (r : Fin 256) (l : Fin 128) : (iblk m c 5 t : Vec Ideal S256x128 .f32) (ix2 r l)
    = lane 128 16 (fun i => -wideSine (row t r) i) (fun _ => 0) 0 l.val := by
  have hi := (index_rows t).2.2.1
  exact (congrArg (V m c main_v38) (eq_ix2 _ (position (row t r)) l (position_row t r _ hi.1) (whole_place l _ hi.2))).trans
    (SelTables.wide_lows_arr m c _ l)

theorem wide_highs_at (t : Fin cfg0.N) (r : Fin 256) (l : Fin 128) : (iblk m c 6 t : Vec Ideal S256x128 .f32) (ix2 r l)
    = lane 128 16 (fun _ => 0) (wideSine (row t r)) 0 l.val := by
  have hi := (index_rows t).2.2.2.1
  exact (congrArg (V m c main_v41) (eq_ix2 _ (position (row t r)) l (position_row t r _ hi.1) (whole_place l _ hi.2))).trans
    (SelTables.wide_highs_arr m c _ l)

theorem cosines_at (t : Fin cfg0.N) (r : Fin 256) (l : Fin 128) : (iblk m c 7 t : Vec Ideal S256x128 .f32) (ix2 r l)
    = lane 64 8 (narrowCosine (row t r)) (narrowCosine (row t r)) 1 l.val := by
  have hi := (index_rows t).2.2.2.2.1
  exact (congrArg (V m c main_v64) (eq_ix2 _ (position (row t r)) l (position_row t r _ hi.1) (whole_place l _ hi.2))).trans
    (SelTables.cosines_arr m c _ l)

theorem lows_at (t : Fin cfg0.N) (r : Fin 256) (l : Fin 128) : (iblk m c 8 t : Vec Ideal S256x128 .f32) (ix2 r l)
    = lane 64 8 (fun i => -narrowSine (row t r) i) (fun _ => 0) 0 l.val := by
  have hi := (index_rows t).2.2.2.2.2.1
  exact (congrArg (V m c main_v67) (eq_ix2 _ (position (row t r)) l (position_row t r _ hi.1) (whole_place l _ hi.2))).trans
    (SelTables.lows_arr m c _ l)

theorem highs_at (t : Fin cfg0.N) (r : Fin 256) (l : Fin 128) : (iblk m c 9 t : Vec Ideal S256x128 .f32) (ix2 r l)
    = lane 64 8 (fun _ => 0) (narrowSine (row t r)) 0 l.val := by
  have hi := (index_rows t).2.2.2.2.2.2
  exact (congrArg (V m c main_v70) (eq_ix2 _ (position (row t r)) l (position_row t r _ hi.1) (whole_place l _ hi.2))).trans
    (SelTables.highs_arr m c _ l)

/-- Row `r` of the arguments, normed, times column `4096 + j` of the weights. -/
def column (r : Fin 8192) (j : Fin 2884) : EReal :=
  projected (fun k => m ((c.tc : Thread nD τ).loc main_arg0) (ix3 ⟨r.val / 4096, by omega⟩ ⟨r.val % 4096, by omega⟩ k))
    (fun k => m ((c.tc : Thread nD τ).loc main_arg1) (ix2 0 k))
    (fun k => m ((c.tc : Thread nD τ).loc main_arg2) (ix3 0 k ⟨4096 + j.val, by omega⟩))

theorem column_at (t : Fin cfg0.N) (r : Fin 256) :
    SelBlock.column (iblk m c 0 t) (iblk m c 1 t) (iblk m c 2 t) r = fun j => column m c (row t r) ⟨j.val, by omega⟩ := by
  funext j
  unfold SelBlock.column SelBlock.product column
  simp only [x_at, w_at, v_at]

/-- The product with the last weight: the last 68 columns, then zeros. -/
def tail (r : Fin 8192) (l : Fin 128) : EReal := if h : l.val < 68 then column m c r ⟨2816 + l.val, by omega⟩ else 0

theorem tail_at (t : Fin cfg0.N) (r : Fin 256) :
    SelBlock.product (iblk m c 0 t) (iblk m c 1 t) (iblk m c 3 t) r = tail m c (row t r) := by
  funext l
  unfold SelBlock.product tail
  simp only [x_at, w_at, q_at, tailWeight]
  split
  · exact congrArg (projected _ _) (funext fun k => congrArg _ (congrArg (ix3 0 k) (Fin.ext (by show 6912 + l.val = 4096 + (2816 + l.val); omega))))
  · simp only [projected, mul_zero, Finset.sum_const_zero]

/-! ## The results -/

/-- The queries: the first 1024 columns, rotated and scaled. -/
def query (r : Fin 8192) (j : Fin 1024) : EReal :=
  rotated 128 16 (fun i : Fin 1024 => column m c r ⟨i.val, by omega⟩) (wideCosine r) (wideSine r) j * Ideal.ofBits .f32 0x3E0293EE#32

/-- The keys: the next 256, rotated. -/
def key (r : Fin 8192) (j : Fin 256) : EReal :=
  rotated 128 16 (fun i : Fin 256 => column m c r ⟨1024 + i.val, by omega⟩) (wideCosine r) (wideSine r) j

/-- The values: the next 256. -/
def value (r : Fin 8192) (j : Fin 256) : EReal := column m c r ⟨1280 + j.val, by omega⟩

/-- The gate: the next 1024. -/
def gate (r : Fin 8192) (j : Fin 1024) : EReal := silu (column m c r ⟨1536 + j.val, by omega⟩)

/-- The index queries: the next 256, rotated. -/
def index (r : Fin 8192) (j : Fin 256) : EReal :=
  rotated 64 8 (fun i : Fin 256 => column m c r ⟨2560 + i.val, by omega⟩) (narrowCosine r) (narrowSine r) j

/-- The index keys, which are the next 64, rotated; the last four columns; and zeros. -/
def last (r : Fin 8192) (l : Fin 128) : EReal :=
  if h : l.val < 64 then
    rotated 64 8 (fun j : Fin 64 => column m c r ⟨2816 + j.val, by omega⟩) (narrowCosine r) (narrowSine r) ⟨l.val, h⟩
  else if h : l.val - 64 < 4 then column m c r ⟨2880 + (l.val - 64), by omega⟩ else 0

theorem last_eq (r : Fin 8192) (l : Fin 128) :
    (if l.val < 64 then rotated 64 8 (tail m c r) (narrowCosine r) (narrowSine r) l else tail m c r l) = last m c r l := by
  unfold last
  split
  · next h =>
    refine (rotated_head (n := 128) (by omega) (tail m c r) (narrowCosine r) (narrowSine r) ⟨l.val, h⟩).trans
      (congrArg (fun z : Fin 64 → EReal => rotated 64 8 z (narrowCosine r) (narrowSine r) ⟨l.val, h⟩) (funext fun j => ?_))
    exact dif_pos (show j.val < 68 by omega)
  · next h =>
    unfold tail
    by_cases h' : l.val < 68
    · rw [dif_pos h', dif_pos (show l.val - 64 < 4 by omega)]
      exact congrArg (column m c r) (Fin.ext (by show 2816 + l.val = 2880 + (l.val - 64); omega))
    · rw [dif_neg h', dif_neg (show ¬l.val - 64 < 4 by omega)]

def queries : Buf (Elt Ideal) ((c.tc : Thread nD τ).loc main_v71_0) := (fun i => query m c (i 0) (i 1) : Vec Ideal S8192x1024 .bf16)
def keys : Buf (Elt Ideal) ((c.tc : Thread nD τ).loc main_v71_1) := (fun i => key m c (i 0) (i 1) : Vec Ideal S8192x256 .f32)
def values : Buf (Elt Ideal) ((c.tc : Thread nD τ).loc main_v71_2) := (fun i => value m c (i 0) (i 1) : Vec Ideal S8192x256 .f32)
def gates : Buf (Elt Ideal) ((c.tc : Thread nD τ).loc main_v71_3) := (fun i => gate m c (i 0) (i 1) : Vec Ideal S8192x1024 .f32)
def indices : Buf (Elt Ideal) ((c.tc : Thread nD τ).loc main_v71_4) := (fun i => index m c (i 0) (i 1) : Vec Ideal S8192x256 .bf16)
def lasts : Buf (Elt Ideal) ((c.tc : Thread nD τ).loc main_v71_5) := (fun i => last m c (i 0) (i 1) : Vec Ideal S8192x128 .f32)
def turned : Buf (Elt Ideal) ((c.tc : Thread nD τ).loc main_v71_6) := (fun i => value m c (i 1) (i 0) : Vec Ideal S256x8192 .bf16)

/-- Row `r` of row block `a` is row `r` of point `t`'s, where `a` is `t`. -/
theorem row_place (t : Fin cfg0.N) (r : Fin 256) (a : ℕ) (ha : a = t.val) : a * 256 + 1 * r.val = (row t r).val := by
  show a * 256 + 1 * r.val = 256 * t.val + r.val
  omega

/-- Every index of a block is a row and a column. -/
theorem exists_ix2 {p q : ℕ} (i : (⟨2, ![p, q]⟩ : Shape).Idx) : ∃ (r : Fin p) (j : Fin q), i = ix2 r j :=
  ⟨i 0, i 1, eq_ix2 _ _ _ rfl rfl⟩

/-- An index of an array of 8192 rows lies in the block of rows that holds its row. -/
theorem rows_bounds {n : ℕ} (i : (⟨2, ![8192, n]⟩ : Shape).Idx) (a : Fin 2 → ℕ) (h : a 0 = (i 0).val / 256 ∧ a 1 = 0) (d : Fin 2) :
    a d * (![256, n] : Fin 2 → ℕ) d ≤ (i d).val ∧ (i d).val < a d * (![256, n] : Fin 2 → ℕ) d + (![256, n] : Fin 2 → ℕ) d :=
  match d with
  | ⟨0, _⟩ => row_bounds _ _ _ rfl h.1
  | ⟨1, _⟩ => whole_bounds n _ _ (i 1).isLt h.2

/-- The point whose blocks hold row `r`. -/
def point (r : Fin 8192) : Fin cfg0.N := ⟨r.val / 256, by have : cfg0.N = 32 := N_0; omega⟩

/-- The first result ends holding the queries. -/
theorem queries_final : (dats m 0 c).arrAt 10 cfg0.N = queries m c := by
  refine (dats m 0 c).arrAt_eq_of_cover 10 (queries m c) (fun t _ => ?_) fun i => ⟨point ((i : S8192x1024.Idx) 0), flush0_10 _, ?_⟩
  · have hi := (index_results t).1
    rw [Value.flushed10]
    funext y
    obtain ⟨r, j, rfl⟩ := exists_ix2 (p := 256) (q := 1024) y
    have hemb : ((cfg0.win 10).blk t).view.emb (ix2 r j) = (ix2 (row t r) j : S8192x1024.Idx) :=
      eq_ix2 _ _ _ (row_place t r _ hi.1) (whole_place j _ hi.2)
    refine (SelBlock.queries_at _ _ _ _ _ _ _ _ _ _ (fun r => wideCosine (row t r)) (fun r => wideSine (row t r))
      (wide_cosines_at m c t) (wide_lows_at m c t) (wide_highs_at m c t) r j).trans (Eq.trans ?_ (congrArg (queries m c) hemb).symm)
    rw [column_at]
    rfl
  · show (i : S8192x1024.Idx) ∈ ((View.whole main_v71_0).slice (win0_10.rect (point ((i : S8192x1024.Idx) 0)))).set
    rw [View.set_slice_whole, Rect.mem_set_unit]
    exact rows_bounds (n := 1024) i _ (index_results _).1

/-- The second ends holding the keys. -/
theorem keys_final : (dats m 0 c).arrAt 11 cfg0.N = keys m c := by
  refine (dats m 0 c).arrAt_eq_of_cover 11 (keys m c) (fun t _ => ?_) fun i => ⟨point ((i : S8192x256.Idx) 0), flush0_11 _, ?_⟩
  · have hi := (index_results t).2.1
    rw [Value.flushed11]
    funext y
    obtain ⟨r, j, rfl⟩ := exists_ix2 (p := 256) (q := 256) y
    have hemb : ((cfg0.win 11).blk t).view.emb (ix2 r j) = (ix2 (row t r) j : S8192x256.Idx) :=
      eq_ix2 _ _ _ (row_place t r _ hi.1) (whole_place j _ hi.2)
    refine (SelBlock.keys_at _ _ _ _ _ _ _ _ _ _ (fun r => wideCosine (row t r)) (fun r => wideSine (row t r))
      (wide_cosines_at m c t) (wide_lows_at m c t) (wide_highs_at m c t) r j).trans (Eq.trans ?_ (congrArg (keys m c) hemb).symm)
    rw [column_at]
    rfl
  · show (i : S8192x256.Idx) ∈ ((View.whole main_v71_1).slice (win0_11.rect (point ((i : S8192x256.Idx) 0)))).set
    rw [View.set_slice_whole, Rect.mem_set_unit]
    exact rows_bounds (n := 256) i _ (index_results _).2.1

/-- The third ends holding the values. -/
theorem values_final : (dats m 0 c).arrAt 12 cfg0.N = values m c := by
  refine (dats m 0 c).arrAt_eq_of_cover 12 (values m c) (fun t _ => ?_) fun i => ⟨point ((i : S8192x256.Idx) 0), flush0_12 _, ?_⟩
  · have hi := (index_results t).2.2.1
    rw [Value.flushed12]
    funext y
    obtain ⟨r, j, rfl⟩ := exists_ix2 (p := 256) (q := 256) y
    have hemb : ((cfg0.win 12).blk t).view.emb (ix2 r j) = (ix2 (row t r) j : S8192x256.Idx) :=
      eq_ix2 _ _ _ (row_place t r _ hi.1) (whole_place j _ hi.2)
    refine (SelBlock.values_at _ _ _ _ _ _ _ _ _ _ r j).trans (Eq.trans ?_ (congrArg (values m c) hemb).symm)
    rw [column_at]
    rfl
  · show (i : S8192x256.Idx) ∈ ((View.whole main_v71_2).slice (win0_12.rect (point ((i : S8192x256.Idx) 0)))).set
    rw [View.set_slice_whole, Rect.mem_set_unit]
    exact rows_bounds (n := 256) i _ (index_results _).2.2.1

/-- The fourth ends holding the gate. -/
theorem gates_final : (dats m 0 c).arrAt 13 cfg0.N = gates m c := by
  refine (dats m 0 c).arrAt_eq_of_cover 13 (gates m c) (fun t _ => ?_) fun i => ⟨point ((i : S8192x1024.Idx) 0), flush0_13 _, ?_⟩
  · have hi := (index_results t).2.2.2.1
    rw [Value.flushed13]
    funext y
    obtain ⟨r, j, rfl⟩ := exists_ix2 (p := 256) (q := 1024) y
    have hemb : ((cfg0.win 13).blk t).view.emb (ix2 r j) = (ix2 (row t r) j : S8192x1024.Idx) :=
      eq_ix2 _ _ _ (row_place t r _ hi.1) (whole_place j _ hi.2)
    refine (SelBlock.gate_at _ _ _ _ _ _ _ _ _ _ r j).trans (Eq.trans ?_ (congrArg (gates m c) hemb).symm)
    rw [column_at]
    rfl
  · show (i : S8192x1024.Idx) ∈ ((View.whole main_v71_3).slice (win0_13.rect (point ((i : S8192x1024.Idx) 0)))).set
    rw [View.set_slice_whole, Rect.mem_set_unit]
    exact rows_bounds (n := 1024) i _ (index_results _).2.2.2.1

/-- The fifth ends holding the index queries. -/
theorem indices_final : (dats m 0 c).arrAt 14 cfg0.N = indices m c := by
  refine (dats m 0 c).arrAt_eq_of_cover 14 (indices m c) (fun t _ => ?_) fun i => ⟨point ((i : S8192x256.Idx) 0), flush0_14 _, ?_⟩
  · have hi := (index_results t).2.2.2.2.1
    rw [Value.flushed14]
    funext y
    obtain ⟨r, j, rfl⟩ := exists_ix2 (p := 256) (q := 256) y
    have hemb : ((cfg0.win 14).blk t).view.emb (ix2 r j) = (ix2 (row t r) j : S8192x256.Idx) :=
      eq_ix2 _ _ _ (row_place t r _ hi.1) (whole_place j _ hi.2)
    refine (SelBlock.index_at _ _ _ _ _ _ _ _ _ _ (fun r => narrowCosine (row t r)) (fun r => narrowSine (row t r))
      (cosines_at m c t) (lows_at m c t) (highs_at m c t) r j).trans (Eq.trans ?_ (congrArg (indices m c) hemb).symm)
    rw [column_at]
    rfl
  · show (i : S8192x256.Idx) ∈ ((View.whole main_v71_4).slice (win0_14.rect (point ((i : S8192x256.Idx) 0)))).set
    rw [View.set_slice_whole, Rect.mem_set_unit]
    exact rows_bounds (n := 256) i _ (index_results _).2.2.2.2.1

/-- The sixth ends holding the index keys and the index heads' weights. -/
theorem lasts_final : (dats m 0 c).arrAt 15 cfg0.N = lasts m c := by
  refine (dats m 0 c).arrAt_eq_of_cover 15 (lasts m c) (fun t _ => ?_) fun i => ⟨point ((i : S8192x128.Idx) 0), flush0_15 _, ?_⟩
  · have hi := (index_results t).2.2.2.2.2.1
    rw [Value.flushed15]
    funext y
    obtain ⟨r, l, rfl⟩ := exists_ix2 (p := 256) (q := 128) y
    have hemb : ((cfg0.win 15).blk t).view.emb (ix2 r l) = (ix2 (row t r) l : S8192x128.Idx) :=
      eq_ix2 _ _ _ (row_place t r _ hi.1) (whole_place l _ hi.2)
    refine (SelBlock.last_at _ _ _ _ _ _ _ _ _ _ (fun r => narrowCosine (row t r)) (fun r => narrowSine (row t r))
      (cosines_at m c t) (lows_at m c t) (highs_at m c t) r l).trans (Eq.trans ?_ (congrArg (lasts m c) hemb).symm)
    rw [tail_at]
    exact last_eq m c (row t r) l
  · show (i : S8192x128.Idx) ∈ ((View.whole main_v71_5).slice (win0_15.rect (point ((i : S8192x128.Idx) 0)))).set
    rw [View.set_slice_whole, Rect.mem_set_unit]
    exact rows_bounds (n := 128) i _ (index_results _).2.2.2.2.2.1

/-- The seventh ends holding the values, turned. -/
theorem turned_final : (dats m 0 c).arrAt 16 cfg0.N = turned m c := by
  refine (dats m 0 c).arrAt_eq_of_cover 16 (turned m c) (fun t _ => ?_) fun i => ⟨point ((i : S256x8192.Idx) 1), flush0_16 _, ?_⟩
  · have hi := (index_results t).2.2.2.2.2.2
    rw [Value.flushed16]
    funext y
    obtain ⟨j, r, rfl⟩ := exists_ix2 (p := 256) (q := 256) y
    have hemb : ((cfg0.win 16).blk t).view.emb (ix2 j r) = (ix2 j (row t r) : S256x8192.Idx) :=
      eq_ix2 _ _ _ (whole_place j _ hi.1) (row_place t r _ hi.2)
    refine (SelBlock.turned_at _ _ _ _ _ _ _ _ _ _ r j).trans (Eq.trans ?_ (congrArg (turned m c) hemb).symm)
    rw [column_at]
    rfl
  · have hi := (index_results (point ((i : S256x8192.Idx) 1))).2.2.2.2.2.2
    show (i : S256x8192.Idx) ∈ ((View.whole main_v71_6).slice (win0_16.rect (point ((i : S256x8192.Idx) 1)))).set
    rw [View.set_slice_whole, Rect.mem_set_unit]
    intro a
    match a with
    | ⟨0, _⟩ => exact whole_bounds 256 _ _ ((i : S256x8192.Idx) 0).isLt hi.1
    | ⟨1, _⟩ => exact row_bounds _ _ _ rfl hi.2

end Cert.Proof.SelValue

end
-- ==== Proof.SampleRow.lean ====
/-
  The rotation of the sample group's rows: every sample's one token is at position 16384.
-/
module

public import proofs.«01_k».proof.Proof.InRow

@[expose] public section

noncomputable section

open Idealize.ShloMosaic

namespace Cert.Proof.SampleRow

open Cert.Proof.InRow

/-- The cosine and sine of pair `i` at the samples' position. -/
def cosine (step : BitVec 32) (i : ℕ) : EReal := Ideal.cos (angle step 16384 i)

def sine (step : BitVec 32) (i : ℕ) : EReal := Ideal.sin (angle step 16384 i)

end Cert.Proof.SampleRow

end
-- ==== Proof.SampleInRef.lean ====
/-
  What the reference of the sample group's input projection computes: each entry of its results is the row function of `InRow`
  at that token's row of the arguments.
-/
module

public import proofs.«01_k».proof.Proof.Gen.Reference4Ideal.Run
public import proofs.«01_k».proof.Proof.SampleRow
public import Idealize.ShloMosaic.Lib.Pointwise

@[expose] public section

set_option maxRecDepth 65536

noncomputable section

open Idealize.ShloMosaic Idealize.ShloMosaic.TcCoe Idealize.SL.Sem

namespace Cert.Proof.SampleInRef

open Cert.Reference4Ideal Cert.Reference4Ideal.Gen Cert.Proof.InRow Cert.Proof.SampleRow

/-- The angles: each position times each of the eight frequencies. -/
def angles : FVec Ideal S1x8 .f32 :=
  mulf (broadcastInDim S1x8 ![0, 1] bcast_S1x1_S1x8_0_1
      (broadcastInDim S1x1 ![0] bcast_S1_S1x1_0 (sitofp .f32 (addi (broadcastInDim S1 ![] bcast_S_S1 (constantI S_ 32 16384#32)) (iotaInDim S1 32 0)))))
    (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0)))))

/-- One value per position and pair, the same for every sequence, head and map. -/
def spread (a : FVec Ideal S1x1x1x8 .f32) : FVec Ideal S8x1x8x2x8 .f32 :=
  broadcastInDim S8x1x8x2x8 ![0, 1, 2, 3, 4] bcast_S1x1x1x1x8_S8x1x8x2x8_0_1_2_3_4
    (broadcastInDim S1x1x1x1x8 ![1, 2, 3, 4] bcast_S1x1x1x8_S1x1x1x1x8_1_2_3_4 a)

/-- The rotation of every head's leading entries by the angles `a`. -/
def turned (a : FVec Ideal S1x1x1x8 .f32) (p : FVec Ideal S8x1x8x2x64 .f32) : FVec Ideal S8x1x8x2x64 .f32 :=
  concatenate S8x1x8x2x64 4
    [⟨S8x1x8x2x8, subf
        (mulf (extractStridedSlice S8x1x8x2x8 ![0, 0, 0, 0, 0] p slices_S8x1x8x2x64_S8x1x8x2x8_0_0_0_0_0) (spread (Host.cos a)))
        (mulf (extractStridedSlice S8x1x8x2x8 ![0, 0, 0, 0, 8] p slices_S8x1x8x2x64_S8x1x8x2x8_0_0_0_0_8) (spread (Host.sin a)))⟩,
     ⟨S8x1x8x2x8, addf
        (mulf (extractStridedSlice S8x1x8x2x8 ![0, 0, 0, 0, 8] p slices_S8x1x8x2x64_S8x1x8x2x8_0_0_0_0_8) (spread (Host.cos a)))
        (mulf (extractStridedSlice S8x1x8x2x8 ![0, 0, 0, 0, 0] p slices_S8x1x8x2x64_S8x1x8x2x8_0_0_0_0_0) (spread (Host.sin a)))⟩,
     ⟨S8x1x8x2x48, extractStridedSlice S8x1x8x2x48 ![0, 0, 0, 0, 16] p slices_S8x1x8x2x64_S8x1x8x2x48_0_0_0_0_16⟩]
    concatenates_S8x1x8x2x8_S8x1x8x2x8_S8x1x8x2x48_S8x1x8x2x64_d4

theorem angles_at (i : Fin 8) : angles (ix2 0 i) = angle 0xBE000000#32 16384 i.val := by
  pointwise [angles]
  rfl

/-- The rotated heads, back in rows, entry by entry. -/
theorem turned_at (a : FVec Ideal S1x8 .f32) (p : FVec Ideal S8x1x1024 .f32) (r : Fin 8) (J : Fin 1024) (α : ℕ → EReal)
    (ha : ∀ i : Fin 8, a (ix2 0 i) = α i.val) :
    shapeCast S8x1024 (turned (shapeCast _ a shapeCasts_S1x8_S1x1x1x8)
      (shapeCast _ p shapeCasts_S8x1x1024_S8x1x8x2x64)) shapeCasts_S8x1x8x2x64_S8x1024 (ix2 r J)
      = rotated 64 8 (fun j => p (ix3 r 0 j))
          (fun i => Ideal.cos (α i)) (fun i => Ideal.sin (α i)) J := by
  have hJ := J.isLt
  pointwise [turned, spread]
  simp only [ha]
  let z : Fin 1024 → EReal := fun j => p (ix3 r 0 j)
  by_cases h : J.val % 64 < 8
  · exact (dif_pos h).trans (rotated_low z (fun i => Ideal.cos (α i)) (fun i => Ideal.sin (α i)) J
      ⟨J.val / 128 * 128 + J.val / 64 % 2 * 64 + (8 + J.val % 64), by omega⟩ h (by
        show J.val / 128 * 128 + J.val / 64 % 2 * 64 + (8 + J.val % 64) = J.val + 8
        omega)).symm
  · refine (dif_neg h).trans ?_
    by_cases h' : J.val % 64 - 8 < 8
    · have e : (⟨J.val / 128 * 128 + J.val / 64 % 2 * 64 + (8 + (J.val % 64 - 8)), by omega⟩ : Fin 1024) = J :=
        Fin.ext (by show J.val / 128 * 128 + J.val / 64 % 2 * 64 + (8 + (J.val % 64 - 8)) = J.val; omega)
      refine (dif_pos h').trans ?_
      refine (congrArg (fun j => z j * Ideal.cos (α (J.val % 64 - 8))
        + z ⟨J.val / 128 * 128 + J.val / 64 % 2 * 64 + (J.val % 64 - 8), by omega⟩ * Ideal.sin (α (J.val % 64 - 8))) e).trans ?_
      exact (rotated_high z (fun i => Ideal.cos (α i)) (fun i => Ideal.sin (α i)) J _ h h' (by
        show J.val / 128 * 128 + J.val / 64 % 2 * 64 + (J.val % 64 - 8) = J.val - 8
        omega)).symm
    · have e : (⟨J.val / 128 * 128 + J.val / 64 % 2 * 64 + (16 + (J.val % 64 - 8 - 8)), by omega⟩ : Fin 1024) = J :=
        Fin.ext (by show J.val / 128 * 128 + J.val / 64 % 2 * 64 + (16 + (J.val % 64 - 8 - 8)) = J.val; omega)
      refine (dif_neg h').trans ?_
      exact (congrArg z e).trans (rotated_rest z (fun i => Ideal.cos (α i)) (fun i => Ideal.sin (α i)) J h h').symm

/-- The normed tokens times the first 4096 columns of the input weights. -/
def projection (x : FVec Ideal S8x1x2048 .f32) (nw : FVec Ideal S1x2048 .f32) (w : FVec Ideal S1x2048x6980 .f32) :
    FVec Ideal S8x1x4096 .f32 :=
  Host.dotGeneral dot_S8x1x2048_S2048x4096_S8x1x4096_2_0_01_1_n_n none
    (mulf (mulf x (broadcastInDim S8x1x2048 ![0, 1, 2] bcast_S8x1x1_S8x1x2048_0_1_2
        (Host.rsqrt (addf (Host.divf (broadcastInDim S8x1x1 ![0, 1] bcast_S8x1_S8x1x1_0_1
          (Host.reduceAdd (mulf x x) (constant S_ .f32 0x00000000#32) reducesTo_S8x1x2048_S8x1_d2 h_S_))
            (broadcastInDim S8x1x1 ![] bcast_S_S8x1x1 (constant S_ .f32 0x45000000#32)))
          (broadcastInDim S8x1x1 ![] bcast_S_S8x1x1 (constant S_ .f32 0x358637BD#32))))))
      (broadcastInDim S8x1x2048 ![0, 1, 2] bcast_S1x1x2048_S8x1x2048_0_1_2
        (broadcastInDim S1x1x2048 ![2] bcast_S2048_S1x1x2048_2 (shapeCast _ nw shapeCasts_S1x2048_S2048))))
    (shapeCast _ (extractStridedSlice S1x2048x4096 ![0, 0, 0] w slices_S1x2048x6980_S1x2048x4096_0_0_0)
      shapeCasts_S1x2048x4096_S2048x4096)

theorem projection_at (x : FVec Ideal S8x1x2048 .f32) (nw : FVec Ideal S1x2048 .f32) (w : FVec Ideal S1x2048x6980 .f32)
    (b : Fin 8) (j : Fin 4096) : projection x nw w (ix3 b 0 j)
      = projected (fun k => x (ix3 b 0 k)) (fun k => nw (ix2 0 k)) (fun k => w (ix3 0 k ⟨j.val, by omega⟩)) := by
  pointwise [projection]
  rfl

variable (m : (ℓ : Loc nD τ sig) → Buf (Elt Ideal) ℓ) (c : Dev nD)

/-- The projection of the arguments. -/
abbrev whole : FVec Ideal S8x1x4096 .f32 := projection (m ((c.tc : Thread nD τ).loc main_arg0))
  (m ((c.tc : Thread nD τ).loc main_arg1)) (m ((c.tc : Thread nD τ).loc main_arg2))

/-- Token `r` of the arguments times column `j` of the weights. -/
def column (r : Fin 8) (j : Fin 4096) : EReal :=
  projected (fun k => m ((c.tc : Thread nD τ).loc main_arg0) (ix3 r 0 k))
    (fun k => m ((c.tc : Thread nD τ).loc main_arg1) (ix2 0 k))
    (fun k => m ((c.tc : Thread nD τ).loc main_arg2) (ix3 0 k ⟨j.val, by omega⟩))

theorem queries_at (r : Fin 8) (J : Fin 1024) : (Cert.Reference4Ideal.Value.res_out0 m c : FVec Ideal S8x1024 .bf16) (ix2 r J)
    = rotated 64 8 (fun j : Fin 1024 => column m c r ⟨j.val, by omega⟩) (cosine 0xBE000000#32) (sine 0xBE000000#32) J * Ideal.ofBits .f32 0x3E38AA3B#32 := by
  have e : (Cert.Reference4Ideal.Value.res_out0 m c : FVec Ideal S8x1024 .bf16)
      = truncf .bf16 (shapeCast _ (mulf (turned (shapeCast _ angles shapeCasts_S1x8_S1x1x1x8)
          (shapeCast _ (extractStridedSlice S8x1x1024 ![0, 0, 0] (whole m c) slices_S8x1x4096_S8x1x1024_0_0_0)
            shapeCasts_S8x1x1024_S8x1x8x2x64))
          (broadcastInDim S8x1x8x2x64 ![] bcast_S_S8x1x8x2x64 (constant S_ .f32 0x3E38AA3B#32)))
          shapeCasts_S8x1x8x2x64_S8x1024) bitsLt_bf16_f32 := rfl
  rw [e]
  refine (congrArg (· * Ideal.ofBits .f32 0x3E38AA3B#32) (turned_at angles _ r J _ fun i => angles_at i)).trans ?_
  refine congrArg (fun z : Fin 1024 → EReal => rotated 64 8 z (cosine 0xBE000000#32) (sine 0xBE000000#32) J * Ideal.ofBits .f32 0x3E38AA3B#32) (funext fun j => ?_)
  pointwise
  exact projection_at _ _ _ _ _

theorem keys_at (r : Fin 8) (J : Fin 1024) : (Cert.Reference4Ideal.Value.res_out1 m c : FVec Ideal S8x1024 .f32) (ix2 r J)
    = rotated 64 8 (fun j : Fin 1024 => column m c r ⟨1024 + j.val, by omega⟩) (cosine 0xBE000000#32) (sine 0xBE000000#32) J := by
  have e : (Cert.Reference4Ideal.Value.res_out1 m c : FVec Ideal S8x1024 .f32)
      = shapeCast _ (turned (shapeCast _ angles shapeCasts_S1x8_S1x1x1x8)
          (shapeCast _ (extractStridedSlice S8x1x1024 ![0, 0, 1024] (whole m c) slices_S8x1x4096_S8x1x1024_0_0_1024)
            shapeCasts_S8x1x1024_S8x1x8x2x64)) shapeCasts_S8x1x8x2x64_S8x1024 := rfl
  rw [e]
  refine (turned_at angles _ r J _ fun i => angles_at i).trans (congrArg (fun z : Fin 1024 → EReal => rotated 64 8 z (cosine 0xBE000000#32) (sine 0xBE000000#32) J) (funext fun j => ?_))
  pointwise
  exact projection_at _ _ _ _ _

/-- The values: a slice of the projection. -/
abbrev values : FVec Ideal S8x1024 .f32 :=
  shapeCast _ (extractStridedSlice S8x1x1024 ![0, 0, 2048] (whole m c) slices_S8x1x4096_S8x1x1024_0_0_2048)
    shapeCasts_S8x1x1024_S8x1024

theorem values_at (r : Fin 8) (J : Fin 1024) : values m c (ix2 r J) = column m c r ⟨2048 + J.val, by omega⟩ := by
  pointwise
  exact projection_at _ _ _ _ _

/-- The gate: the last slice of the projection, times its own sigmoid. -/
abbrev gates : FVec Ideal S8x1024 .f32 :=
  let g : FVec Ideal S8x1x1024 .f32 := extractStridedSlice S8x1x1024 ![0, 0, 3072] (whole m c) slices_S8x1x4096_S8x1x1024_0_0_3072
  shapeCast _ (mulf g (Host.divf (broadcastInDim S8x1x1024 ![] bcast_S_S8x1x1024 (constant S_ .f32 0x3F800000#32))
      (addf (broadcastInDim S8x1x1024 ![] bcast_S_S8x1x1024 (constant S_ .f32 0x3F800000#32)) (Host.exp (Host.negf g)))))
    shapeCasts_S8x1x1024_S8x1024

theorem gates_at (r : Fin 8) (J : Fin 1024) : gates m c (ix2 r J) = silu (column m c r ⟨3072 + J.val, by omega⟩) := by
  have e : whole m c (ix3 r 0 ⟨3072 + J.val, by omega⟩)
      = column m c r ⟨3072 + J.val, by omega⟩ := projection_at _ _ _ _ _
  unfold gates
  pointwise
  rw [e]
  rfl

end Cert.Proof.SampleInRef

end
-- ==== Proof.SampleInBlock.lean ====
/-
  What the input projection of the sample group stores: each entry of its 8 rows is the row function of `InRow` at that row of
  the blocks.
-/
module

public import proofs.«01_k».proof.Proof.Gen.Kernel4Ideal.Value
public import proofs.«01_k».proof.Proof.InRow
public import Idealize.ShloMosaic.Lib.Pointwise

@[expose] public section

set_option maxRecDepth 16384

noncomputable section

open Idealize.ShloMosaic Idealize.ShloMosaic.TcCoe Idealize.SL.Sem

namespace Cert.Proof.SampleInBlock

open Cert.Kernel4Ideal Cert.Kernel4Ideal.Gen Cert.Proof.InRow

/-- The normed rows of a block times 1024 rows of the weights. -/
def product (x : Vec Ideal S8x2048 .f32) (w : Vec Ideal S1x2048 .f32) (u : Vec Ideal S1024x2048 .bf16) (r : Fin 8)
    (j : Fin 1024) : EReal := projected (fun k => x (ix2 r k)) (fun k => w (ix2 0 k)) (fun k => u (ix2 j k))

variable (x : Vec Ideal S8x2048 .f32) (w : Vec Ideal S1x2048 .f32) (u : Vec Ideal S1024x2048 .bf16)
  (tc tl th : Vec Ideal S8x128 .f32) (co si : Fin 8 → ℕ → EReal)
  (hc : ∀ r (l : Fin 128), tc (ix2 r l) = lane 64 8 (co r) (co r) 1 l.val)
  (hl : ∀ r (l : Fin 128), tl (ix2 r l) = lane 64 8 (fun i => -si r i) (fun _ => 0) 0 l.val)
  (hh : ∀ r (l : Fin 128), th (ix2 r l) = lane 64 8 (fun _ => 0) (si r) 0 l.val)

theorem normed_at (r : Fin 8) (k : Fin 2048) :
    k0_pay4 x w (ix2 r k) = normed (fun k => x (ix2 r k)) (fun k => w (ix2 0 k)) k := by
  pointwise [k0_pay4]
  rfl

theorem queries_product (r : Fin 8) (j : Fin 1024) : k0_pay8 x w u (ix2 r j) = product x w u r j := by
  pointwise [k0_pay8]
  simp only [normed_at]
  rfl

theorem keys_product (h : FVec Ideal S8x2048 .bf16) (r : Fin 8) (j : Fin 1024) :
    k0_pay21 h u (ix2 r j) = ∑ k, h (ix2 r k) * u (ix2 j k) := by
  pointwise [k0_pay21]

theorem values_product (h : FVec Ideal S8x2048 .bf16) (r : Fin 8) (j : Fin 1024) :
    k0_pay2 h u (ix2 r j) = ∑ k, h (ix2 r k) * u (ix2 j k) := by
  pointwise [k0_pay2]

theorem gate_product (h : FVec Ideal S8x2048 .bf16) (r : Fin 8) (j : Fin 1024) :
    k0_pay3 h u (ix2 r j) = silu (∑ k, h (ix2 r k) * u (ix2 j k)) := by
  pointwise [k0_pay3]
  rw [zero_sub]
  rfl

/-- A value of 128 lanes at offset `o` of a block whose every entry is `G` there is the block's `G` under its place. -/
theorem placed (G : Fin 8 → Fin 1024 → EReal) (o : ℕ) (hb : o + 128 ≤ 1024)
    (inb : ∀ a, (![0, o] : Fin 2 → Nat) a + S8x128.size a ≤ S8x1024.size a) (q : S8x128.Idx → EReal)
    (hq : ∀ (r : Fin 8) (l : Fin 128), q (ix2 r l) = G r ⟨o + l.val, by omega⟩) (y : S8x128.Idx) :
    q y = (fun i : S8x1024.Idx => G (i 0) (i 1)) ((Rect.unit (s := S8x1024) ![0, o] S8x128.size inb).emb y) := by
  obtain ⟨r, l, rfl⟩ : ∃ (r : Fin 8) (l : Fin 128), y = ix2 r l :=
    ⟨y 0, y 1, funext fun a => by match a with | ⟨0, _⟩ => rfl | ⟨1, _⟩ => rfl⟩
  rw [hq]
  refine congrArg₂ G (Fin.ext ?_) (Fin.ext ?_)
  · show r.val = 0 + 1 * r.val
    omega
  · show o + l.val = o + 1 * l.val
    omega

include hc hl hh

/-- 128 lanes of a block from lane `o` on, times the three tables, are those lanes of the rotated rows. -/
theorem lanes_at (z : FVec Ideal S8x1024 .f32) (o : ℕ) (ho : o % 128 = 0) (hb : o + 128 ≤ 1024) (r : Fin 8) (l : Fin 128) :
    z (ix2 r ⟨o + l.val, by omega⟩) * tc (ix2 r l)
      + z (ix2 r ⟨o + (l.val + 128 - 120) % 128, by omega⟩) * tl (ix2 r l)
      + z (ix2 r ⟨o + (l.val + 128 - 8) % 128, by omega⟩) * th (ix2 r l)
      = rotated 64 8 (fun j => z (ix2 r j)) (co r) (si r) ⟨o + l.val, by omega⟩ := by
  rw [hc, hl, hh]
  exact rotated_lanes 64 8 o (fun j => z (ix2 r j)) (co r) (si r) ⟨o + l.val, by omega⟩ _ _ l (.inl ⟨rfl, rfl⟩) ho rfl rfl rfl

/-- The same for a value that is `f` of those lanes, under its place in the block. -/
theorem rotated_piece (f : EReal → EReal) (z : FVec Ideal S8x1024 .f32) (o : ℕ) (ho : o % 128 = 0) (hb : o + 128 ≤ 1024)
    (inb : ∀ a, (![0, o] : Fin 2 → Nat) a + S8x128.size a ≤ S8x1024.size a) (q : S8x128.Idx → EReal)
    (hq : ∀ (r : Fin 8) (l : Fin 128), q (ix2 r l) = f (z (ix2 r ⟨o + l.val, by omega⟩) * tc (ix2 r l)
      + z (ix2 r ⟨o + (l.val + 128 - 120) % 128, by omega⟩) * tl (ix2 r l)
      + z (ix2 r ⟨o + (l.val + 128 - 8) % 128, by omega⟩) * th (ix2 r l))) (y : S8x128.Idx) :
    q y = (fun i : S8x1024.Idx => f (rotated 64 8 (fun j => z (ix2 (i 0) j)) (co (i 0)) (si (i 0)) (i 1)))
      ((Rect.unit (s := S8x1024) ![0, o] S8x128.size inb).emb y) :=
  placed (fun r j => f (rotated 64 8 (fun i => z (ix2 r i)) (co r) (si r) j)) o hb inb q
    (fun r l => (hq r l).trans (congrArg f (lanes_at tc tl th co si hc hl hh z o ho hb r l))) y

/-- The first result's block: the rotated products, scaled. -/
theorem queries_canon (r : Fin 8) (j : Fin 1024) :
    (View.canon [⟨r0_11, k0_pay20 (k0_pay19 tc tl th (k0_pay8 x w u)) (Scalar.ofBits .f32 0x3E38AA3B#32)⟩,
      ⟨r0_10, k0_pay18 tc tl th (k0_pay8 x w u)⟩, ⟨r0_9, k0_pay17 tc tl th (k0_pay8 x w u)⟩,
      ⟨r0_8, k0_pay16 th (k0_pay13 (k0_pay8 x w u)) (k0_pay14 tc (k0_pay8 x w u)) (k0_pay15 tl (k0_pay8 x w u))⟩,
      ⟨r0_7, k0_pay12 tc tl th (k0_pay8 x w u)⟩, ⟨r0_6, k0_pay11 tc tl th (k0_pay8 x w u)⟩,
      ⟨r0_5, k0_pay10 tc tl th (k0_pay8 x w u)⟩, ⟨r0_4, k0_pay9 x w tc tl th u⟩] : Vec Ideal S8x1024 .bf16) (ix2 r j)
      = rotated 64 8 (product x w u r) (co r) (si r) j * Ideal.ofBits .f32 0x3E38AA3B#32 := by
  have e : product x w u r = fun j => k0_pay8 x w u (ix2 r j) := funext fun j => (queries_product x w u r j).symm
  rw [e]
  have key := rotated_piece tc tl th co si hc hl hh (fun v => v * Ideal.ofBits .f32 0x3E38AA3B#32) (k0_pay8 x w u)
  refine (View.canon_apply_of_pieces
    (fun i : S8x1024.Idx => rotated 64 8 (fun j => k0_pay8 x w u (ix2 (i 0) j)) (co (i 0)) (si (i 0)) (i 1) * Ideal.ofBits .f32 0x3E38AA3B#32)
    _ (fun p hp => ?_) (ix2 r j) (cover0_6 _ _ _ _ _ _ _ _ _)).trans ?_
  · simp only [List.mem_cons, List.not_mem_nil, or_false] at hp
    rcases hp with rfl | rfl | rfl | rfl | rfl | rfl | rfl | rfl
    · exact key 896 rfl (by omega) inb_S8x1024_S8x128_0_896 _ fun r l => by pointwise [k0_pay20, k0_pay19]
    · exact key 768 rfl (by omega) inb_S8x1024_S8x128_0_768 _ fun r l => by pointwise [k0_pay18]
    · exact key 640 rfl (by omega) inb_S8x1024_S8x128_0_640 _ fun r l => by pointwise [k0_pay17]
    · exact key 512 rfl (by omega) inb_S8x1024_S8x128_0_512 _ fun r l => by
        pointwise [k0_pay16, k0_pay13, k0_pay14, k0_pay15]
    · exact key 384 rfl (by omega) inb_S8x1024_S8x128_0_384 _ fun r l => by pointwise [k0_pay12]
    · exact key 256 rfl (by omega) inb_S8x1024_S8x128_0_256 _ fun r l => by pointwise [k0_pay11]
    · exact key 128 rfl (by omega) inb_S8x1024_S8x128_0_128 _ fun r l => by pointwise [k0_pay10]
    · exact key 0 rfl (by omega) inb_S8x1024_S8x128_0_0 _ fun r l => by pointwise [k0_pay9, k0_pay5, k0_pay6, k0_pay7]
  · rfl

/-- The second result's block: the rotated products. -/
theorem keys_canon (r : Fin 8) (j : Fin 1024) :
    (View.canon [⟨r0_11, k0_pay1 (k0_pay33 tc tl (k0_pay21 (k0_pay4 x w) u)) (k0_pay34 th (k0_pay21 (k0_pay4 x w) u))⟩,
      ⟨r0_10, k0_pay31 tc tl th (k0_pay21 (k0_pay4 x w) u)⟩, ⟨r0_9, k0_pay30 tc tl th (k0_pay21 (k0_pay4 x w) u)⟩,
      ⟨r0_8, k0_pay29 tc tl th (k0_pay21 (k0_pay4 x w) u)⟩,
      ⟨r0_7, k0_pay28 th (k0_pay25 (k0_pay4 x w) u) (k0_pay26 (k0_pay4 x w) tc u) (k0_pay27 (k0_pay4 x w) tl u)⟩,
      ⟨r0_6, k0_pay24 (k0_pay4 x w) tc tl th u⟩, ⟨r0_5, k0_pay23 (k0_pay4 x w) tc tl th u⟩,
      ⟨r0_4, k0_pay22 (k0_pay4 x w) tc tl th u⟩] : Vec Ideal S8x1024 .f32) (ix2 r j)
      = rotated 64 8 (product x w u r) (co r) (si r) j := by
  have e : product x w u r = fun j => k0_pay21 (k0_pay4 x w) u (ix2 r j) :=
    funext fun j => by rw [keys_product]; simp only [normed_at]; rfl
  rw [e]
  have key := rotated_piece tc tl th co si hc hl hh (fun v => v) (k0_pay21 (k0_pay4 x w) u)
  refine (View.canon_apply_of_pieces
    (fun i : S8x1024.Idx => rotated 64 8 (fun j => k0_pay21 (k0_pay4 x w) u (ix2 (i 0) j)) (co (i 0)) (si (i 0)) (i 1))
    _ (fun p hp => ?_) (ix2 r j) (cover0_7 _ _ _ _ _ _ _ _ _)).trans ?_
  · simp only [List.mem_cons, List.not_mem_nil, or_false] at hp
    rcases hp with rfl | rfl | rfl | rfl | rfl | rfl | rfl | rfl
    · exact key 896 rfl (by omega) inb_S8x1024_S8x128_0_896 _ fun r l => by pointwise [k0_pay1, k0_pay33, k0_pay34, k0_pay32]
    · exact key 768 rfl (by omega) inb_S8x1024_S8x128_0_768 _ fun r l => by pointwise [k0_pay31]
    · exact key 640 rfl (by omega) inb_S8x1024_S8x128_0_640 _ fun r l => by pointwise [k0_pay30]
    · exact key 512 rfl (by omega) inb_S8x1024_S8x128_0_512 _ fun r l => by pointwise [k0_pay29]
    · exact key 384 rfl (by omega) inb_S8x1024_S8x128_0_384 _ fun r l => by
        pointwise [k0_pay28, k0_pay25, k0_pay26, k0_pay27]
    · exact key 256 rfl (by omega) inb_S8x1024_S8x128_0_256 _ fun r l => by pointwise [k0_pay24]
    · exact key 128 rfl (by omega) inb_S8x1024_S8x128_0_128 _ fun r l => by pointwise [k0_pay23]
    · exact key 0 rfl (by omega) inb_S8x1024_S8x128_0_0 _ fun r l => by pointwise [k0_pay22]
  · rfl

omit hc hl hh

theorem origin : (![0, 0] : Fin 2 → Nat) = fun _ => 0 := funext fun a => by fin_cases a <;> rfl

theorem whole_rows (v : Vec Ideal S8x2048 .f32) : View.ld v r0_0 = v := View.ld_unit_zero origin ..

theorem whole_weight (v : Vec Ideal S1x2048 .f32) : View.ld v r0_1 = v := View.ld_unit_zero origin ..

theorem whole_table (v : Vec Ideal S8x128 .f32) : k0_pay5 (View.ld v r0_2) = v ∧ k0_pay6 (View.ld v r0_2) = v ∧ k0_pay7 (View.ld v r0_2) = v := by
  have e : View.ld v r0_2 = v := View.ld_unit_zero origin ..
  have i (v : Vec Ideal S8x128 .f32) : k0_pay5 v = v ∧ k0_pay6 v = v ∧ k0_pay7 v = v := by
    refine ⟨?_, ?_, ?_⟩ <;> funext y
    · exact congrFun (shapeCast_id ..) y
    · exact congrFun (shapeCast_id ..) y
    · exact congrFun (shapeCast_id ..) y
  rw [e]
  exact i v

/-- The normed rows of the point's block times row `j` of the whole weights. -/
def column (x : Vec Ideal S8x2048 .f32) (w : Vec Ideal S1x2048 .f32) (v : Vec Ideal S4096x2048 .bf16) (r : Fin 8)
    (j : Fin 4096) : EReal := projected (fun k => x (ix2 r k)) (fun k => w (ix2 0 k)) (fun k => v (ix2 j k))

variable (v : Vec Ideal S4096x2048 .bf16)

include hc hl hh

theorem queries_at (r : Fin 8) (j : Fin 1024) : out0_6 x w v tc tl th (ix2 r j)
    = rotated 64 8 (fun i : Fin 1024 => column x w v r ⟨i.val, by omega⟩) (co r) (si r) j * Ideal.ofBits .f32 0x3E38AA3B#32 := by
  unfold out0_6 k0_pay39 k0_pay38 k0_pay37 k0_pay36
  simp only [(whole_table tc).1, (whole_table tl).2.1, (whole_table th).2.2, whole_rows, whole_weight]
  have e : View.ld tc r0_2 = tc ∧ View.ld tl r0_2 = tl ∧ View.ld th r0_2 = th :=
    ⟨View.ld_unit_zero origin .., View.ld_unit_zero origin .., View.ld_unit_zero origin ..⟩
  rw [e.1, e.2.1, e.2.2]
  refine (queries_canon x w (View.ld v r0_3) tc tl th co si hc hl hh r j).trans ?_
  have h : product x w (View.ld v r0_3) r = fun i : Fin 1024 => column x w v r ⟨i.val, by omega⟩ :=
    funext fun i => congrArg (projected _ _) (funext fun k => by pointwise [r0_3])
  rw [h]

theorem keys_at (r : Fin 8) (j : Fin 1024) : out0_7 x w v tc tl th (ix2 r j)
    = rotated 64 8 (fun i : Fin 1024 => column x w v r ⟨1024 + i.val, by omega⟩) (co r) (si r) j := by
  unfold out0_7 k0_pay40 k0_pay38 k0_pay37 k0_pay36 k0_pay35
  simp only [(whole_table tc).1, (whole_table tl).2.1, (whole_table th).2.2, whole_rows, whole_weight]
  refine (keys_canon x w (View.ld v r0_12) tc tl th co si hc hl hh r j).trans ?_
  have h : product x w (View.ld v r0_12) r = fun i : Fin 1024 => column x w v r ⟨1024 + i.val, by omega⟩ :=
    funext fun i => congrArg (projected _ _) (funext fun k => by pointwise [r0_12])
  rw [h]

omit hc hl hh

theorem values_at (r : Fin 8) (j : Fin 1024) : out0_8 x w v tc tl th (ix2 r j) = column x w v r ⟨2048 + j.val, by omega⟩ := by
  unfold out0_8 k0_pay35
  rw [View.canon_unit_zero origin, whole_rows, whole_weight, values_product]
  simp only [normed_at]
  exact congrArg (projected _ _) (funext fun k => by pointwise [r0_13])

theorem gate_at (r : Fin 8) (j : Fin 1024) : out0_9 x w v tc tl th (ix2 r j) = silu (column x w v r ⟨3072 + j.val, by omega⟩) := by
  unfold out0_9 k0_pay35
  rw [View.canon_unit_zero origin, whole_rows, whole_weight, gate_product]
  simp only [normed_at]
  exact congrArg silu (congrArg (projected _ _) (funext fun k => by pointwise [r0_15]))

end Cert.Proof.SampleInBlock

end
-- ==== Proof.SampleInTables.lean ====
/-
  The tables that the host hands to the sample group's input projection: the cosines and the two signed halves of the sines of the samples' position,
  laid out over 128 lanes.
-/
module

public import proofs.«01_k».proof.Proof.Gen.Kernel4Ideal.Value
public import proofs.«01_k».proof.Proof.SampleRow
public import Idealize.ShloMosaic.Lib.Pointwise

@[expose] public section

set_option maxRecDepth 65536

noncomputable section

open Idealize.ShloMosaic Idealize.ShloMosaic.TcCoe Idealize.SL.Sem

namespace Cert.Proof.SampleInTables

open Cert.Kernel4Ideal Cert.Kernel4Ideal.Gen Cert.Proof.InRow Cert.Proof.SampleRow

/-- The angles: each row's position times each of the eight frequencies. -/
def angles : FVec Ideal S8x8 .f32 :=
  mulf (broadcastInDim S8x8 ![0, 1] bcast_S8x1_S8x8_0_1
      (broadcastInDim S8x1 ![0] bcast_S8_S8x1_0 (sitofp .f32 (broadcastInDim S8 ![] bcast_S_S8 (constantI S_ 32 16384#32)))))
    (broadcastInDim S8x8 ![0, 1] bcast_S1x8_S8x8_0_1 (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0))))))

/-- Zero for each pair. -/
def zeros : FVec Ideal S8x8 .f32 := broadcastInDim S8x8 ![] bcast_S_S8x8 (constant S_ .f32 0x00000000#32)

/-- One value for the entries of a head that are not rotated. -/
def rest (b : BitVec 32) : FVec Ideal S8x48 .f32 := broadcastInDim S8x48 ![] bcast_S_S8x48 (constant S_ .f32 b)

/-- A table of one head, twice side by side. -/
def table (u v : FVec Ideal S8x8 .f32) (w : FVec Ideal S8x48 .f32) : FVec Ideal S8x128 .f32 :=
  shapeCast _ (broadcastInDim S1x8x2x64 ![0, 1, 2, 3] bcast_S1x8x1x64_S1x8x2x64_0_1_2_3
    (shapeCast _ (concatenate S8x64 1 [⟨S8x8, u⟩, ⟨S8x8, v⟩, ⟨S8x48, w⟩] concatenates_S8x8_S8x8_S8x48_S8x64_d1)
      shapeCasts_S8x64_S1x8x1x64)) shapeCasts_S1x8x2x64_S8x128

/-- The table of the cosines, entry by entry. -/
theorem cosines_at (t : Fin 8) (l : Fin 128) : table (Host.cos angles) (Host.cos angles) (rest 0x3F800000#32) (ix2 t l)
    = lane 64 8 (cosine 0xBE000000#32) (cosine 0xBE000000#32) 1 l.val := by
  pointwise [table, rest, angles]
  rfl

/-- The table of the sines that the first half of the rotated entries takes, entry by entry. -/
theorem lows_at (t : Fin 8) (l : Fin 128) : table (Host.negf (Host.sin angles)) zeros (rest 0x00000000#32) (ix2 t l)
    = lane 64 8 (fun i => -sine 0xBE000000#32 i) (fun _ => 0) 0 l.val := by
  pointwise [table, rest, zeros, angles]
  rfl

/-- The table of the sines that the second half takes, entry by entry. -/
theorem highs_at (t : Fin 8) (l : Fin 128) : table zeros (Host.sin angles) (rest 0x00000000#32) (ix2 t l)
    = lane 64 8 (fun _ => 0) (sine 0xBE000000#32) 0 l.val := by
  pointwise [table, rest, zeros, angles]
  rfl

variable (m : (ℓ : Loc nD τ sig) → Buf (Elt Ideal) ℓ) (c : Dev nD)

theorem cosines_arr (t : Fin 8) (l : Fin 128) : (V m c main_v30 : Vec Ideal S8x128 .f32) (ix2 t l)
    = lane 64 8 (cosine 0xBE000000#32) (cosine 0xBE000000#32) 1 l.val := by
  have e : (V m c main_v30 : Vec Ideal S8x128 .f32) = table (Host.cos angles) (Host.cos angles) (rest 0x3F800000#32) := rfl
  rw [e, cosines_at]

theorem lows_arr (t : Fin 8) (l : Fin 128) : (V m c main_v33 : Vec Ideal S8x128 .f32) (ix2 t l)
    = lane 64 8 (fun i => -sine 0xBE000000#32 i) (fun _ => 0) 0 l.val := by
  have e : (V m c main_v33 : Vec Ideal S8x128 .f32) = table (Host.negf (Host.sin angles)) zeros (rest 0x00000000#32) := rfl
  rw [e, lows_at]

theorem highs_arr (t : Fin 8) (l : Fin 128) : (V m c main_v36 : Vec Ideal S8x128 .f32) (ix2 t l)
    = lane 64 8 (fun _ => 0) (sine 0xBE000000#32) 0 l.val := by
  have e : (V m c main_v36 : Vec Ideal S8x128 .f32) = table zeros (Host.sin angles) (rest 0x00000000#32) := rfl
  rw [e, highs_at]

end Cert.Proof.SampleInTables

end
-- ==== Proof.SampleInValue.lean ====
/-
  The sample group's input projection as a whole: its grid has one point, whose blocks are the whole arrays, so each entry of
  a result is the row function of `InRow` at the same row of the arguments.
-/
module

public import proofs.«01_k».proof.Proof.SampleInBlock
public import proofs.«01_k».proof.Proof.SampleInTables
public import proofs.«01_k».proof.Proof.InValue

@[expose] public section

set_option maxRecDepth 16384

noncomputable section

open Idealize.ShloMosaic Idealize.ShloMosaic.TcCoe Idealize.SL.Sem
open Idealize.ShloMosaic.Pipeline (Dat)

namespace Cert.Proof.SampleInValue

open Cert.Kernel4Ideal Cert.Kernel4Ideal.Gen Cert.Proof.InRow
open Cert.Proof.SampleRow
open Cert.Proof.OutValue (eq_ix2)
open Cert.Proof.InValue (whole_place whole_bounds)

variable (m : (ℓ : Loc nD τ sig) → Buf (Elt Ideal) ℓ) (c : Dev nD)

/-- The one point reads the whole of the rows and of the tables, and writes the whole of each result. -/
theorem index_rows : ∀ t : Fin cfg0.N, (win0_0.index t 0 = 0 ∧ win0_0.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) := by decide +kernel

theorem index_results : ∀ t : Fin cfg0.N, (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) := by decide +kernel

/-- It reads the whole of each weight too. -/
theorem index_whole : ∀ t : Fin cfg0.N,
    (win0_1.index t 0 = 0 ∧ win0_1.index t 1 = 0) ∧ (win0_2.index t 0 = 0 ∧ win0_2.index t 1 = 0) := by decide +kernel

/-! ## The arrays the windows read, in terms of the arguments -/

theorem x_arr (r : Fin 8) (k : Fin 2048) : (V m c main_v6 : Vec Ideal S8x2048 .f32) (ix2 r k)
    = m ((c.tc : Thread nD τ).loc main_arg0) (ix3 r 0 k) := by
  entry_read
  pointwise

theorem w_arr (k : Fin 2048) : (V m c main_v5 : Vec Ideal S1x2048 .f32) (ix2 0 k)
    = m ((c.tc : Thread nD τ).loc main_arg1) (ix2 0 k) := by
  entry_read
  pointwise

theorem v_arr (j : Fin 4096) (k : Fin 2048) : (V m c main_v3 : Vec Ideal S4096x2048 .bf16) (ix2 j k)
    = m ((c.tc : Thread nD τ).loc main_arg2) (ix3 0 k ⟨j.val, by omega⟩) := by
  entry_read
  pointwise

/-! ## The blocks of the point -/

theorem x_at (t : Fin cfg0.N) (r : Fin 8) (k : Fin 2048) : (iblk m c 0 t : Vec Ideal S8x2048 .f32) (ix2 r k)
    = m ((c.tc : Thread nD τ).loc main_arg0) (ix3 r 0 k) := by
  have hi := (index_rows t).1
  refine (congrArg (V m c main_v6) (eq_ix2 _ r k ?_ ?_)).trans (x_arr m c _ k)
  · show win0_0.index t 0 * 8 + 1 * r.val = r.val
    rw [hi.1]; omega
  · show win0_0.index t 1 * 2048 + 1 * k.val = k.val
    rw [hi.2]; omega

theorem w_at (t : Fin cfg0.N) (k : Fin 2048) : (iblk m c 1 t : Vec Ideal S1x2048 .f32) (ix2 0 k)
    = m ((c.tc : Thread nD τ).loc main_arg1) (ix2 0 k) := by
  have hi := (index_whole t).1
  refine (congrArg (V m c main_v5) (eq_ix2 _ 0 k ?_ ?_)).trans (w_arr m c k)
  · show win0_1.index t 0 * 1 + 1 * 0 = 0
    rw [hi.1]
  · show win0_1.index t 1 * 2048 + 1 * k.val = k.val
    rw [hi.2]; omega

theorem v_at (t : Fin cfg0.N) (j : Fin 4096) (k : Fin 2048) : (iblk m c 2 t : Vec Ideal S4096x2048 .bf16) (ix2 j k)
    = m ((c.tc : Thread nD τ).loc main_arg2) (ix3 0 k ⟨j.val, by omega⟩) := by
  have hi := (index_whole t).2
  refine (congrArg (V m c main_v3) (eq_ix2 _ j k ?_ ?_)).trans (v_arr m c j k)
  · show win0_2.index t 0 * 4096 + 1 * j.val = j.val
    rw [hi.1]; omega
  · show win0_2.index t 1 * 2048 + 1 * k.val = k.val
    rw [hi.2]; omega

theorem cosines_at (t : Fin cfg0.N) (r : Fin 8) (l : Fin 128) : (iblk m c 3 t : Vec Ideal S8x128 .f32) (ix2 r l)
    = lane 64 8 (cosine 0xBE000000#32) (cosine 0xBE000000#32) 1 l.val := by
  have hi := (index_rows t).2.1
  refine (congrArg (V m c main_v30) (eq_ix2 _ r l (whole_place r _ hi.1) ?_)).trans
    (SampleInTables.cosines_arr m c _ l)
  show win0_3.index t 1 * 128 + 1 * l.val = l.val
  rw [hi.2]; omega

theorem lows_at (t : Fin cfg0.N) (r : Fin 8) (l : Fin 128) : (iblk m c 4 t : Vec Ideal S8x128 .f32) (ix2 r l)
    = lane 64 8 (fun i => -sine 0xBE000000#32 i) (fun _ => 0) 0 l.val := by
  have hi := (index_rows t).2.2.1
  refine (congrArg (V m c main_v33) (eq_ix2 _ r l (whole_place r _ hi.1) ?_)).trans
    (SampleInTables.lows_arr m c _ l)
  show win0_4.index t 1 * 128 + 1 * l.val = l.val
  rw [hi.2]; omega

theorem highs_at (t : Fin cfg0.N) (r : Fin 8) (l : Fin 128) : (iblk m c 5 t : Vec Ideal S8x128 .f32) (ix2 r l)
    = lane 64 8 (fun _ => 0) (sine 0xBE000000#32) 0 l.val := by
  have hi := (index_rows t).2.2.2
  refine (congrArg (V m c main_v36) (eq_ix2 _ r l (whole_place r _ hi.1) ?_)).trans
    (SampleInTables.highs_arr m c _ l)
  show win0_5.index t 1 * 128 + 1 * l.val = l.val
  rw [hi.2]; omega

/-- Row `r` of the arguments, normed, times column `j` of the weights. -/
def column (r : Fin 8) (j : Fin 4096) : EReal :=
  projected (fun k => m ((c.tc : Thread nD τ).loc main_arg0) (ix3 r 0 k))
    (fun k => m ((c.tc : Thread nD τ).loc main_arg1) (ix2 0 k))
    (fun k => m ((c.tc : Thread nD τ).loc main_arg2) (ix3 0 k ⟨j.val, by omega⟩))

theorem column_at (t : Fin cfg0.N) (r : Fin 8) :
    SampleInBlock.column (iblk m c 0 t) (iblk m c 1 t) (iblk m c 2 t) r = column m c r := by
  funext j
  unfold SampleInBlock.column column
  simp only [x_at, w_at, v_at]

/-! ## The results -/

/-- The queries: the first 1024 columns, rotated and scaled. -/
def query (r : Fin 8) (j : Fin 1024) : EReal :=
  rotated 64 8 (fun i : Fin 1024 => column m c r ⟨i.val, by omega⟩) (cosine 0xBE000000#32) (sine 0xBE000000#32) j * Ideal.ofBits .f32 0x3E38AA3B#32

/-- The keys: the next 1024, rotated. -/
def key (r : Fin 8) (j : Fin 1024) : EReal :=
  rotated 64 8 (fun i : Fin 1024 => column m c r ⟨1024 + i.val, by omega⟩) (cosine 0xBE000000#32) (sine 0xBE000000#32) j

/-- The values: the next 1024. -/
def value (r : Fin 8) (j : Fin 1024) : EReal := column m c r ⟨2048 + j.val, by omega⟩

/-- The gate: the last 1024. -/
def gate (r : Fin 8) (j : Fin 1024) : EReal := silu (column m c r ⟨3072 + j.val, by omega⟩)

def queries : Buf (Elt Ideal) ((c.tc : Thread nD τ).loc main_v37_0) := (fun i => query m c (i 0) (i 1) : Vec Ideal S8x1024 .bf16)
def keys : Buf (Elt Ideal) ((c.tc : Thread nD τ).loc main_v37_1) := (fun i => key m c (i 0) (i 1) : Vec Ideal S8x1024 .f32)
def values : Buf (Elt Ideal) ((c.tc : Thread nD τ).loc main_v37_2) := (fun i => value m c (i 0) (i 1) : Vec Ideal S8x1024 .f32)
def gates : Buf (Elt Ideal) ((c.tc : Thread nD τ).loc main_v37_3) := (fun i => gate m c (i 0) (i 1) : Vec Ideal S8x1024 .f32)
/-- The one point. -/
def point : Fin cfg0.N := ⟨0, by have : cfg0.N = 1 := N_0; omega⟩

/-- The first result ends holding the queries. -/
theorem queries_final : (dats m 0 c).arrAt 6 cfg0.N = queries m c := by
  refine (dats m 0 c).arrAt_eq_of_cover 6 (queries m c) (fun t _ => ?_) fun i => ⟨point, flush0_6 _, ?_⟩
  · have hi := (index_results t).1
    rw [Value.flushed6]
    funext y
    obtain ⟨r, j, rfl⟩ : ∃ (r : Fin 8) (j : Fin 1024), y = ix2 r j := ⟨y 0, y 1, eq_ix2 _ _ _ rfl rfl⟩
    have hemb : ((cfg0.win 6).blk t).view.emb (ix2 r j) = (ix2 r j : S8x1024.Idx) :=
      eq_ix2 _ _ _ (whole_place r _ hi.1) (whole_place j _ hi.2)
    refine (SampleInBlock.queries_at _ _ _ _ _ (fun _ => cosine 0xBE000000#32) (fun _ => sine 0xBE000000#32) (cosines_at m c t) (lows_at m c t) (highs_at m c t) _ r j).trans (Eq.trans ?_ (congrArg (queries m c) hemb).symm)
    rw [column_at]
    rfl
  · have hi := (index_results point).1
    show (i : S8x1024.Idx) ∈ ((View.whole main_v37_0).slice (win0_6.rect point)).set
    rw [View.set_slice_whole, Rect.mem_set_unit]
    intro a
    match a with
    | ⟨0, _⟩ => exact whole_bounds 8 _ _ ((i : S8x1024.Idx) 0).isLt hi.1
    | ⟨1, _⟩ => exact whole_bounds 1024 _ _ ((i : S8x1024.Idx) 1).isLt hi.2

/-- The second ends holding the keys. -/
theorem keys_final : (dats m 0 c).arrAt 7 cfg0.N = keys m c := by
  refine (dats m 0 c).arrAt_eq_of_cover 7 (keys m c) (fun t _ => ?_) fun i => ⟨point, flush0_7 _, ?_⟩
  · have hi := (index_results t).2.1
    rw [Value.flushed7]
    funext y
    obtain ⟨r, j, rfl⟩ : ∃ (r : Fin 8) (j : Fin 1024), y = ix2 r j := ⟨y 0, y 1, eq_ix2 _ _ _ rfl rfl⟩
    have hemb : ((cfg0.win 7).blk t).view.emb (ix2 r j) = (ix2 r j : S8x1024.Idx) :=
      eq_ix2 _ _ _ (whole_place r _ hi.1) (whole_place j _ hi.2)
    refine (SampleInBlock.keys_at _ _ _ _ _ (fun _ => cosine 0xBE000000#32) (fun _ => sine 0xBE000000#32) (cosines_at m c t) (lows_at m c t) (highs_at m c t) _ r j).trans (Eq.trans ?_ (congrArg (keys m c) hemb).symm)
    rw [column_at]
    rfl
  · have hi := (index_results point).2.1
    show (i : S8x1024.Idx) ∈ ((View.whole main_v37_1).slice (win0_7.rect point)).set
    rw [View.set_slice_whole, Rect.mem_set_unit]
    intro a
    match a with
    | ⟨0, _⟩ => exact whole_bounds 8 _ _ ((i : S8x1024.Idx) 0).isLt hi.1
    | ⟨1, _⟩ => exact whole_bounds 1024 _ _ ((i : S8x1024.Idx) 1).isLt hi.2

/-- The third ends holding the values. -/
theorem values_final : (dats m 0 c).arrAt 8 cfg0.N = values m c := by
  refine (dats m 0 c).arrAt_eq_of_cover 8 (values m c) (fun t _ => ?_) fun i => ⟨point, flush0_8 _, ?_⟩
  · have hi := (index_results t).2.2.1
    rw [Value.flushed8]
    funext y
    obtain ⟨r, j, rfl⟩ : ∃ (r : Fin 8) (j : Fin 1024), y = ix2 r j := ⟨y 0, y 1, eq_ix2 _ _ _ rfl rfl⟩
    have hemb : ((cfg0.win 8).blk t).view.emb (ix2 r j) = (ix2 r j : S8x1024.Idx) :=
      eq_ix2 _ _ _ (whole_place r _ hi.1) (whole_place j _ hi.2)
    refine (SampleInBlock.values_at _ _ _ _ _ _ r j).trans (Eq.trans ?_ (congrArg (values m c) hemb).symm)
    rw [column_at]
    rfl
  · have hi := (index_results point).2.2.1
    show (i : S8x1024.Idx) ∈ ((View.whole main_v37_2).slice (win0_8.rect point)).set
    rw [View.set_slice_whole, Rect.mem_set_unit]
    intro a
    match a with
    | ⟨0, _⟩ => exact whole_bounds 8 _ _ ((i : S8x1024.Idx) 0).isLt hi.1
    | ⟨1, _⟩ => exact whole_bounds 1024 _ _ ((i : S8x1024.Idx) 1).isLt hi.2

/-- The fourth ends holding the gate. -/
theorem gates_final : (dats m 0 c).arrAt 9 cfg0.N = gates m c := by
  refine (dats m 0 c).arrAt_eq_of_cover 9 (gates m c) (fun t _ => ?_) fun i => ⟨point, flush0_9 _, ?_⟩
  · have hi := (index_results t).2.2.2
    rw [Value.flushed9]
    funext y
    obtain ⟨r, j, rfl⟩ : ∃ (r : Fin 8) (j : Fin 1024), y = ix2 r j := ⟨y 0, y 1, eq_ix2 _ _ _ rfl rfl⟩
    have hemb : ((cfg0.win 9).blk t).view.emb (ix2 r j) = (ix2 r j : S8x1024.Idx) :=
      eq_ix2 _ _ _ (whole_place r _ hi.1) (whole_place j _ hi.2)
    refine (SampleInBlock.gate_at _ _ _ _ _ _ r j).trans (Eq.trans ?_ (congrArg (gates m c) hemb).symm)
    rw [column_at]
    rfl
  · have hi := (index_results point).2.2.2
    show (i : S8x1024.Idx) ∈ ((View.whole main_v37_3).slice (win0_9.rect point)).set
    rw [View.set_slice_whole, Rect.mem_set_unit]
    intro a
    match a with
    | ⟨0, _⟩ => exact whole_bounds 8 _ _ ((i : S8x1024.Idx) 0).isLt hi.1
    | ⟨1, _⟩ => exact whole_bounds 1024 _ _ ((i : S8x1024.Idx) 1).isLt hi.2

end Cert.Proof.SampleInValue

end
-- ==== Proof.SampleSelRef.lean ====
/-
  What the reference of the sample group's input projection of the sparse heads computes: each entry of its results is the row
  function of `InRow` at that token's row of the arguments.
-/
module

public import proofs.«01_k».proof.Proof.Gen.Reference5Ideal.Run
public import proofs.«01_k».proof.Proof.SampleRow
public import Idealize.ShloMosaic.Lib.Pointwise

@[expose] public section

set_option maxRecDepth 65536

noncomputable section

open Idealize.ShloMosaic Idealize.ShloMosaic.TcCoe Idealize.SL.Sem

namespace Cert.Proof.SampleSelRef

open Cert.Reference5Ideal Cert.Reference5Ideal.Gen Cert.Proof.InRow Cert.Proof.SampleRow

/-- The angles: each position times each of the eight frequencies. -/
def angles : FVec Ideal S1x8 .f32 :=
  mulf (broadcastInDim S1x8 ![0, 1] bcast_S1x1_S1x8_0_1
      (broadcastInDim S1x1 ![0] bcast_S1_S1x1_0 (sitofp .f32 (addi (broadcastInDim S1 ![] bcast_S_S1 (constantI S_ 32 16384#32)) (iotaInDim S1 32 0)))))
    (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0)))))

/-- The angles: each position times each of the sixteen frequencies. -/
def wideAngles : FVec Ideal S1x16 .f32 :=
  mulf (broadcastInDim S1x16 ![0, 1] bcast_S1x1_S1x16_0_1
      (broadcastInDim S1x1 ![0] bcast_S1_S1x1_0 (sitofp .f32 (addi (broadcastInDim S1 ![] bcast_S_S1 (constantI S_ 32 16384#32)) (iotaInDim S1 32 0)))))
    (broadcastInDim S1x16 ![1] bcast_S16_S1x16_1
      (Host.powf (broadcastInDim S16 ![] bcast_S_S16 (constant S_ .f32 0x48F42400#32))
        (mulf (broadcastInDim S16 ![] bcast_S_S16 (constant S_ .f32 0xBD800000#32)) (sitofp .f32 (iotaInDim S16 32 0)))))

theorem angles_at (i : Fin 8) : angles (ix2 0 i) = angle 0xBE000000#32 16384 i.val := by
  pointwise [angles]
  rfl

theorem wideAngles_at (i : Fin 16) : wideAngles (ix2 0 i) = angle 0xBD800000#32 16384 i.val := by
  pointwise [wideAngles]
  rfl

/-- The rotation of the eight query heads by the angles `a`. -/
def turnedQueries (a : FVec Ideal S1x1x16 .f32) (x : FVec Ideal S8x1x8x128 .f32) : FVec Ideal S8x1x8x128 .f32 :=
  let co : FVec Ideal S8x1x8x16 .f32 := broadcastInDim S8x1x8x16 ![0, 1, 2, 3] bcast_S1x1x1x16_S8x1x8x16_0_1_2_3
    (broadcastInDim S1x1x1x16 ![1, 2, 3] bcast_S1x1x16_S1x1x1x16_1_2_3 (Host.cos a))
  let si : FVec Ideal S8x1x8x16 .f32 := broadcastInDim S8x1x8x16 ![0, 1, 2, 3] bcast_S1x1x1x16_S8x1x8x16_0_1_2_3
    (broadcastInDim S1x1x1x16 ![1, 2, 3] bcast_S1x1x16_S1x1x1x16_1_2_3 (Host.sin a))
  let u : FVec Ideal S8x1x8x16 .f32 := extractStridedSlice S8x1x8x16 ![0, 0, 0, 0] x slices_S8x1x8x128_S8x1x8x16_0_0_0_0
  let v : FVec Ideal S8x1x8x16 .f32 := extractStridedSlice S8x1x8x16 ![0, 0, 0, 16] x slices_S8x1x8x128_S8x1x8x16_0_0_0_16
  concatenate S8x1x8x128 3 [⟨S8x1x8x16, subf (mulf u co) (mulf v si)⟩, ⟨S8x1x8x16, addf (mulf v co) (mulf u si)⟩,
     ⟨S8x1x8x96, extractStridedSlice S8x1x8x96 ![0, 0, 0, 32] x slices_S8x1x8x128_S8x1x8x96_0_0_0_32⟩]
    concatenates_S8x1x8x16_S8x1x8x16_S8x1x8x96_S8x1x8x128_d3

theorem turnedQueries_at (a : FVec Ideal S1x16 .f32) (x : FVec Ideal S8x1x1024 .f32) (r : Fin 8) (J : Fin 1024) (α : ℕ → EReal)
    (ha : ∀ i : Fin 16, a (ix2 0 i) = α i.val) :
    shapeCast S8x1024 (turnedQueries (shapeCast _ a shapeCasts_S1x16_S1x1x16)
      (shapeCast _ x shapeCasts_S8x1x1024_S8x1x8x128)) shapeCasts_S8x1x8x128_S8x1024 (ix2 r J)
      = rotated 128 16 (fun j => x (ix3 r 0 j))
          (fun i => Ideal.cos (α i)) (fun i => Ideal.sin (α i)) J := by
  have hJ := J.isLt
  pointwise [turnedQueries]
  simp only [ha]
  refine rotated_cases (d := 128) (p := 16) (fun j => x (ix3 r 0 j))
    (fun i => Ideal.cos (α i)) (fun i => Ideal.sin (α i)) J _ _ _ _ _ ?_ ?_ ?_ ?_ ?_ <;> intros <;> dsimp only <;> omega

/-- The rotation of the two key heads. -/
def turnedKeys (a : FVec Ideal S1x1x16 .f32) (x : FVec Ideal S8x1x2x128 .f32) : FVec Ideal S8x1x2x128 .f32 :=
  let co : FVec Ideal S8x1x2x16 .f32 := broadcastInDim S8x1x2x16 ![0, 1, 2, 3] bcast_S1x1x1x16_S8x1x2x16_0_1_2_3
    (broadcastInDim S1x1x1x16 ![1, 2, 3] bcast_S1x1x16_S1x1x1x16_1_2_3 (Host.cos a))
  let si : FVec Ideal S8x1x2x16 .f32 := broadcastInDim S8x1x2x16 ![0, 1, 2, 3] bcast_S1x1x1x16_S8x1x2x16_0_1_2_3
    (broadcastInDim S1x1x1x16 ![1, 2, 3] bcast_S1x1x16_S1x1x1x16_1_2_3 (Host.sin a))
  let u : FVec Ideal S8x1x2x16 .f32 := extractStridedSlice S8x1x2x16 ![0, 0, 0, 0] x slices_S8x1x2x128_S8x1x2x16_0_0_0_0
  let v : FVec Ideal S8x1x2x16 .f32 := extractStridedSlice S8x1x2x16 ![0, 0, 0, 16] x slices_S8x1x2x128_S8x1x2x16_0_0_0_16
  concatenate S8x1x2x128 3 [⟨S8x1x2x16, subf (mulf u co) (mulf v si)⟩, ⟨S8x1x2x16, addf (mulf v co) (mulf u si)⟩,
     ⟨S8x1x2x96, extractStridedSlice S8x1x2x96 ![0, 0, 0, 32] x slices_S8x1x2x128_S8x1x2x96_0_0_0_32⟩]
    concatenates_S8x1x2x16_S8x1x2x16_S8x1x2x96_S8x1x2x128_d3

theorem turnedKeys_at (a : FVec Ideal S1x16 .f32) (x : FVec Ideal S8x1x256 .f32) (r : Fin 8) (J : Fin 256) (α : ℕ → EReal)
    (ha : ∀ i : Fin 16, a (ix2 0 i) = α i.val) :
    shapeCast S8x256 (turnedKeys (shapeCast _ a shapeCasts_S1x16_S1x1x16)
      (shapeCast _ x shapeCasts_S8x1x256_S8x1x2x128)) shapeCasts_S8x1x2x128_S8x256 (ix2 r J)
      = rotated 128 16 (fun j => x (ix3 r 0 j))
          (fun i => Ideal.cos (α i)) (fun i => Ideal.sin (α i)) J := by
  have hJ := J.isLt
  pointwise [turnedKeys]
  simp only [ha]
  refine rotated_cases (d := 128) (p := 16) (fun j => x (ix3 r 0 j))
    (fun i => Ideal.cos (α i)) (fun i => Ideal.sin (α i)) J _ _ _ _ _ ?_ ?_ ?_ ?_ ?_ <;> intros <;> dsimp only <;> omega

/-- The rotation of the four heads of the index queries. -/
def turnedIndex (a : FVec Ideal S1x1x8 .f32) (x : FVec Ideal S8x1x4x64 .f32) : FVec Ideal S8x1x4x64 .f32 :=
  let co : FVec Ideal S8x1x4x8 .f32 := broadcastInDim S8x1x4x8 ![0, 1, 2, 3] bcast_S1x1x1x8_S8x1x4x8_0_1_2_3
    (broadcastInDim S1x1x1x8 ![1, 2, 3] bcast_S1x1x8_S1x1x1x8_1_2_3 (Host.cos a))
  let si : FVec Ideal S8x1x4x8 .f32 := broadcastInDim S8x1x4x8 ![0, 1, 2, 3] bcast_S1x1x1x8_S8x1x4x8_0_1_2_3
    (broadcastInDim S1x1x1x8 ![1, 2, 3] bcast_S1x1x8_S1x1x1x8_1_2_3 (Host.sin a))
  let u : FVec Ideal S8x1x4x8 .f32 := extractStridedSlice S8x1x4x8 ![0, 0, 0, 0] x slices_S8x1x4x64_S8x1x4x8_0_0_0_0
  let v : FVec Ideal S8x1x4x8 .f32 := extractStridedSlice S8x1x4x8 ![0, 0, 0, 8] x slices_S8x1x4x64_S8x1x4x8_0_0_0_8
  concatenate S8x1x4x64 3 [⟨S8x1x4x8, subf (mulf u co) (mulf v si)⟩, ⟨S8x1x4x8, addf (mulf v co) (mulf u si)⟩,
     ⟨S8x1x4x48, extractStridedSlice S8x1x4x48 ![0, 0, 0, 16] x slices_S8x1x4x64_S8x1x4x48_0_0_0_16⟩]
    concatenates_S8x1x4x8_S8x1x4x8_S8x1x4x48_S8x1x4x64_d3

theorem turnedIndex_at (a : FVec Ideal S1x8 .f32) (x : FVec Ideal S8x1x256 .f32) (r : Fin 8) (J : Fin 256) (α : ℕ → EReal)
    (ha : ∀ i : Fin 8, a (ix2 0 i) = α i.val) :
    shapeCast S8x256 (turnedIndex (shapeCast _ a shapeCasts_S1x8_S1x1x8)
      (shapeCast _ x shapeCasts_S8x1x256_S8x1x4x64)) shapeCasts_S8x1x4x64_S8x256 (ix2 r J)
      = rotated 64 8 (fun j => x (ix3 r 0 j))
          (fun i => Ideal.cos (α i)) (fun i => Ideal.sin (α i)) J := by
  have hJ := J.isLt
  pointwise [turnedIndex]
  simp only [ha]
  refine rotated_cases (d := 64) (p := 8) (fun j => x (ix3 r 0 j))
    (fun i => Ideal.cos (α i)) (fun i => Ideal.sin (α i)) J _ _ _ _ _ ?_ ?_ ?_ ?_ ?_ <;> intros <;> dsimp only <;> omega

/-- The rotation of the one head of index keys. -/
def turnedLast (a : FVec Ideal S1x8 .f32) (x : FVec Ideal S8x1x64 .f32) : FVec Ideal S8x1x64 .f32 :=
  let co : FVec Ideal S8x1x8 .f32 := broadcastInDim S8x1x8 ![0, 1, 2] bcast_S1x1x8_S8x1x8_0_1_2
    (broadcastInDim S1x1x8 ![1, 2] bcast_S1x8_S1x1x8_1_2 (Host.cos a))
  let si : FVec Ideal S8x1x8 .f32 := broadcastInDim S8x1x8 ![0, 1, 2] bcast_S1x1x8_S8x1x8_0_1_2
    (broadcastInDim S1x1x8 ![1, 2] bcast_S1x8_S1x1x8_1_2 (Host.sin a))
  let u : FVec Ideal S8x1x8 .f32 := extractStridedSlice S8x1x8 ![0, 0, 0] x slices_S8x1x64_S8x1x8_0_0_0
  let v : FVec Ideal S8x1x8 .f32 := extractStridedSlice S8x1x8 ![0, 0, 8] x slices_S8x1x64_S8x1x8_0_0_8
  concatenate S8x1x64 2 [⟨S8x1x8, subf (mulf u co) (mulf v si)⟩, ⟨S8x1x8, addf (mulf v co) (mulf u si)⟩,
     ⟨S8x1x48, extractStridedSlice S8x1x48 ![0, 0, 16] x slices_S8x1x64_S8x1x48_0_0_16⟩]
    concatenates_S8x1x8_S8x1x8_S8x1x48_S8x1x64_d2

theorem turnedLast_at (a : FVec Ideal S1x8 .f32) (x : FVec Ideal S8x1x64 .f32) (b : Fin 8) (J : Fin 64)
    (α : ℕ → EReal) (ha : ∀ i : Fin 8, a (ix2 0 i) = α i.val) : turnedLast a x (ix3 b 0 J)
      = rotated 64 8 (fun j => x (ix3 b 0 j)) (fun i => Ideal.cos (α i)) (fun i => Ideal.sin (α i)) J := by
  have e : J.val % 64 = J.val := Nat.mod_eq_of_lt J.isLt
  pointwise [turnedLast]
  simp only [ha]
  have h := rotated_cases (d := 64) (p := 8) (fun j => x (ix3 b 0 j)) (fun i => Ideal.cos (α i)) (fun i => Ideal.sin (α i)) J
  rw [e] at h
  refine h _ _ _ _ _ ?_ ?_ ?_ ?_ ?_ <;> intros <;> dsimp only <;> omega

/-- The normed tokens times the last 2884 columns of the input weights. -/
def projection (x : FVec Ideal S8x1x2048 .f32) (nw : FVec Ideal S1x2048 .f32) (w : FVec Ideal S1x2048x6980 .f32) :
    FVec Ideal S8x1x2884 .f32 :=
  Host.dotGeneral dot_S8x1x2048_S2048x2884_S8x1x2884_2_0_01_1_n_n none
    (mulf (mulf x (broadcastInDim S8x1x2048 ![0, 1, 2] bcast_S8x1x1_S8x1x2048_0_1_2
        (Host.rsqrt (addf (Host.divf (broadcastInDim S8x1x1 ![0, 1] bcast_S8x1_S8x1x1_0_1
          (Host.reduceAdd (mulf x x) (constant S_ .f32 0x00000000#32) reducesTo_S8x1x2048_S8x1_d2 h_S_))
            (broadcastInDim S8x1x1 ![] bcast_S_S8x1x1 (constant S_ .f32 0x45000000#32)))
          (broadcastInDim S8x1x1 ![] bcast_S_S8x1x1 (constant S_ .f32 0x358637BD#32))))))
      (broadcastInDim S8x1x2048 ![0, 1, 2] bcast_S1x1x2048_S8x1x2048_0_1_2
        (broadcastInDim S1x1x2048 ![2] bcast_S2048_S1x1x2048_2 (shapeCast _ nw shapeCasts_S1x2048_S2048))))
    (shapeCast _ (extractStridedSlice S1x2048x2884 ![0, 0, 4096] w slices_S1x2048x6980_S1x2048x2884_0_0_4096)
      shapeCasts_S1x2048x2884_S2048x2884)

theorem projection_at (x : FVec Ideal S8x1x2048 .f32) (nw : FVec Ideal S1x2048 .f32) (w : FVec Ideal S1x2048x6980 .f32)
    (b : Fin 8) (j : Fin 2884) : projection x nw w (ix3 b 0 j)
      = projected (fun k => x (ix3 b 0 k)) (fun k => nw (ix2 0 k)) (fun k => w (ix3 0 k ⟨4096 + j.val, by omega⟩)) := by
  pointwise [projection]
  rfl

variable (m : (ℓ : Loc nD τ sig) → Buf (Elt Ideal) ℓ) (c : Dev nD)

/-- The projection of the arguments. -/
abbrev whole : FVec Ideal S8x1x2884 .f32 := projection (m ((c.tc : Thread nD τ).loc main_arg0))
  (m ((c.tc : Thread nD τ).loc main_arg1)) (m ((c.tc : Thread nD τ).loc main_arg2))

/-- Token `r` of the arguments times column `4096 + j` of the weights. -/
def column (r : Fin 8) (j : Fin 2884) : EReal :=
  projected (fun k => m ((c.tc : Thread nD τ).loc main_arg0) (ix3 r 0 k))
    (fun k => m ((c.tc : Thread nD τ).loc main_arg1) (ix2 0 k))
    (fun k => m ((c.tc : Thread nD τ).loc main_arg2) (ix3 0 k ⟨4096 + j.val, by omega⟩))

/-- The query heads: the first slice of the projection, rotated and scaled. -/
abbrev queries : FVec Ideal S8x1024 .bf16 :=
  truncf .bf16 (shapeCast _ (mulf (turnedQueries (shapeCast _ wideAngles shapeCasts_S1x16_S1x1x16)
    (shapeCast _ (extractStridedSlice S8x1x1024 ![0, 0, 0] (whole m c) slices_S8x1x2884_S8x1x1024_0_0_0)
      shapeCasts_S8x1x1024_S8x1x8x128))
    (broadcastInDim S8x1x8x128 ![] bcast_S_S8x1x8x128 (constant S_ .f32 0x3E0293EE#32)))
    shapeCasts_S8x1x8x128_S8x1024) bitsLt_bf16_f32

theorem queries_at (r : Fin 8) (J : Fin 1024) : queries m c (ix2 r J)
    = rotated 128 16 (fun j : Fin 1024 => column m c r ⟨j.val, by omega⟩) (cosine 0xBD800000#32) (sine 0xBD800000#32) J
      * Ideal.ofBits .f32 0x3E0293EE#32 := by
  refine (congrArg (· * Ideal.ofBits .f32 0x3E0293EE#32) (turnedQueries_at wideAngles _ r J _ fun i => wideAngles_at i)).trans ?_
  refine congrArg (fun z : Fin 1024 → EReal => rotated 128 16 z (cosine 0xBD800000#32) (sine 0xBD800000#32) J * Ideal.ofBits .f32 0x3E0293EE#32)
    (funext fun j => ?_)
  pointwise
  exact projection_at _ _ _ _ _

/-- The key heads: the second slice, rotated. -/
abbrev keys : FVec Ideal S8x256 .f32 :=
  shapeCast _ (turnedKeys (shapeCast _ wideAngles shapeCasts_S1x16_S1x1x16)
    (shapeCast _ (extractStridedSlice S8x1x256 ![0, 0, 1024] (whole m c) slices_S8x1x2884_S8x1x256_0_0_1024)
      shapeCasts_S8x1x256_S8x1x2x128)) shapeCasts_S8x1x2x128_S8x256

theorem keys_at (r : Fin 8) (J : Fin 256) : keys m c (ix2 r J)
    = rotated 128 16 (fun j : Fin 256 => column m c r ⟨1024 + j.val, by omega⟩) (cosine 0xBD800000#32) (sine 0xBD800000#32) J := by
  refine (turnedKeys_at wideAngles _ r J _ fun i => wideAngles_at i).trans
    (congrArg (fun z : Fin 256 → EReal => rotated 128 16 z (cosine 0xBD800000#32) (sine 0xBD800000#32) J) (funext fun j => ?_))
  pointwise
  exact projection_at _ _ _ _ _

/-- The values: the third slice. -/
abbrev values : FVec Ideal S8x256 .f32 :=
  shapeCast _ (extractStridedSlice S8x1x256 ![0, 0, 1280] (whole m c) slices_S8x1x2884_S8x1x256_0_0_1280)
    shapeCasts_S8x1x256_S8x256

theorem values_at (r : Fin 8) (J : Fin 256) : values m c (ix2 r J) = column m c r ⟨1280 + J.val, by omega⟩ := by
  pointwise
  exact projection_at _ _ _ _ _

/-- The gate: the fourth slice, times its own sigmoid. -/
abbrev gates : FVec Ideal S8x1024 .f32 :=
  let g : FVec Ideal S8x1x1024 .f32 := extractStridedSlice S8x1x1024 ![0, 0, 1536] (whole m c) slices_S8x1x2884_S8x1x1024_0_0_1536
  shapeCast _ (mulf g (Host.divf (broadcastInDim S8x1x1024 ![] bcast_S_S8x1x1024 (constant S_ .f32 0x3F800000#32))
      (addf (broadcastInDim S8x1x1024 ![] bcast_S_S8x1x1024 (constant S_ .f32 0x3F800000#32)) (Host.exp (Host.negf g)))))
    shapeCasts_S8x1x1024_S8x1024

theorem gates_at (r : Fin 8) (J : Fin 1024) : gates m c (ix2 r J) = silu (column m c r ⟨1536 + J.val, by omega⟩) := by
  have e : whole m c (ix3 r 0 ⟨1536 + J.val, by omega⟩)
      = column m c r ⟨1536 + J.val, by omega⟩ := projection_at _ _ _ _ _
  unfold gates
  pointwise
  rw [e]
  rfl

/-- The index queries: the fifth slice, rotated. -/
abbrev indices : FVec Ideal S8x256 .bf16 :=
  truncf .bf16 (shapeCast _ (turnedIndex (shapeCast _ angles shapeCasts_S1x8_S1x1x8)
    (shapeCast _ (extractStridedSlice S8x1x256 ![0, 0, 2560] (whole m c) slices_S8x1x2884_S8x1x256_0_0_2560)
      shapeCasts_S8x1x256_S8x1x4x64)) shapeCasts_S8x1x4x64_S8x256) bitsLt_bf16_f32

theorem indices_at (r : Fin 8) (J : Fin 256) : indices m c (ix2 r J)
    = rotated 64 8 (fun j : Fin 256 => column m c r ⟨2560 + j.val, by omega⟩) (cosine 0xBE000000#32) (sine 0xBE000000#32) J := by
  refine (turnedIndex_at angles _ r J _ fun i => angles_at i).trans
    (congrArg (fun z : Fin 256 → EReal => rotated 64 8 z (cosine 0xBE000000#32) (sine 0xBE000000#32) J) (funext fun j => ?_))
  pointwise
  exact projection_at _ _ _ _ _

/-- The index keys, rotated, the weights of the index heads, and zeros up to 128 columns. -/
abbrev lasts : FVec Ideal S8x128 .f32 :=
  concatenate S8x128 1 [⟨S8x64, shapeCast S8x64 (turnedLast angles
      (extractStridedSlice S8x1x64 ![0, 0, 2816] (whole m c) slices_S8x1x2884_S8x1x64_0_0_2816)) shapeCasts_S8x1x64_S8x64⟩,
    ⟨S8x4, shapeCast S8x4 (extractStridedSlice S8x1x4 ![0, 0, 2880] (whole m c) slices_S8x1x2884_S8x1x4_0_0_2880)
      shapeCasts_S8x1x4_S8x4⟩,
    ⟨S8x60, broadcastInDim S8x60 ![] bcast_S_S8x60 (constant S_ .f32 0x00000000#32)⟩]
    concatenates_S8x64_S8x4_S8x60_S8x128_d1

theorem lasts_at (r : Fin 8) (l : Fin 128) : lasts m c (ix2 r l)
    = if h : l.val < 64 then
        rotated 64 8 (fun j : Fin 64 => column m c r ⟨2816 + j.val, by omega⟩) (cosine 0xBE000000#32) (sine 0xBE000000#32) ⟨l.val, h⟩
      else if h : l.val - 64 < 4 then column m c r ⟨2880 + (l.val - 64), by omega⟩ else 0 := by
  pointwise
  split
  · refine (turnedLast_at angles _ _ _ _ fun i => angles_at i).trans
      (congrArg (fun z : Fin 64 → EReal => rotated 64 8 z (cosine 0xBE000000#32) (sine 0xBE000000#32) _) (funext fun j => ?_))
    pointwise
    exact projection_at _ _ _ _ _
  · split
    · exact projection_at _ _ _ _ _
    · rfl

end Cert.Proof.SampleSelRef

end
-- ==== Proof.SampleSelBlock.lean ====
/-
  What the sparse heads' input projection of the sample group stores: each entry of its 8 rows is the row function of `InRow` at
  that row of the blocks.
-/
module

public import proofs.«01_k».proof.Proof.Gen.Kernel5Ideal.Value
public import proofs.«01_k».proof.Proof.InRow
public import Idealize.ShloMosaic.Lib.Pointwise

@[expose] public section

set_option maxRecDepth 16384

noncomputable section

open Idealize.ShloMosaic Idealize.ShloMosaic.TcCoe Idealize.SL.Sem

namespace Cert.Proof.SampleSelBlock

open Cert.Kernel5Ideal Cert.Kernel5Ideal.Gen Cert.Proof.InRow

/-- The normed rows of a block times the rows of a weight. -/
def product {n : ℕ} (x : Vec Ideal S8x2048 .f32) (w : Vec Ideal S1x2048 .f32) (u : (⟨2, ![n, 2048]⟩ : Shape).Idx → EReal)
    (r : Fin 8) (j : Fin n) : EReal :=
  projected (fun k => x (ix2 r k)) (fun k => w (ix2 0 k)) (fun k => u (ix2 j k))

theorem product_congr {n n' : ℕ} (x : Vec Ideal S8x2048 .f32) (w : Vec Ideal S1x2048 .f32)
    (u : (⟨2, ![n, 2048]⟩ : Shape).Idx → EReal) (u' : (⟨2, ![n', 2048]⟩ : Shape).Idx → EReal) (r : Fin 8) (j : Fin n) (j' : Fin n')
    (h : ∀ k, u (ix2 j k) = u' (ix2 j' k)) : product x w u r j = product x w u' r j' :=
  congrArg (projected _ _) (funext h)

variable (x : Vec Ideal S8x2048 .f32) (w : Vec Ideal S1x2048 .f32) (u : Vec Ideal S1024x2048 .bf16)
  (v : Vec Ideal S256x2048 .bf16) (q : Vec Ideal S128x2048 .bf16)

theorem normed_at (r : Fin 8) (k : Fin 2048) :
    k0_pay2 x w (ix2 r k) = normed (fun k => x (ix2 r k)) (fun k => w (ix2 0 k)) k := by
  pointwise [k0_pay2]
  rfl

theorem queries_product (r : Fin 8) (j : Fin 1024) : k0_pay9 x w u (ix2 r j) = product x w u r j := by
  pointwise [k0_pay9]
  simp only [normed_at]
  rfl

theorem keys_product (r : Fin 8) (j : Fin 256) : k0_pay22 (k0_pay2 x w) v (ix2 r j) = product x w v r j := by
  pointwise [k0_pay22]
  simp only [normed_at]
  rfl

theorem values_product (r : Fin 8) (j : Fin 256) : k0_pay25 (k0_pay2 x w) v (ix2 r j) = product x w v r j := by
  pointwise [k0_pay25]
  simp only [normed_at]
  rfl

theorem gate_product (r : Fin 8) (j : Fin 1024) : k0_pay26 (k0_pay2 x w) u (ix2 r j) = silu (product x w u r j) := by
  pointwise [k0_pay26]
  simp only [normed_at]
  rw [zero_sub]
  rfl

theorem index_product (r : Fin 8) (j : Fin 256) : k0_pay27 (k0_pay2 x w) v (ix2 r j) = product x w v r j := by
  pointwise [k0_pay27]
  simp only [normed_at]
  rfl

/-- A value of 128 lanes at offset `o` of a block of `n` whose every entry is `G` there is the block's `G` under its place. -/
theorem placed {n : ℕ} (G : Fin 8 → Fin n → EReal) (o : ℕ) (hb : o + 128 ≤ n)
    (inb : ∀ a, (![0, o] : Fin 2 → Nat) a + S8x128.size a ≤ (⟨2, ![8, n]⟩ : Shape).size a) (p : S8x128.Idx → EReal)
    (hp : ∀ (r : Fin 8) (l : Fin 128), p (ix2 r l) = G r ⟨o + l.val, by omega⟩) (y : S8x128.Idx) :
    p y = (fun i : (⟨2, ![8, n]⟩ : Shape).Idx => G (i 0) (i 1))
      ((Rect.unit (s := ⟨2, ![8, n]⟩) ![0, o] S8x128.size inb).emb y) := by
  obtain ⟨r, l, rfl⟩ : ∃ (r : Fin 8) (l : Fin 128), y = ix2 r l :=
    ⟨y 0, y 1, funext fun a => by match a with | ⟨0, _⟩ => rfl | ⟨1, _⟩ => rfl⟩
  rw [hp]
  refine congrArg₂ G (Fin.ext ?_) (Fin.ext ?_)
  · show r.val = 0 + 1 * r.val
    omega
  · show o + l.val = o + 1 * l.val
    omega

/-- A value that is `f` of 128 lanes from lane `o` on, times the three tables of heads of width `d`, is `f` of those lanes of
    the rotated rows, under its place in the block. -/
theorem rotated_piece {n : ℕ} (d p : ℕ) (hd : d = 64 ∧ p = 8 ∨ d = 128 ∧ p = 16) (tc tl th : Vec Ideal S8x128 .f32)
    (co si : Fin 8 → ℕ → EReal) (hc : ∀ r (l : Fin 128), tc (ix2 r l) = lane d p (co r) (co r) 1 l.val)
    (hl : ∀ r (l : Fin 128), tl (ix2 r l) = lane d p (fun i => -si r i) (fun _ => 0) 0 l.val)
    (hh : ∀ r (l : Fin 128), th (ix2 r l) = lane d p (fun _ => 0) (si r) 0 l.val) (f : EReal → EReal)
    (z : (⟨2, ![8, n]⟩ : Shape).Idx → EReal) (o : ℕ) (ho : o % 128 = 0) (hb : o + 128 ≤ n)
    (inb : ∀ a, (![0, o] : Fin 2 → Nat) a + S8x128.size a ≤ (⟨2, ![8, n]⟩ : Shape).size a) (g : S8x128.Idx → EReal)
    (hg : ∀ (r : Fin 8) (l : Fin 128), g (ix2 r l) = f (z (ix2 r ⟨o + l.val, by omega⟩) * tc (ix2 r l)
      + z (ix2 r ⟨o + (l.val + 128 - (128 - p)) % 128, by omega⟩) * tl (ix2 r l)
      + z (ix2 r ⟨o + (l.val + 128 - p) % 128, by omega⟩) * th (ix2 r l))) (y : S8x128.Idx) :
    g y = (fun i : (⟨2, ![8, n]⟩ : Shape).Idx => f (rotated d p (fun j => z (ix2 (i 0) j)) (co (i 0)) (si (i 0)) (i 1)))
      ((Rect.unit (s := ⟨2, ![8, n]⟩) ![0, o] S8x128.size inb).emb y) :=
  placed (fun r j => f (rotated d p (fun i => z (ix2 r i)) (co r) (si r) j)) o hb inb g (fun r l => (hg r l).trans (congrArg f (by
    rw [hc, hl, hh]
    exact rotated_lanes d p o (fun j => z (ix2 r j)) (co r) (si r) ⟨o + l.val, by omega⟩ _ _ l hd ho rfl rfl rfl))) y

section wide

variable (tc tl th : Vec Ideal S8x128 .f32) (co si : Fin 8 → ℕ → EReal)
  (hc : ∀ r (l : Fin 128), tc (ix2 r l) = lane 128 16 (co r) (co r) 1 l.val)
  (hl : ∀ r (l : Fin 128), tl (ix2 r l) = lane 128 16 (fun i => -si r i) (fun _ => 0) 0 l.val)
  (hh : ∀ r (l : Fin 128), th (ix2 r l) = lane 128 16 (fun _ => 0) (si r) 0 l.val)

include hc hl hh

/-- The first result's block: the rotated products, scaled. -/
theorem queries_canon (r : Fin 8) (j : Fin 1024) :
    (View.canon [⟨r0_11, k0_pay21 tc tl th (k0_pay9 x w u)⟩, ⟨r0_10, k0_pay20 tc tl th (k0_pay9 x w u)⟩,
      ⟨r0_9, k0_pay19 tc tl th (k0_pay9 x w u)⟩, ⟨r0_8, k0_pay18 tc tl th (k0_pay9 x w u)⟩,
      ⟨r0_7, k0_pay17 (k0_pay16 tc tl th (k0_pay9 x w u)) (Scalar.ofBits .f32 0x3E0293EE#32)⟩,
      ⟨r0_6, k0_pay15 tc tl th (k0_pay9 x w u)⟩, ⟨r0_5, k0_pay14 tc tl th (k0_pay9 x w u)⟩,
      ⟨r0_4, k0_pay13 th (k0_pay10 x w u) (k0_pay11 x w tc u) (k0_pay12 x w tl u)⟩] : Vec Ideal S8x1024 .bf16) (ix2 r j)
      = rotated 128 16 (product x w u r) (co r) (si r) j * Ideal.ofBits .f32 0x3E0293EE#32 := by
  have e : product x w u r = fun j => k0_pay9 x w u (ix2 r j) := funext fun j => (queries_product x w u r j).symm
  rw [e]
  have key := rotated_piece (n := 1024) 128 16 (.inr ⟨rfl, rfl⟩) tc tl th co si hc hl hh (fun v => v * Ideal.ofBits .f32 0x3E0293EE#32) (k0_pay9 x w u)
  refine (View.canon_apply_of_pieces
    (fun i : S8x1024.Idx => rotated 128 16 (fun j => k0_pay9 x w u (ix2 (i 0) j)) (co (i 0)) (si (i 0)) (i 1) * Ideal.ofBits .f32 0x3E0293EE#32)
    _ (fun p hp => ?_) (ix2 r j) (cover0_10 _ _ _ _ _ _ _ _ _)).trans ?_
  · simp only [List.mem_cons, List.not_mem_nil, or_false] at hp
    rcases hp with rfl | rfl | rfl | rfl | rfl | rfl | rfl | rfl
    · exact key 896 rfl (by omega) inb_S8x1024_S8x128_0_896 _ fun r l => by pointwise [k0_pay21]
    · exact key 768 rfl (by omega) inb_S8x1024_S8x128_0_768 _ fun r l => by pointwise [k0_pay20]
    · exact key 640 rfl (by omega) inb_S8x1024_S8x128_0_640 _ fun r l => by pointwise [k0_pay19]
    · exact key 512 rfl (by omega) inb_S8x1024_S8x128_0_512 _ fun r l => by pointwise [k0_pay18]
    · exact key 384 rfl (by omega) inb_S8x1024_S8x128_0_384 _ fun r l => by pointwise [k0_pay17, k0_pay16]
    · exact key 256 rfl (by omega) inb_S8x1024_S8x128_0_256 _ fun r l => by pointwise [k0_pay15]
    · exact key 128 rfl (by omega) inb_S8x1024_S8x128_0_128 _ fun r l => by pointwise [k0_pay14]
    · exact key 0 rfl (by omega) inb_S8x1024_S8x128_0_0 _ fun r l => by
        pointwise [k0_pay13, k0_pay10, k0_pay11, k0_pay12, k0_pay3, k0_pay4]
  · rfl

/-- The second result's block: the rotated products. -/
theorem keys_canon (r : Fin 8) (j : Fin 256) :
    (View.canon [⟨r0_14, k0_pay24 (k0_pay2 x w) tc tl th v⟩, ⟨r0_13, k0_pay23 (k0_pay2 x w) tc tl th v⟩] : Vec Ideal S8x256 .f32) (ix2 r j)
      = rotated 128 16 (product x w v r) (co r) (si r) j := by
  have e : product x w v r = fun j => k0_pay22 (k0_pay2 x w) v (ix2 r j) := funext fun j => (keys_product x w v r j).symm
  rw [e]
  have key := rotated_piece (n := 256) 128 16 (.inr ⟨rfl, rfl⟩) tc tl th co si hc hl hh (fun v => v) (k0_pay22 (k0_pay2 x w) v)
  refine (View.canon_apply_of_pieces
    (fun i : S8x256.Idx => rotated 128 16 (fun j => k0_pay22 (k0_pay2 x w) v (ix2 (i 0) j)) (co (i 0)) (si (i 0)) (i 1))
    _ (fun p hp => ?_) (ix2 r j) (cover0_11 _ _ _)).trans ?_
  · simp only [List.mem_cons, List.not_mem_nil, or_false] at hp
    rcases hp with rfl | rfl
    · exact key 128 rfl (by omega) inb_S8x256_S8x128_0_128 _ fun r l => by pointwise [k0_pay24]
    · exact key 0 rfl (by omega) inb_S8x256_S8x128_0_0 _ fun r l => by pointwise [k0_pay23]
  · rfl

end wide

section narrow

variable (tc tl th : Vec Ideal S8x128 .f32) (co si : Fin 8 → ℕ → EReal)
  (hc : ∀ r (l : Fin 128), tc (ix2 r l) = lane 64 8 (co r) (co r) 1 l.val)
  (hl : ∀ r (l : Fin 128), tl (ix2 r l) = lane 64 8 (fun i => -si r i) (fun _ => 0) 0 l.val)
  (hh : ∀ r (l : Fin 128), th (ix2 r l) = lane 64 8 (fun _ => 0) (si r) 0 l.val)

include hc hl hh

/-- The fifth result's block: the rotated products of the index queries. -/
theorem index_canon (r : Fin 8) (j : Fin 256) :
    (View.canon [⟨r0_14, k0_pay29 (k0_pay2 x w) tc tl th v⟩,
      ⟨r0_13, k0_pay28 (k0_pay2 x w) tc tl th v⟩] : Vec Ideal S8x256 .bf16) (ix2 r j)
      = rotated 64 8 (product x w v r) (co r) (si r) j := by
  have e : product x w v r = fun j => k0_pay27 (k0_pay2 x w) v (ix2 r j) := funext fun j => (index_product x w v r j).symm
  rw [e]
  have key := rotated_piece (n := 256) 64 8 (.inl ⟨rfl, rfl⟩) tc tl th co si hc hl hh (fun v => v) (k0_pay27 (k0_pay2 x w) v)
  refine (View.canon_apply_of_pieces
    (fun i : S8x256.Idx => rotated 64 8 (fun j => k0_pay27 (k0_pay2 x w) v (ix2 (i 0) j)) (co (i 0)) (si (i 0)) (i 1))
    _ (fun p hp => ?_) (ix2 r j) (cover0_14 _ _ _)).trans ?_
  · simp only [List.mem_cons, List.not_mem_nil, or_false] at hp
    rcases hp with rfl | rfl
    · exact key 128 rfl (by omega) inb_S8x256_S8x128_0_128 _ fun r l => by pointwise [k0_pay29]
    · exact key 0 rfl (by omega) inb_S8x256_S8x128_0_0 _ fun r l => by pointwise [k0_pay28]
  · rfl

omit hc hl hh in
/-- The lanes below 64, as the body compares them. -/
theorem below : ∀ l : Fin 128, IntOp.cmpi .slt (BitVec.ofNat 32 l.val) 64#32 = if l.val < 64 then 1#1 else 0#1 := by decide

/-- The sixth result's block: the index keys, rotated, and beside them the rest of the last columns. -/
theorem tail_at (r : Fin 8) (l : Fin 128) : k0_pay1 (k0_pay2 x w) tc tl th q (ix2 r l)
    = if l.val < 64 then rotated 64 8 (product x w q r) (co r) (si r) l else product x w q r l := by
  have h := rotated_lanes 64 8 0 (product x w q r) (co r) (si r) l
    ⟨(l.val + 128 - (128 - 8)) % 128, by omega⟩ ⟨(l.val + 128 - 8) % 128, by omega⟩ l (.inl ⟨rfl, rfl⟩) rfl (by simp) (by simp) (by simp)
  rw [← h, ← hc, ← hl, ← hh]
  pointwise [k0_pay1]
  simp only [normed_at]
  rw [below]
  split <;> rfl

end narrow

/-! ## The point's blocks -/

theorem origin : (![0, 0] : Fin 2 → Nat) = fun _ => 0 := funext fun a => by fin_cases a <;> rfl

theorem whole_rows (v : Vec Ideal S8x2048 .f32) : View.ld v r0_0 = v := View.ld_unit_zero origin ..

theorem whole_weight (v : Vec Ideal S1x2048 .f32) : View.ld v r0_1 = v := View.ld_unit_zero origin ..

theorem whole_tail (v : Vec Ideal S128x2048 .bf16) : View.ld v r0_20 = v := View.ld_unit_zero origin ..

theorem whole_lanes (v : Vec Ideal S8x128 .f32) : View.ld v r0_2 = v := View.ld_unit_zero origin ..

/-- The six tables are read as they are. -/
theorem whole_table (v : Vec Ideal S8x128 .f32) :
    (k0_pay3 v = v ∧ k0_pay4 v = v ∧ k0_pay5 v = v) ∧ k0_pay6 v = v ∧ k0_pay7 v = v ∧ k0_pay8 v = v :=
  ⟨⟨shapeCast_id .., shapeCast_id .., shapeCast_id ..⟩, shapeCast_id .., shapeCast_id .., shapeCast_id ..⟩

/-- The normed rows of the point's block times row `j` of the whole weights. -/
def column (x : Vec Ideal S8x2048 .f32) (w : Vec Ideal S1x2048 .f32) (y : Vec Ideal S2816x2048 .bf16) (r : Fin 8)
    (j : Fin 2816) : EReal := product x w y r j

variable (y : Vec Ideal S2816x2048 .bf16) (t4 t5 t6 t7 t8 t9 : Vec Ideal S8x128 .f32)

theorem queries_at (co si : Fin 8 → ℕ → EReal) (hc : ∀ r (l : Fin 128), t4 (ix2 r l) = lane 128 16 (co r) (co r) 1 l.val)
    (hl : ∀ r (l : Fin 128), t5 (ix2 r l) = lane 128 16 (fun i => -si r i) (fun _ => 0) 0 l.val)
    (hh : ∀ r (l : Fin 128), t6 (ix2 r l) = lane 128 16 (fun _ => 0) (si r) 0 l.val) (r : Fin 8) (j : Fin 1024) :
    out0_10 x w y q t4 t5 t6 t7 t8 t9 (ix2 r j)
      = rotated 128 16 (fun i : Fin 1024 => column x w y r ⟨i.val, by omega⟩) (co r) (si r) j * Ideal.ofBits .f32 0x3E0293EE#32 := by
  unfold out0_10 k0_pay37 k0_pay33 k0_pay32 k0_pay31
  simp only [whole_table, whole_rows, whole_weight, whole_lanes]
  refine (queries_canon x w (View.ld y r0_3) t4 t5 t6 co si hc hl hh r j).trans ?_
  have h : product x w (View.ld y r0_3) r = fun i : Fin 1024 => column x w y r ⟨i.val, by omega⟩ :=
    funext fun i => product_congr x w _ y r _ _ fun k => by pointwise [r0_3]
  rw [h]

theorem keys_at (co si : Fin 8 → ℕ → EReal) (hc : ∀ r (l : Fin 128), t4 (ix2 r l) = lane 128 16 (co r) (co r) 1 l.val)
    (hl : ∀ r (l : Fin 128), t5 (ix2 r l) = lane 128 16 (fun i => -si r i) (fun _ => 0) 0 l.val)
    (hh : ∀ r (l : Fin 128), t6 (ix2 r l) = lane 128 16 (fun _ => 0) (si r) 0 l.val) (r : Fin 8) (j : Fin 256) :
    out0_11 x w y q t4 t5 t6 t7 t8 t9 (ix2 r j)
      = rotated 128 16 (fun i : Fin 256 => column x w y r ⟨1024 + i.val, by omega⟩) (co r) (si r) j := by
  unfold out0_11 k0_pay33 k0_pay32 k0_pay31 k0_pay30
  simp only [whole_table, whole_rows, whole_weight, whole_lanes]
  refine (keys_canon x w (View.ld y r0_12) t4 t5 t6 co si hc hl hh r j).trans ?_
  have h : product x w (View.ld y r0_12) r = fun i : Fin 256 => column x w y r ⟨1024 + i.val, by omega⟩ :=
    funext fun i => product_congr x w _ y r _ _ fun k => by pointwise [r0_12]
  rw [h]

theorem values_at (r : Fin 8) (j : Fin 256) : out0_12 x w y q t4 t5 t6 t7 t8 t9 (ix2 r j) = column x w y r ⟨1280 + j.val, by omega⟩ := by
  unfold out0_12 k0_pay30
  rw [View.canon_unit_zero origin, whole_rows, whole_weight, values_product]
  exact product_congr x w _ y r _ _ fun k => by pointwise [r0_15]

theorem gate_at (r : Fin 8) (j : Fin 1024) : out0_13 x w y q t4 t5 t6 t7 t8 t9 (ix2 r j) = silu (column x w y r ⟨1536 + j.val, by omega⟩) := by
  unfold out0_13 k0_pay30
  rw [View.canon_unit_zero origin, whole_rows, whole_weight, gate_product]
  exact congrArg silu (product_congr x w _ y r _ _ fun k => by pointwise [r0_17])

theorem index_at (co si : Fin 8 → ℕ → EReal) (hc : ∀ r (l : Fin 128), t7 (ix2 r l) = lane 64 8 (co r) (co r) 1 l.val)
    (hl : ∀ r (l : Fin 128), t8 (ix2 r l) = lane 64 8 (fun i => -si r i) (fun _ => 0) 0 l.val)
    (hh : ∀ r (l : Fin 128), t9 (ix2 r l) = lane 64 8 (fun _ => 0) (si r) 0 l.val) (r : Fin 8) (j : Fin 256) :
    out0_14 x w y q t4 t5 t6 t7 t8 t9 (ix2 r j)
      = rotated 64 8 (fun i : Fin 256 => column x w y r ⟨2560 + i.val, by omega⟩) (co r) (si r) j := by
  unfold out0_14 k0_pay36 k0_pay35 k0_pay34 k0_pay30
  simp only [whole_table, whole_rows, whole_weight, whole_lanes]
  refine (index_canon x w (View.ld y r0_19) t7 t8 t9 co si hc hl hh r j).trans ?_
  have h : product x w (View.ld y r0_19) r = fun i : Fin 256 => column x w y r ⟨2560 + i.val, by omega⟩ :=
    funext fun i => product_congr x w _ y r _ _ fun k => by pointwise [r0_19]
  rw [h]

theorem last_at (co si : Fin 8 → ℕ → EReal) (hc : ∀ r (l : Fin 128), t7 (ix2 r l) = lane 64 8 (co r) (co r) 1 l.val)
    (hl : ∀ r (l : Fin 128), t8 (ix2 r l) = lane 64 8 (fun i => -si r i) (fun _ => 0) 0 l.val)
    (hh : ∀ r (l : Fin 128), t9 (ix2 r l) = lane 64 8 (fun _ => 0) (si r) 0 l.val) (r : Fin 8) (l : Fin 128) :
    out0_15 x w y q t4 t5 t6 t7 t8 t9 (ix2 r l)
      = if l.val < 64 then rotated 64 8 (product x w q r) (co r) (si r) l else product x w q r l := by
  unfold out0_15 k0_pay36 k0_pay35 k0_pay34 k0_pay30
  rw [View.canon_unit_zero origin]
  simp only [whole_table, whole_rows, whole_weight, whole_lanes, whole_tail]
  exact tail_at x w q t7 t8 t9 co si hc hl hh r l

end Cert.Proof.SampleSelBlock

end
-- ==== Proof.SampleSelTables.lean ====
/-
  The tables that the host hands to the sample group's input projection of the sparse heads: the cosines and the two signed halves of the sines
  of the samples' position, laid out over 128 lanes, once for heads of width 128 and once for heads of width 64.
-/
module

public import proofs.«01_k».proof.Proof.Gen.Kernel5Ideal.Value
public import proofs.«01_k».proof.Proof.SampleRow
public import Idealize.ShloMosaic.Lib.Pointwise

@[expose] public section

set_option maxRecDepth 65536

noncomputable section

open Idealize.ShloMosaic Idealize.ShloMosaic.TcCoe Idealize.SL.Sem

namespace Cert.Proof.SampleSelTables

open Cert.Kernel5Ideal Cert.Kernel5Ideal.Gen Cert.Proof.InRow Cert.Proof.SampleRow

/-! ## Heads of width 64: eight pairs -/

/-- The angles: each row's position times each of the eight frequencies. -/
def angles : FVec Ideal S8x8 .f32 :=
  mulf (broadcastInDim S8x8 ![0, 1] bcast_S8x1_S8x8_0_1
      (broadcastInDim S8x1 ![0] bcast_S8_S8x1_0 (sitofp .f32 (broadcastInDim S8 ![] bcast_S_S8 (constantI S_ 32 16384#32)))))
    (broadcastInDim S8x8 ![0, 1] bcast_S1x8_S8x8_0_1 (broadcastInDim S1x8 ![1] bcast_S8_S1x8_1
      (Host.powf (broadcastInDim S8 ![] bcast_S_S8 (constant S_ .f32 0x48F42400#32))
        (mulf (broadcastInDim S8 ![] bcast_S_S8 (constant S_ .f32 0xBE000000#32)) (sitofp .f32 (iotaInDim S8 32 0))))))

/-- Zero for each pair. -/
def zeros : FVec Ideal S8x8 .f32 := broadcastInDim S8x8 ![] bcast_S_S8x8 (constant S_ .f32 0x00000000#32)

/-- One value for the entries of a head that are not rotated. -/
def rest (b : BitVec 32) : FVec Ideal S8x48 .f32 := broadcastInDim S8x48 ![] bcast_S_S8x48 (constant S_ .f32 b)

/-- A table of one head, twice side by side. -/
def table (u v : FVec Ideal S8x8 .f32) (w : FVec Ideal S8x48 .f32) : FVec Ideal S8x128 .f32 :=
  shapeCast _ (broadcastInDim S1x8x2x64 ![0, 1, 2, 3] bcast_S1x8x1x64_S1x8x2x64_0_1_2_3
    (shapeCast _ (concatenate S8x64 1 [⟨S8x8, u⟩, ⟨S8x8, v⟩, ⟨S8x48, w⟩] concatenates_S8x8_S8x8_S8x48_S8x64_d1)
      shapeCasts_S8x64_S1x8x1x64)) shapeCasts_S1x8x2x64_S8x128

/-- The table of the cosines, entry by entry. -/
theorem cosines_at (t : Fin 8) (l : Fin 128) : table (Host.cos angles) (Host.cos angles) (rest 0x3F800000#32) (ix2 t l)
    = lane 64 8 (cosine 0xBE000000#32) (cosine 0xBE000000#32) 1 l.val := by
  pointwise [table, rest, angles]
  rfl

/-- The table of the sines that the first half of the rotated entries takes, entry by entry. -/
theorem lows_at (t : Fin 8) (l : Fin 128) : table (Host.negf (Host.sin angles)) zeros (rest 0x00000000#32) (ix2 t l)
    = lane 64 8 (fun i => -sine 0xBE000000#32 i) (fun _ => 0) 0 l.val := by
  pointwise [table, rest, zeros, angles]
  rfl

/-- The table of the sines that the second half takes, entry by entry. -/
theorem highs_at (t : Fin 8) (l : Fin 128) : table zeros (Host.sin angles) (rest 0x00000000#32) (ix2 t l)
    = lane 64 8 (fun _ => 0) (sine 0xBE000000#32) 0 l.val := by
  pointwise [table, rest, zeros, angles]
  rfl

/-! ## Heads of width 128: sixteen pairs -/

/-- The angles: each row's position times each of the sixteen frequencies. -/
def wideAngles : FVec Ideal S8x16 .f32 :=
  mulf (broadcastInDim S8x16 ![0, 1] bcast_S8x1_S8x16_0_1
      (broadcastInDim S8x1 ![0] bcast_S8_S8x1_0 (sitofp .f32 (broadcastInDim S8 ![] bcast_S_S8 (constantI S_ 32 16384#32)))))
    (broadcastInDim S8x16 ![0, 1] bcast_S1x16_S8x16_0_1 (broadcastInDim S1x16 ![1] bcast_S16_S1x16_1
      (Host.powf (broadcastInDim S16 ![] bcast_S_S16 (constant S_ .f32 0x48F42400#32))
        (mulf (broadcastInDim S16 ![] bcast_S_S16 (constant S_ .f32 0xBD800000#32)) (sitofp .f32 (iotaInDim S16 32 0))))))

/-- Zero for each pair. -/
def wideZeros : FVec Ideal S8x16 .f32 := broadcastInDim S8x16 ![] bcast_S_S8x16 (constant S_ .f32 0x00000000#32)

/-- One value for the entries of a head that are not rotated. -/
def wideRest (b : BitVec 32) : FVec Ideal S8x96 .f32 := broadcastInDim S8x96 ![] bcast_S_S8x96 (constant S_ .f32 b)

/-- A table of one head. -/
def wideTable (u v : FVec Ideal S8x16 .f32) (w : FVec Ideal S8x96 .f32) : FVec Ideal S8x128 .f32 :=
  shapeCast _ (broadcastInDim S1x8x1x128 ![0, 1, 2, 3] bcast_S1x8x1x128_S1x8x1x128_0_1_2_3
    (shapeCast _ (concatenate S8x128 1 [⟨S8x16, u⟩, ⟨S8x16, v⟩, ⟨S8x96, w⟩] concatenates_S8x16_S8x16_S8x96_S8x128_d1)
      shapeCasts_S8x128_S1x8x1x128)) shapeCasts_S1x8x1x128_S8x128

/-- The table of the cosines, entry by entry. -/
theorem wide_cosines_at (t : Fin 8) (l : Fin 128) : wideTable (Host.cos wideAngles) (Host.cos wideAngles) (wideRest 0x3F800000#32) (ix2 t l)
    = lane 128 16 (cosine 0xBD800000#32) (cosine 0xBD800000#32) 1 l.val := by
  pointwise [wideTable, wideRest, wideAngles]
  unfold lane
  rw [Nat.mod_eq_of_lt l.isLt]
  rfl

/-- The table of the sines that the first half of the rotated entries takes, entry by entry. -/
theorem wide_lows_at (t : Fin 8) (l : Fin 128) : wideTable (Host.negf (Host.sin wideAngles)) wideZeros (wideRest 0x00000000#32) (ix2 t l)
    = lane 128 16 (fun i => -sine 0xBD800000#32 i) (fun _ => 0) 0 l.val := by
  pointwise [wideTable, wideRest, wideZeros, wideAngles]
  unfold lane
  rw [Nat.mod_eq_of_lt l.isLt]
  rfl

/-- The table of the sines that the second half takes, entry by entry. -/
theorem wide_highs_at (t : Fin 8) (l : Fin 128) : wideTable wideZeros (Host.sin wideAngles) (wideRest 0x00000000#32) (ix2 t l)
    = lane 128 16 (fun _ => 0) (sine 0xBD800000#32) 0 l.val := by
  pointwise [wideTable, wideRest, wideZeros, wideAngles]
  unfold lane
  rw [Nat.mod_eq_of_lt l.isLt]
  rfl

/-! ## The arrays that the windows read -/

variable (m : (ℓ : Loc nD τ sig) → Buf (Elt Ideal) ℓ) (c : Dev nD)

theorem cosines_arr (t : Fin 8) (l : Fin 128) : (V m c main_v64 : Vec Ideal S8x128 .f32) (ix2 t l)
    = lane 64 8 (cosine 0xBE000000#32) (cosine 0xBE000000#32) 1 l.val := by
  have e : (V m c main_v64 : Vec Ideal S8x128 .f32) = table (Host.cos angles) (Host.cos angles) (rest 0x3F800000#32) := rfl
  rw [e, cosines_at]

theorem lows_arr (t : Fin 8) (l : Fin 128) : (V m c main_v67 : Vec Ideal S8x128 .f32) (ix2 t l)
    = lane 64 8 (fun i => -sine 0xBE000000#32 i) (fun _ => 0) 0 l.val := by
  have e : (V m c main_v67 : Vec Ideal S8x128 .f32) = table (Host.negf (Host.sin angles)) zeros (rest 0x00000000#32) := rfl
  rw [e, lows_at]

theorem highs_arr (t : Fin 8) (l : Fin 128) : (V m c main_v70 : Vec Ideal S8x128 .f32) (ix2 t l)
    = lane 64 8 (fun _ => 0) (sine 0xBE000000#32) 0 l.val := by
  have e : (V m c main_v70 : Vec Ideal S8x128 .f32) = table zeros (Host.sin angles) (rest 0x00000000#32) := rfl
  rw [e, highs_at]

theorem wide_cosines_arr (t : Fin 8) (l : Fin 128) : (V m c main_v35 : Vec Ideal S8x128 .f32) (ix2 t l)
    = lane 128 16 (cosine 0xBD800000#32) (cosine 0xBD800000#32) 1 l.val := by
  have e : (V m c main_v35 : Vec Ideal S8x128 .f32) = wideTable (Host.cos wideAngles) (Host.cos wideAngles) (wideRest 0x3F800000#32) := rfl
  rw [e, wide_cosines_at]

theorem wide_lows_arr (t : Fin 8) (l : Fin 128) : (V m c main_v38 : Vec Ideal S8x128 .f32) (ix2 t l)
    = lane 128 16 (fun i => -sine 0xBD800000#32 i) (fun _ => 0) 0 l.val := by
  have e : (V m c main_v38 : Vec Ideal S8x128 .f32) = wideTable (Host.negf (Host.sin wideAngles)) wideZeros (wideRest 0x00000000#32) := rfl
  rw [e, wide_lows_at]

theorem wide_highs_arr (t : Fin 8) (l : Fin 128) : (V m c main_v41 : Vec Ideal S8x128 .f32) (ix2 t l)
    = lane 128 16 (fun _ => 0) (sine 0xBD800000#32) 0 l.val := by
  have e : (V m c main_v41 : Vec Ideal S8x128 .f32) = wideTable wideZeros (Host.sin wideAngles) (wideRest 0x00000000#32) := rfl
  rw [e, wide_highs_at]

end Cert.Proof.SampleSelTables

end
-- ==== Proof.SampleSelValue.lean ====
/-
  The sample group's input projection of the sparse heads as a whole: its grid has one point, whose blocks are the whole arrays,
  so each entry of a result is the row function of `InRow` at the same row of the arguments.
-/
module

public import proofs.«01_k».proof.Proof.SampleSelBlock
public import proofs.«01_k».proof.Proof.SampleSelTables
public import proofs.«01_k».proof.Proof.SelValue

@[expose] public section

set_option maxRecDepth 65536

noncomputable section

open Idealize.ShloMosaic Idealize.ShloMosaic.TcCoe Idealize.SL.Sem
open Idealize.ShloMosaic.Pipeline (Dat)

namespace Cert.Proof.SampleSelValue

open Cert.Kernel5Ideal Cert.Kernel5Ideal.Gen Cert.Proof.InRow
open Cert.Proof.OutValue (eq_ix2)
open Cert.Proof.SampleRow
open Cert.Proof.InValue (whole_place whole_bounds)
open Cert.Proof.SelValue (exists_ix2)

variable (m : (ℓ : Loc nD τ sig) → Buf (Elt Ideal) ℓ) (c : Dev nD)

/-- The one point reads the whole of the rows and of the tables. -/
theorem index_rows : ∀ t : Fin cfg0.N, (win0_0.index t 0 = 0 ∧ win0_0.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) := by
  decide +kernel

/-- It reads the whole of each weight too. -/
theorem index_whole : ∀ t : Fin cfg0.N, (win0_1.index t 0 = 0 ∧ win0_1.index t 1 = 0)
    ∧ (win0_2.index t 0 = 0 ∧ win0_2.index t 1 = 0) ∧ (win0_3.index t 0 = 0 ∧ win0_3.index t 1 = 0) := by decide +kernel

/-- It writes the whole of each result. -/
theorem index_results : ∀ t : Fin cfg0.N, (win0_10.index t 0 = 0 ∧ win0_10.index t 1 = 0)
    ∧ (win0_11.index t 0 = 0 ∧ win0_11.index t 1 = 0) ∧ (win0_12.index t 0 = 0 ∧ win0_12.index t 1 = 0)
    ∧ (win0_13.index t 0 = 0 ∧ win0_13.index t 1 = 0) ∧ (win0_14.index t 0 = 0 ∧ win0_14.index t 1 = 0)
    ∧ (win0_15.index t 0 = 0 ∧ win0_15.index t 1 = 0) := by decide +kernel

/-! ## The arrays the windows read, in terms of the arguments -/

/-- The tokens as rows. -/
def rows (x : FVec Ideal S8x1x2048 .f32) : FVec Ideal S8x2048 .f32 := shapeCast _ x shapeCasts_S8x1x2048_S8x2048

theorem rows_at (x : FVec Ideal S8x1x2048 .f32) (r : Fin 8) (k : Fin 2048) :
    rows x (ix2 r k) = x (ix3 r 0 k) := by
  pointwise [rows]

/-- The norm's weights. -/
def weights (w : FVec Ideal S1x2048 .f32) : FVec Ideal S1x2048 .f32 :=
  broadcastInDim S1x2048 ![1] bcast_S2048_S1x2048_1 (shapeCast S2048 w shapeCasts_S1x2048_S2048)

theorem weights_at (w : FVec Ideal S1x2048 .f32) (k : Fin 2048) : weights w (ix2 0 k) = w (ix2 0 k) := by
  pointwise [weights]

/-- The columns of the weights from 4096 on, all but the last 68, as rows. -/
def turnedColumns (v : FVec Ideal S1x2048x6980 .f32) : FVec Ideal S2816x2048 .bf16 :=
  truncf .bf16 (transpose S2816x2048 [1, 0] (shapeCast S2048x2816
    (extractStridedSlice S1x2048x2816 ![0, 0, 4096] v slices_S1x2048x6980_S1x2048x2816_0_0_4096) shapeCasts_S1x2048x2816_S2048x2816)
    transposes_S2048x2816_S2816x2048_1_0) bitsLt_bf16_f32

theorem turnedColumns_at (v : FVec Ideal S1x2048x6980 .f32) (j : Fin 2816) (k : Fin 2048) :
    turnedColumns v (ix2 j k) = v (ix3 0 k ⟨4096 + j.val, by omega⟩) := by
  pointwise [turnedColumns]

/-- The last 68 columns, as rows, with rows of zeros up to 128. -/
def turnedTail (v : FVec Ideal S1x2048x6980 .f32) : FVec Ideal S128x2048 .bf16 :=
  truncf .bf16 (pad S128x2048 ![0, 0] ![60, 0] ![0, 0] (transpose S68x2048 [1, 0] (shapeCast S2048x68
      (extractStridedSlice S1x2048x68 ![0, 0, 6912] v slices_S1x2048x6980_S1x2048x68_0_0_6912) shapeCasts_S1x2048x68_S2048x68)
      transposes_S2048x68_S68x2048_1_0) ((sitofp .f32 (constantI S_ 32 0#32)) : FVec Ideal S_ .f32)
    pads_S68x2048_S128x2048_0600_000 h_S_) bitsLt_bf16_f32

theorem turnedTail_at (v : FVec Ideal S1x2048x6980 .f32) (l : Fin 128) (k : Fin 2048) :
    turnedTail v (ix2 l k) = if h : l.val < 68 then v (ix3 0 k ⟨6912 + l.val, by omega⟩) else 0 := by
  pointwise [turnedTail]
  have e : FloatOps.sitofp (F := Ideal) FTy.f32 0#32 = (0 : EReal) := by
    show (((0#32).toInt : ℝ) : EReal) = 0
    simp
  rw [e]

theorem x_arr (r : Fin 8) (k : Fin 2048) : (V m c main_v11 : Vec Ideal S8x2048 .f32) (ix2 r k)
    = m ((c.tc : Thread nD τ).loc main_arg0) (ix3 r 0 k) := by
  have e : (V m c main_v11 : Vec Ideal S8x2048 .f32) = rows (m ((c.tc : Thread nD τ).loc main_arg0)) := rfl
  rw [e, rows_at]

theorem w_arr (k : Fin 2048) : (V m c main_v10 : Vec Ideal S1x2048 .f32) (ix2 0 k)
    = m ((c.tc : Thread nD τ).loc main_arg1) (ix2 0 k) := by
  have e : (V m c main_v10 : Vec Ideal S1x2048 .f32) = weights (m ((c.tc : Thread nD τ).loc main_arg1)) := rfl
  rw [e, weights_at]

theorem v_arr (j : Fin 2816) (k : Fin 2048) : (V m c main_v3 : Vec Ideal S2816x2048 .bf16) (ix2 j k)
    = m ((c.tc : Thread nD τ).loc main_arg2) (ix3 0 k ⟨4096 + j.val, by omega⟩) := by
  have e : (V m c main_v3 : Vec Ideal S2816x2048 .bf16) = turnedColumns (m ((c.tc : Thread nD τ).loc main_arg2)) := rfl
  rw [e, turnedColumns_at]

/-- The last 68 columns of the argument, as rows, and zeros. -/
def tailWeight (l : Fin 128) (k : Fin 2048) : EReal :=
  if h : l.val < 68 then m ((c.tc : Thread nD τ).loc main_arg2) (ix3 0 k ⟨6912 + l.val, by omega⟩) else 0

theorem q_arr (l : Fin 128) (k : Fin 2048) : (V m c main_v8 : Vec Ideal S128x2048 .bf16) (ix2 l k) = tailWeight m c l k := by
  have e : (V m c main_v8 : Vec Ideal S128x2048 .bf16) = turnedTail (m ((c.tc : Thread nD τ).loc main_arg2)) := rfl
  rw [e, turnedTail_at]
  rfl

/-! ## The blocks of the point -/

theorem x_at (t : Fin cfg0.N) (r : Fin 8) (k : Fin 2048) : (iblk m c 0 t : Vec Ideal S8x2048 .f32) (ix2 r k)
    = m ((c.tc : Thread nD τ).loc main_arg0) (ix3 r 0 k) := by
  have hi := (index_rows t).1
  refine (congrArg (V m c main_v11) (eq_ix2 _ r k ?_ (whole_place k _ hi.2))).trans (x_arr m c _ k)
  show win0_0.index t 0 * 8 + 1 * r.val = r.val
  rw [hi.1]; omega

theorem w_at (t : Fin cfg0.N) (k : Fin 2048) : (iblk m c 1 t : Vec Ideal S1x2048 .f32) (ix2 0 k)
    = m ((c.tc : Thread nD τ).loc main_arg1) (ix2 0 k) := by
  have hi := (index_whole t).1
  exact (congrArg (V m c main_v10) (eq_ix2 _ 0 k (whole_place (0 : Fin 1) _ hi.1) (whole_place k _ hi.2))).trans (w_arr m c k)

theorem v_at (t : Fin cfg0.N) (j : Fin 2816) (k : Fin 2048) : (iblk m c 2 t : Vec Ideal S2816x2048 .bf16) (ix2 j k)
    = m ((c.tc : Thread nD τ).loc main_arg2) (ix3 0 k ⟨4096 + j.val, by omega⟩) := by
  have hi := (index_whole t).2.1
  exact (congrArg (V m c main_v3) (eq_ix2 _ j k (whole_place j _ hi.1) (whole_place k _ hi.2))).trans (v_arr m c j k)

theorem q_at (t : Fin cfg0.N) (l : Fin 128) (k : Fin 2048) : (iblk m c 3 t : Vec Ideal S128x2048 .bf16) (ix2 l k)
    = tailWeight m c l k := by
  have hi := (index_whole t).2.2
  exact (congrArg (V m c main_v8) (eq_ix2 _ l k (whole_place l _ hi.1) (whole_place k _ hi.2))).trans (q_arr m c l k)

theorem wide_cosines_at (t : Fin cfg0.N) (r : Fin 8) (l : Fin 128) : (iblk m c 4 t : Vec Ideal S8x128 .f32) (ix2 r l)
    = lane 128 16 (cosine 0xBD800000#32) (cosine 0xBD800000#32) 1 l.val := by
  have hi := (index_rows t).2.1
  exact (congrArg (V m c main_v35) (eq_ix2 _ r l (whole_place r _ hi.1) (whole_place l _ hi.2))).trans
    (SampleSelTables.wide_cosines_arr m c _ l)

theorem wide_lows_at (t : Fin cfg0.N) (r : Fin 8) (l : Fin 128) : (iblk m c 5 t : Vec Ideal S8x128 .f32) (ix2 r l)
    = lane 128 16 (fun i => -sine 0xBD800000#32 i) (fun _ => 0) 0 l.val := by
  have hi := (index_rows t).2.2.1
  exact (congrArg (V m c main_v38) (eq_ix2 _ r l (whole_place r _ hi.1) (whole_place l _ hi.2))).trans
    (SampleSelTables.wide_lows_arr m c _ l)

theorem wide_highs_at (t : Fin cfg0.N) (r : Fin 8) (l : Fin 128) : (iblk m c 6 t : Vec Ideal S8x128 .f32) (ix2 r l)
    = lane 128 16 (fun _ => 0) (sine 0xBD800000#32) 0 l.val := by
  have hi := (index_rows t).2.2.2.1
  exact (congrArg (V m c main_v41) (eq_ix2 _ r l (whole_place r _ hi.1) (whole_place l _ hi.2))).trans
    (SampleSelTables.wide_highs_arr m c _ l)

theorem cosines_at (t : Fin cfg0.N) (r : Fin 8) (l : Fin 128) : (iblk m c 7 t : Vec Ideal S8x128 .f32) (ix2 r l)
    = lane 64 8 (cosine 0xBE000000#32) (cosine 0xBE000000#32) 1 l.val := by
  have hi := (index_rows t).2.2.2.2.1
  exact (congrArg (V m c main_v64) (eq_ix2 _ r l (whole_place r _ hi.1) (whole_place l _ hi.2))).trans
    (SampleSelTables.cosines_arr m c _ l)

theorem lows_at (t : Fin cfg0.N) (r : Fin 8) (l : Fin 128) : (iblk m c 8 t : Vec Ideal S8x128 .f32) (ix2 r l)
    = lane 64 8 (fun i => -sine 0xBE000000#32 i) (fun _ => 0) 0 l.val := by
  have hi := (index_rows t).2.2.2.2.2.1
  exact (congrArg (V m c main_v67) (eq_ix2 _ r l (whole_place r _ hi.1) (whole_place l _ hi.2))).trans
    (SampleSelTables.lows_arr m c _ l)

theorem highs_at (t : Fin cfg0.N) (r : Fin 8) (l : Fin 128) : (iblk m c 9 t : Vec Ideal S8x128 .f32) (ix2 r l)
    = lane 64 8 (fun _ => 0) (sine 0xBE000000#32) 0 l.val := by
  have hi := (index_rows t).2.2.2.2.2.2
  exact (congrArg (V m c main_v70) (eq_ix2 _ r l (whole_place r _ hi.1) (whole_place l _ hi.2))).trans
    (SampleSelTables.highs_arr m c _ l)

/-- Row `r` of the arguments, normed, times column `4096 + j` of the weights. -/
def column (r : Fin 8) (j : Fin 2884) : EReal :=
  projected (fun k => m ((c.tc : Thread nD τ).loc main_arg0) (ix3 r 0 k))
    (fun k => m ((c.tc : Thread nD τ).loc main_arg1) (ix2 0 k))
    (fun k => m ((c.tc : Thread nD τ).loc main_arg2) (ix3 0 k ⟨4096 + j.val, by omega⟩))

theorem column_at (t : Fin cfg0.N) (r : Fin 8) :
    SampleSelBlock.column (iblk m c 0 t) (iblk m c 1 t) (iblk m c 2 t) r = fun j => column m c r ⟨j.val, by omega⟩ := by
  funext j
  unfold SampleSelBlock.column SampleSelBlock.product column
  simp only [x_at, w_at, v_at]

/-- The product with the last weight: the last 68 columns, then zeros. -/
def tail (r : Fin 8) (l : Fin 128) : EReal := if h : l.val < 68 then column m c r ⟨2816 + l.val, by omega⟩ else 0

theorem tail_at (t : Fin cfg0.N) (r : Fin 8) :
    SampleSelBlock.product (iblk m c 0 t) (iblk m c 1 t) (iblk m c 3 t) r = tail m c r := by
  funext l
  unfold SampleSelBlock.product tail
  simp only [x_at, w_at, q_at, tailWeight]
  split
  · exact congrArg (projected _ _) (funext fun k => congrArg _ (congrArg (ix3 0 k) (Fin.ext (by show 6912 + l.val = 4096 + (2816 + l.val); omega))))
  · simp only [projected, mul_zero, Finset.sum_const_zero]

/-! ## The results -/

/-- The queries: the first 1024 columns, rotated and scaled. -/
def query (r : Fin 8) (j : Fin 1024) : EReal :=
  rotated 128 16 (fun i : Fin 1024 => column m c r ⟨i.val, by omega⟩) (cosine 0xBD800000#32) (sine 0xBD800000#32) j * Ideal.ofBits .f32 0x3E0293EE#32

/-- The keys: the next 256, rotated. -/
def key (r : Fin 8) (j : Fin 256) : EReal :=
  rotated 128 16 (fun i : Fin 256 => column m c r ⟨1024 + i.val, by omega⟩) (cosine 0xBD800000#32) (sine 0xBD800000#32) j

/-- The values: the next 256. -/
def value (r : Fin 8) (j : Fin 256) : EReal := column m c r ⟨1280 + j.val, by omega⟩

/-- The gate: the next 1024. -/
def gate (r : Fin 8) (j : Fin 1024) : EReal := silu (column m c r ⟨1536 + j.val, by omega⟩)

/-- The index queries: the next 256, rotated. -/
def index (r : Fin 8) (j : Fin 256) : EReal :=
  rotated 64 8 (fun i : Fin 256 => column m c r ⟨2560 + i.val, by omega⟩) (cosine 0xBE000000#32) (sine 0xBE000000#32) j

/-- The index keys, which are the next 64, rotated; the last four columns; and zeros. -/
def last (r : Fin 8) (l : Fin 128) : EReal :=
  if h : l.val < 64 then
    rotated 64 8 (fun j : Fin 64 => column m c r ⟨2816 + j.val, by omega⟩) (cosine 0xBE000000#32) (sine 0xBE000000#32) ⟨l.val, h⟩
  else if h : l.val - 64 < 4 then column m c r ⟨2880 + (l.val - 64), by omega⟩ else 0

theorem last_eq (r : Fin 8) (l : Fin 128) :
    (if l.val < 64 then rotated 64 8 (tail m c r) (cosine 0xBE000000#32) (sine 0xBE000000#32) l else tail m c r l) = last m c r l := by
  unfold last
  split
  · next h =>
    refine (rotated_head (n := 128) (by omega) (tail m c r) (cosine 0xBE000000#32) (sine 0xBE000000#32) ⟨l.val, h⟩).trans
      (congrArg (fun z : Fin 64 → EReal => rotated 64 8 z (cosine 0xBE000000#32) (sine 0xBE000000#32) ⟨l.val, h⟩) (funext fun j => ?_))
    exact dif_pos (show j.val < 68 by omega)
  · next h =>
    unfold tail
    by_cases h' : l.val < 68
    · rw [dif_pos h', dif_pos (show l.val - 64 < 4 by omega)]
      exact congrArg (column m c r) (Fin.ext (by show 2816 + l.val = 2880 + (l.val - 64); omega))
    · rw [dif_neg h', dif_neg (show ¬l.val - 64 < 4 by omega)]

def queries : Buf (Elt Ideal) ((c.tc : Thread nD τ).loc main_v71_0) := (fun i => query m c (i 0) (i 1) : Vec Ideal S8x1024 .bf16)
def keys : Buf (Elt Ideal) ((c.tc : Thread nD τ).loc main_v71_1) := (fun i => key m c (i 0) (i 1) : Vec Ideal S8x256 .f32)
def values : Buf (Elt Ideal) ((c.tc : Thread nD τ).loc main_v71_2) := (fun i => value m c (i 0) (i 1) : Vec Ideal S8x256 .f32)
def gates : Buf (Elt Ideal) ((c.tc : Thread nD τ).loc main_v71_3) := (fun i => gate m c (i 0) (i 1) : Vec Ideal S8x1024 .f32)
def indices : Buf (Elt Ideal) ((c.tc : Thread nD τ).loc main_v71_4) := (fun i => index m c (i 0) (i 1) : Vec Ideal S8x256 .bf16)
def lasts : Buf (Elt Ideal) ((c.tc : Thread nD τ).loc main_v71_5) := (fun i => last m c (i 0) (i 1) : Vec Ideal S8x128 .f32)
/-- An index of an array of 8 rows lies in the one block. -/
theorem rows_bounds {n : ℕ} (i : (⟨2, ![8, n]⟩ : Shape).Idx) (a : Fin 2 → ℕ) (h : a 0 = 0 ∧ a 1 = 0) (d : Fin 2) :
    a d * (![8, n] : Fin 2 → ℕ) d ≤ (i d).val ∧ (i d).val < a d * (![8, n] : Fin 2 → ℕ) d + (![8, n] : Fin 2 → ℕ) d :=
  match d with
  | ⟨0, _⟩ => whole_bounds 8 _ _ (i 0).isLt h.1
  | ⟨1, _⟩ => whole_bounds n _ _ (i 1).isLt h.2

/-- The one point. -/
def point : Fin cfg0.N := ⟨0, by have : cfg0.N = 1 := N_0; omega⟩

/-- The first result ends holding the queries. -/
theorem queries_final : (dats m 0 c).arrAt 10 cfg0.N = queries m c := by
  refine (dats m 0 c).arrAt_eq_of_cover 10 (queries m c) (fun t _ => ?_) fun i => ⟨point, flush0_10 _, ?_⟩
  · have hi := (index_results t).1
    rw [Value.flushed10]
    funext y
    obtain ⟨r, j, rfl⟩ := exists_ix2 (p := 8) (q := 1024) y
    have hemb : ((cfg0.win 10).blk t).view.emb (ix2 r j) = (ix2 r j : S8x1024.Idx) :=
      eq_ix2 _ _ _ (whole_place r _ hi.1) (whole_place j _ hi.2)
    refine (SampleSelBlock.queries_at _ _ _ _ _ _ _ _ _ _ (fun _ => cosine 0xBD800000#32) (fun _ => sine 0xBD800000#32)
      (wide_cosines_at m c t) (wide_lows_at m c t) (wide_highs_at m c t) r j).trans (Eq.trans ?_ (congrArg (queries m c) hemb).symm)
    rw [column_at]
    rfl
  · show (i : S8x1024.Idx) ∈ ((View.whole main_v71_0).slice (win0_10.rect point)).set
    rw [View.set_slice_whole, Rect.mem_set_unit]
    exact rows_bounds (n := 1024) i _ (index_results _).1

/-- The second ends holding the keys. -/
theorem keys_final : (dats m 0 c).arrAt 11 cfg0.N = keys m c := by
  refine (dats m 0 c).arrAt_eq_of_cover 11 (keys m c) (fun t _ => ?_) fun i => ⟨point, flush0_11 _, ?_⟩
  · have hi := (index_results t).2.1
    rw [Value.flushed11]
    funext y
    obtain ⟨r, j, rfl⟩ := exists_ix2 (p := 8) (q := 256) y
    have hemb : ((cfg0.win 11).blk t).view.emb (ix2 r j) = (ix2 r j : S8x256.Idx) :=
      eq_ix2 _ _ _ (whole_place r _ hi.1) (whole_place j _ hi.2)
    refine (SampleSelBlock.keys_at _ _ _ _ _ _ _ _ _ _ (fun _ => cosine 0xBD800000#32) (fun _ => sine 0xBD800000#32)
      (wide_cosines_at m c t) (wide_lows_at m c t) (wide_highs_at m c t) r j).trans (Eq.trans ?_ (congrArg (keys m c) hemb).symm)
    rw [column_at]
    rfl
  · show (i : S8x256.Idx) ∈ ((View.whole main_v71_1).slice (win0_11.rect point)).set
    rw [View.set_slice_whole, Rect.mem_set_unit]
    exact rows_bounds (n := 256) i _ (index_results _).2.1

/-- The third ends holding the values. -/
theorem values_final : (dats m 0 c).arrAt 12 cfg0.N = values m c := by
  refine (dats m 0 c).arrAt_eq_of_cover 12 (values m c) (fun t _ => ?_) fun i => ⟨point, flush0_12 _, ?_⟩
  · have hi := (index_results t).2.2.1
    rw [Value.flushed12]
    funext y
    obtain ⟨r, j, rfl⟩ := exists_ix2 (p := 8) (q := 256) y
    have hemb : ((cfg0.win 12).blk t).view.emb (ix2 r j) = (ix2 r j : S8x256.Idx) :=
      eq_ix2 _ _ _ (whole_place r _ hi.1) (whole_place j _ hi.2)
    refine (SampleSelBlock.values_at _ _ _ _ _ _ _ _ _ _ r j).trans (Eq.trans ?_ (congrArg (values m c) hemb).symm)
    rw [column_at]
    rfl
  · show (i : S8x256.Idx) ∈ ((View.whole main_v71_2).slice (win0_12.rect point)).set
    rw [View.set_slice_whole, Rect.mem_set_unit]
    exact rows_bounds (n := 256) i _ (index_results _).2.2.1

/-- The fourth ends holding the gate. -/
theorem gates_final : (dats m 0 c).arrAt 13 cfg0.N = gates m c := by
  refine (dats m 0 c).arrAt_eq_of_cover 13 (gates m c) (fun t _ => ?_) fun i => ⟨point, flush0_13 _, ?_⟩
  · have hi := (index_results t).2.2.2.1
    rw [Value.flushed13]
    funext y
    obtain ⟨r, j, rfl⟩ := exists_ix2 (p := 8) (q := 1024) y
    have hemb : ((cfg0.win 13).blk t).view.emb (ix2 r j) = (ix2 r j : S8x1024.Idx) :=
      eq_ix2 _ _ _ (whole_place r _ hi.1) (whole_place j _ hi.2)
    refine (SampleSelBlock.gate_at _ _ _ _ _ _ _ _ _ _ r j).trans (Eq.trans ?_ (congrArg (gates m c) hemb).symm)
    rw [column_at]
    rfl
  · show (i : S8x1024.Idx) ∈ ((View.whole main_v71_3).slice (win0_13.rect point)).set
    rw [View.set_slice_whole, Rect.mem_set_unit]
    exact rows_bounds (n := 1024) i _ (index_results _).2.2.2.1

/-- The fifth ends holding the index queries. -/
theorem indices_final : (dats m 0 c).arrAt 14 cfg0.N = indices m c := by
  refine (dats m 0 c).arrAt_eq_of_cover 14 (indices m c) (fun t _ => ?_) fun i => ⟨point, flush0_14 _, ?_⟩
  · have hi := (index_results t).2.2.2.2.1
    rw [Value.flushed14]
    funext y
    obtain ⟨r, j, rfl⟩ := exists_ix2 (p := 8) (q := 256) y
    have hemb : ((cfg0.win 14).blk t).view.emb (ix2 r j) = (ix2 r j : S8x256.Idx) :=
      eq_ix2 _ _ _ (whole_place r _ hi.1) (whole_place j _ hi.2)
    refine (SampleSelBlock.index_at _ _ _ _ _ _ _ _ _ _ (fun _ => cosine 0xBE000000#32) (fun _ => sine 0xBE000000#32)
      (cosines_at m c t) (lows_at m c t) (highs_at m c t) r j).trans (Eq.trans ?_ (congrArg (indices m c) hemb).symm)
    rw [column_at]
    rfl
  · show (i : S8x256.Idx) ∈ ((View.whole main_v71_4).slice (win0_14.rect point)).set
    rw [View.set_slice_whole, Rect.mem_set_unit]
    exact rows_bounds (n := 256) i _ (index_results _).2.2.2.2.1

/-- The sixth ends holding the index keys and the index heads' weights. -/
theorem lasts_final : (dats m 0 c).arrAt 15 cfg0.N = lasts m c := by
  refine (dats m 0 c).arrAt_eq_of_cover 15 (lasts m c) (fun t _ => ?_) fun i => ⟨point, flush0_15 _, ?_⟩
  · have hi := (index_results t).2.2.2.2.2
    rw [Value.flushed15]
    funext y
    obtain ⟨r, l, rfl⟩ := exists_ix2 (p := 8) (q := 128) y
    have hemb : ((cfg0.win 15).blk t).view.emb (ix2 r l) = (ix2 r l : S8x128.Idx) :=
      eq_ix2 _ _ _ (whole_place r _ hi.1) (whole_place l _ hi.2)
    refine (SampleSelBlock.last_at _ _ _ _ _ _ _ _ _ _ (fun _ => cosine 0xBE000000#32) (fun _ => sine 0xBE000000#32)
      (cosines_at m c t) (lows_at m c t) (highs_at m c t) r l).trans (Eq.trans ?_ (congrArg (lasts m c) hemb).symm)
    rw [tail_at]
    exact last_eq m c r l
  · show (i : S8x128.Idx) ∈ ((View.whole main_v71_5).slice (win0_15.rect point)).set
    rw [View.set_slice_whole, Rect.mem_set_unit]
    exact rows_bounds (n := 128) i _ (index_results _).2.2.2.2.2

end Cert.Proof.SampleSelValue

end
-- ==== Proof.SampleOutRef.lean ====
/-
  What the reference of the sample group's output projection computes: each entry of its result is the row function of
  `OutRow` at that token's row of the arguments.
-/
module

public import proofs.«01_k».proof.Proof.Gen.Reference6Ideal.Run
public import proofs.«01_k».proof.Proof.OutRow
public import Idealize.ShloMosaic.Lib.Pointwise

@[expose] public section

set_option maxRecDepth 16384

noncomputable section

open Idealize.ShloMosaic Idealize.ShloMosaic.TcCoe Idealize.SL.Sem

namespace Cert.Proof.SampleOutRef

open Cert.Reference6Ideal Cert.Reference6Ideal.Gen Cert.Proof.OutRow

/-- The heads' outputs, side by side, times the output weights. -/
def heads (a1 a2 : FVec Ideal S8x1x1024 .bf16) (wo : FVec Ideal S1x2048x2048 .f32) : FVec Ideal S8x1x2048 .f32 :=
  Host.dotGeneral dot_S8x1x2048_S2048x2048_S8x1x2048_2_0_01_1_n_n none
    (concatenate S8x1x2048 2 [⟨S8x1x1024, (extf .f32 a1 bitsLt_bf16_f32)⟩, ⟨S8x1x1024, (extf .f32 a2 bitsLt_bf16_f32)⟩]
      concatenates_S8x1x1024_S8x1x1024_S8x1x2048_d2)
    (shapeCast S2048x2048 wo shapeCasts_S1x2048x2048_S2048x2048)

/-- The stream plus the RMS norm of `o`. -/
def stream (x o : FVec Ideal S8x1x2048 .f32) (w : FVec Ideal S1x2048 .f32) : FVec Ideal S8x1x2048 .f32 :=
  addf x (mulf (mulf o (broadcastInDim S8x1x2048 ![0, 1, 2] bcast_S8x1x1_S8x1x2048_0_1_2
      (Host.rsqrt (addf (Host.divf (broadcastInDim S8x1x1 ![0, 1] bcast_S8x1_S8x1x1_0_1
          (Host.reduceAdd (mulf o o) (constant S_ .f32 0x00000000#32) reducesTo_S8x1x2048_S8x1_d2 h_S_))
          (broadcastInDim S8x1x1 ![] bcast_S_S8x1x1 (constant S_ .f32 0x45000000#32)))
        (broadcastInDim S8x1x1 ![] bcast_S_S8x1x1 (constant S_ .f32 0x358637BD#32))))))
    (broadcastInDim S8x1x2048 ![0, 1, 2] bcast_S1x1x2048_S8x1x2048_0_1_2
      (broadcastInDim S1x1x2048 ![2] bcast_S2048_S1x1x2048_2 (shapeCast S2048 w shapeCasts_S1x2048_S2048))))

/-- The stream plus its gate times the projected embedding. -/
def result (x : FVec Ideal S8x1x2048 .f32) (wg : FVec Ideal S1x2048x2048 .f32) (bg : FVec Ideal S1x2048 .f32)
    (p : FVec Ideal S1x8x1x256 .f32) (we : FVec Ideal S1x256x2048 .f32) : FVec Ideal S8x1x2048 .f32 :=
  addf x (mulf (Host.divf (broadcastInDim S8x1x2048 ![] bcast_S_S8x1x2048 (constant S_ .f32 0x3F800000#32))
      (addf (broadcastInDim S8x1x2048 ![] bcast_S_S8x1x2048 (constant S_ .f32 0x3F800000#32))
        (Host.exp (Host.negf (addf (Host.dotGeneral dot_S8x1x2048_S2048x2048_S8x1x2048_2_0_01_1_n_n none x
            (shapeCast S2048x2048 wg shapeCasts_S1x2048x2048_S2048x2048))
          (broadcastInDim S8x1x2048 ![0, 1, 2] bcast_S1x1x2048_S8x1x2048_0_1_2
            (broadcastInDim S1x1x2048 ![2] bcast_S2048_S1x1x2048_2 (shapeCast S2048 bg shapeCasts_S1x2048_S2048))))))))
    (Host.dotGeneral dot_S8x1x256_S256x2048_S8x1x2048_2_0_01_1_n_n none
      (shapeCast S8x1x256 p shapeCasts_S1x8x1x256_S8x1x256) (shapeCast S256x2048 we shapeCasts_S1x256x2048_S256x2048)))

/-- The product of the heads' outputs, at a token. -/
theorem heads_at (a1 a2 : FVec Ideal S8x1x1024 .bf16) (wo : FVec Ideal S1x2048x2048 .f32) (b : Fin 8) (j : Fin 2048) :
    heads a1 a2 wo (ix3 b 0 j)
      = mixed (fun k => a1 (ix3 b 0 k)) (fun k => a2 (ix3 b 0 k)) (fun k i => wo (ix3 0 k i)) j := by
  pointwise [heads]
  rfl

/-- The stream after the norm, at a token. -/
theorem stream_at (x o : FVec Ideal S8x1x2048 .f32) (w : FVec Ideal S1x2048 .f32) (b : Fin 8) (j : Fin 2048) :
    stream x o w (ix3 b 0 j) = normed (fun k => x (ix3 b 0 k)) (fun k => o (ix3 b 0 k)) (fun k => w (ix2 0 k)) j := by
  pointwise [stream]
  rfl

/-- The gated result, at a token. -/
theorem result_at (x : FVec Ideal S8x1x2048 .f32) (wg : FVec Ideal S1x2048x2048 .f32) (bg : FVec Ideal S1x2048 .f32)
    (p : FVec Ideal S1x8x1x256 .f32) (we : FVec Ideal S1x256x2048 .f32) (b : Fin 8) (j : Fin 2048) :
    result x wg bg p we (ix3 b 0 j)
      = gated (fun k => x (ix3 b 0 k)) (fun k i => wg (ix3 0 k i)) (fun k => bg (ix2 0 k)) (fun k => p (ix4 0 b 0 k))
          (fun k i => we (ix3 0 k i)) j := by
  pointwise [result]
  rfl

variable (m : (ℓ : Loc nD τ sig) → Buf (Elt Ideal) ℓ) (c : Dev nD)

/-- An entry of the reference's result, from its arguments. -/
theorem res_at (r : Fin 8) (j : Fin 2048) :
    Cert.Reference6Ideal.Value.res_out0 m c (ix2 r j)
      = gated (normed (fun k => m ((c.tc : Thread nD τ).loc main_arg0) (ix3 r 0 k))
          (mixed (fun k => m ((c.tc : Thread nD τ).loc main_arg1) (ix3 r 0 k))
            (fun k => m ((c.tc : Thread nD τ).loc main_arg2) (ix3 r 0 k))
            (fun k i => m ((c.tc : Thread nD τ).loc main_arg5) (ix3 0 k i)))
          (fun k => m ((c.tc : Thread nD τ).loc main_arg4) (ix2 0 k)))
        (fun k i => m ((c.tc : Thread nD τ).loc main_arg6) (ix3 0 k i)) (fun k => m ((c.tc : Thread nD τ).loc main_arg7) (ix2 0 k))
        (fun k => m ((c.tc : Thread nD τ).loc main_arg3) (ix4 0 r 0 k))
        (fun k i => m ((c.tc : Thread nD τ).loc main_arg8) (ix3 0 k i)) j := by
  have e : Cert.Reference6Ideal.Value.res_out0 m c
      = shapeCast S8x2048 (result (stream (m ((c.tc : Thread nD τ).loc main_arg0))
          (heads (m ((c.tc : Thread nD τ).loc main_arg1)) (m ((c.tc : Thread nD τ).loc main_arg2)) (m ((c.tc : Thread nD τ).loc main_arg5)))
          (m ((c.tc : Thread nD τ).loc main_arg4))) (m ((c.tc : Thread nD τ).loc main_arg6)) (m ((c.tc : Thread nD τ).loc main_arg7))
          (m ((c.tc : Thread nD τ).loc main_arg3)) (m ((c.tc : Thread nD τ).loc main_arg8))) shapeCasts_S8x1x2048_S8x2048 := rfl
  rw [e]
  pointwise
  simp only [result_at, stream_at, heads_at]

end Cert.Proof.SampleOutRef

end
-- ==== Proof.SampleOutBlock.lean ====
/-
  What the output projection of the sample group stores: each entry of its 8 rows is the row function of `OutRow` at that row
  of the blocks.
-/
module

public import proofs.«01_k».proof.Proof.Gen.Kernel6Ideal.Value
public import proofs.«01_k».proof.Proof.OutRow
public import Idealize.ShloMosaic.Lib.Pointwise

@[expose] public section

set_option maxRecDepth 16384

noncomputable section

open Idealize.ShloMosaic Idealize.ShloMosaic.TcCoe Idealize.SL.Sem

namespace Cert.Proof.SampleOutBlock

open Cert.Kernel6Ideal Cert.Kernel6Ideal.Gen Cert.Proof.OutRow

/-- The residual stream after the norm, at row `r` of the block. -/
theorem stream_at (a1 : Vec Ideal S8x1024 .bf16) (wa : Vec Ideal S1024x2048 .bf16) (a2 : Vec Ideal S8x1024 .bf16)
    (wb : Vec Ideal S1024x2048 .bf16) (x : Vec Ideal S8x2048 .f32) (w : Vec Ideal S1x2048 .f32)
    (wo : Fin 2048 → Fin 2048 → EReal) (ha : ∀ (k : Fin 1024) j, wa (ix2 k j) = wo ⟨k.val, by omega⟩ j)
    (hb : ∀ (k : Fin 1024) j, wb (ix2 k j) = wo ⟨1024 + k.val, by omega⟩ j) (r : Fin 8) (j : Fin 2048) :
    k0_pay2 a1 wa a2 wb x w (ix2 r j)
      = normed (fun k => x (ix2 r k)) (mixed (fun k => a1 (ix2 r k)) (fun k => a2 (ix2 r k)) wo) (fun k => w (ix2 0 k)) j := by
  pointwise [k0_pay2]
  simp only [ha, hb]
  rfl

/-- The gate's argument, at row `r` of the block. -/
theorem gate_at (a1 : Vec Ideal S8x1024 .bf16) (wa : Vec Ideal S1024x2048 .bf16) (a2 : Vec Ideal S8x1024 .bf16)
    (wb : Vec Ideal S1024x2048 .bf16) (x : Vec Ideal S8x2048 .f32) (w : Vec Ideal S1x2048 .f32)
    (wg : Vec Ideal S2048x2048 .bf16) (bg : Vec Ideal S1x2048 .f32) (r : Fin 8) (j : Fin 2048) :
    k0_pay3 a1 wa a2 wb x w wg bg (ix2 r j)
      = (∑ k, k0_pay2 a1 wa a2 wb x w (ix2 r k) * wg (ix2 k j)) + bg (ix2 0 j) := by
  pointwise [k0_pay3]

/-- The stored entry, from the stream and the gate's argument. -/
theorem stored_at (s z : FVec Ideal S8x2048 .f32) (p : Vec Ideal S8x256 .f32) (we : Vec Ideal S256x2048 .bf16)
    (r : Fin 8) (j : Fin 2048) :
    k0_pay1 s z (Scalar.ofBits .f32 0x00000000#32) p we (ix2 r j)
      = s (ix2 r j) + Ideal.div 1 (1 + Ideal.exp (-z (ix2 r j))) * ∑ k, p (ix2 r k) * we (ix2 k j) := by
  pointwise [k0_pay1]
  rw [zero_sub]

/-- The block that the one grid point stores, entry by entry. -/
theorem out_at (x : Vec Ideal S8x2048 .f32) (a1 a2 : Vec Ideal S8x1024 .bf16) (p : Vec Ideal S8x256 .f32)
    (wo : Vec Ideal S2048x2048 .bf16) (w : Vec Ideal S1x2048 .f32) (wg : Vec Ideal S2048x2048 .bf16) (bg : Vec Ideal S1x2048 .f32)
    (we : Vec Ideal S256x2048 .bf16) (r : Fin 8) (j : Fin 2048) :
    out0_9 x a1 a2 p wo w wg bg we (ix2 r j)
      = gated (normed (fun k => x (ix2 r k)) (mixed (fun k => a1 (ix2 r k)) (fun k => a2 (ix2 r k)) (fun k i => wo (ix2 k i)))
          (fun k => w (ix2 0 k))) (fun k i => wg (ix2 k i)) (fun k => bg (ix2 0 k)) (fun k => p (ix2 r k)) (fun k i => we (ix2 k i)) j := by
  have hz : (![0, 0] : Fin 2 → Nat) = fun _ => 0 := funext fun a => by fin_cases a <;> rfl
  unfold out0_9
  rw [View.canon_unit_zero hz, stored_at, gate_at]
  have hx (v : Vec Ideal S8x2048 .f32) : View.ld v r0_3 = v := View.ld_unit_zero hz ..
  have he (v : Vec Ideal S256x2048 .bf16) : View.ld v r0_7 = v := View.ld_unit_zero hz ..
  have ha (v : Vec Ideal S8x1024 .bf16) : View.ld v r0_0 = v := View.ld_unit_zero hz ..
  have hp (v : Vec Ideal S8x256 .f32) : View.ld v r0_6 = v := View.ld_unit_zero hz ..
  have hw (v : Vec Ideal S1x2048 .f32) : View.ld v r0_4 = v := View.ld_unit_zero hz ..
  have hg (v : Vec Ideal S2048x2048 .bf16) : View.ld v r0_5 = v := View.ld_unit_zero hz ..
  simp only [hx, he, ha, hp, hw, hg]
  have hs := stream_at a1 (View.ld wo r0_1) a2 (View.ld wo r0_2) x w (fun k i => wo (ix2 k i))
    (fun k j => by pointwise [r0_1]) (fun k j => by pointwise [r0_2]) r
  simp only [hs]
  rw [hg, hw, hp, he]
  rfl

end Cert.Proof.SampleOutBlock

end
-- ==== Proof.SampleOutValue.lean ====
/-
  The sample group's output projection as a whole: its grid has one point, whose blocks are the whole arrays, so each row of
  the result is the row function of `OutRow` at the same row of the arguments.
-/
module

public import proofs.«01_k».proof.Proof.SampleOutBlock
public import proofs.«01_k».proof.Proof.OutValue
public import Idealize.ShloMosaic.Lib.Claim
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Proof.SampleOutValue

open Cert.Kernel6Ideal Cert.Kernel6Ideal.Gen Cert.Proof.OutRow

variable (m : (ℓ : Loc nD τ sig) → Buf (Elt Ideal) ℓ) (ρ : Dev nD → PrngReg) (c : Dev nD)

/-- The one point reads the whole of each array of rows. -/
theorem index_rows : ∀ t : Fin cfg0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_9.index t 0 = 0 ∧ win0_9.index t 1 = 0) := by decide +kernel

/-- It reads the whole of each weight too. -/
theorem index_whole : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by decide +kernel

/-- The block of the stream. -/
theorem x_at (t : Fin cfg0.N) (r : Fin 8) (k : Fin 2048) :
    (iblk m c 0 t : Vec Ideal S8x2048 .f32) (ix2 r k) = (V m c main_v10 : Vec Ideal S8x2048 .f32) (ix2 r k) := by
  have hi := (index_rows t).1
  refine congrArg (V m c main_v10) (OutValue.eq_ix2 _ _ _ ?_ ?_)
  · show win0_0.index t 0 * 8 + 1 * r.val = r.val
    rw [hi.1]; omega
  · show win0_0.index t 1 * 2048 + 1 * k.val = k.val
    rw [hi.2]; omega

/-- The block of the first attention's output. -/
theorem a1_at (t : Fin cfg0.N) (r : Fin 8) (k : Fin 1024) :
    (iblk m c 1 t : Vec Ideal S8x1024 .bf16) (ix2 r k) = (V m c main_v11 : Vec Ideal S8x1024 .bf16) (ix2 r k) := by
  have hi := (index_rows t).2.1
  refine congrArg (V m c main_v11) (OutValue.eq_ix2 _ _ _ ?_ ?_)
  · show win0_1.index t 0 * 8 + 1 * r.val = r.val
    rw [hi.1]; omega
  · show win0_1.index t 1 * 1024 + 1 * k.val = k.val
    rw [hi.2]; omega

/-- The block of the second attention's output. -/
theorem a2_at (t : Fin cfg0.N) (r : Fin 8) (k : Fin 1024) :
    (iblk m c 2 t : Vec Ideal S8x1024 .bf16) (ix2 r k) = (V m c main_v12 : Vec Ideal S8x1024 .bf16) (ix2 r k) := by
  have hi := (index_rows t).2.2.1
  refine congrArg (V m c main_v12) (OutValue.eq_ix2 _ _ _ ?_ ?_)
  · show win0_2.index t 0 * 8 + 1 * r.val = r.val
    rw [hi.1]; omega
  · show win0_2.index t 1 * 1024 + 1 * k.val = k.val
    rw [hi.2]; omega

/-- The block of the per-layer embedding. -/
theorem p_at (t : Fin cfg0.N) (r : Fin 8) (k : Fin 256) :
    (iblk m c 3 t : Vec Ideal S8x256 .f32) (ix2 r k) = (V m c main_v14 : Vec Ideal S8x256 .f32) (ix2 r k) := by
  have hi := (index_rows t).2.2.2.1
  refine congrArg (V m c main_v14) (OutValue.eq_ix2 _ _ _ ?_ ?_)
  · show win0_3.index t 0 * 8 + 1 * r.val = r.val
    rw [hi.1]; omega
  · show win0_3.index t 1 * 256 + 1 * k.val = k.val
    rw [hi.2]; omega

/-- The output weights, whole. -/
theorem wo_at (t : Fin cfg0.N) (r : Fin 2048) (k : Fin 2048) :
    (iblk m c 4 t : Vec Ideal S2048x2048 .bf16) (ix2 r k) = (V m c main_v1 : Vec Ideal S2048x2048 .bf16) (ix2 r k) := by
  have hi := (index_whole t).1
  refine congrArg (V m c main_v1) (OutValue.eq_ix2 _ _ _ ?_ ?_)
  · show win0_4.index t 0 * 2048 + 1 * r.val = r.val
    rw [hi.1]; omega
  · show win0_4.index t 1 * 2048 + 1 * k.val = k.val
    rw [hi.2]; omega

/-- The norm's weights, whole. -/
theorem pw_at (t : Fin cfg0.N) (r : Fin 1) (k : Fin 2048) :
    (iblk m c 5 t : Vec Ideal S1x2048 .f32) (ix2 r k) = (V m c main_v7 : Vec Ideal S1x2048 .f32) (ix2 r k) := by
  have hi := (index_whole t).2.1
  refine congrArg (V m c main_v7) (OutValue.eq_ix2 _ _ _ ?_ ?_)
  · show win0_5.index t 0 * 1 + 1 * r.val = r.val
    rw [hi.1]; omega
  · show win0_5.index t 1 * 2048 + 1 * k.val = k.val
    rw [hi.2]; omega

/-- The gate's weights, whole. -/
theorem wg_at (t : Fin cfg0.N) (r : Fin 2048) (k : Fin 2048) :
    (iblk m c 6 t : Vec Ideal S2048x2048 .bf16) (ix2 r k) = (V m c main_v3 : Vec Ideal S2048x2048 .bf16) (ix2 r k) := by
  have hi := (index_whole t).2.2.1
  refine congrArg (V m c main_v3) (OutValue.eq_ix2 _ _ _ ?_ ?_)
  · show win0_6.index t 0 * 2048 + 1 * r.val = r.val
    rw [hi.1]; omega
  · show win0_6.index t 1 * 2048 + 1 * k.val = k.val
    rw [hi.2]; omega

/-- The gate's bias, whole. -/
theorem bg_at (t : Fin cfg0.N) (r : Fin 1) (k : Fin 2048) :
    (iblk m c 7 t : Vec Ideal S1x2048 .f32) (ix2 r k) = (V m c main_v9 : Vec Ideal S1x2048 .f32) (ix2 r k) := by
  have hi := (index_whole t).2.2.2.1
  refine congrArg (V m c main_v9) (OutValue.eq_ix2 _ _ _ ?_ ?_)
  · show win0_7.index t 0 * 1 + 1 * r.val = r.val
    rw [hi.1]; omega
  · show win0_7.index t 1 * 2048 + 1 * k.val = k.val
    rw [hi.2]; omega

/-- The embedding's weights, whole. -/
theorem we_at (t : Fin cfg0.N) (r : Fin 256) (k : Fin 2048) :
    (iblk m c 8 t : Vec Ideal S256x2048 .bf16) (ix2 r k) = (V m c main_v5 : Vec Ideal S256x2048 .bf16) (ix2 r k) := by
  have hi := (index_whole t).2.2.2.2
  refine congrArg (V m c main_v5) (OutValue.eq_ix2 _ _ _ ?_ ?_)
  · show win0_8.index t 0 * 256 + 1 * r.val = r.val
    rw [hi.1]; omega
  · show win0_8.index t 1 * 2048 + 1 * k.val = k.val
    rw [hi.2]; omega

/-! ## The arrays the windows read, in terms of the arguments -/

/-- The stream's row `r` is the one token of sample `r`. -/
theorem x_arr (r : Fin 8) (k : Fin 2048) : (V m c main_v10 : Vec Ideal S8x2048 .f32) (ix2 r k)
    = m ((c.tc : Thread nD τ).loc main_arg0) (ix3 r 0 k) := by
  entry_read
  pointwise

theorem a1_arr (r : Fin 8) (k : Fin 1024) : (V m c main_v11 : Vec Ideal S8x1024 .bf16) (ix2 r k)
    = m ((c.tc : Thread nD τ).loc main_arg1) (ix3 r 0 k) := by
  entry_read
  pointwise

theorem a2_arr (r : Fin 8) (k : Fin 1024) : (V m c main_v12 : Vec Ideal S8x1024 .bf16) (ix2 r k)
    = m ((c.tc : Thread nD τ).loc main_arg2) (ix3 r 0 k) := by
  entry_read
  pointwise

theorem p_arr (r : Fin 8) (k : Fin 256) : (V m c main_v14 : Vec Ideal S8x256 .f32) (ix2 r k)
    = m ((c.tc : Thread nD τ).loc main_arg3) (ix4 0 r 0 k) := by
  entry_read
  pointwise

/-- The output weights, read by rows and columns of the layer's one slice. -/
theorem wo_arr (k j : Fin 2048) : (V m c main_v1 : Vec Ideal S2048x2048 .bf16) (ix2 k j)
    = m ((c.tc : Thread nD τ).loc main_arg5) (ix3 0 k j) := by
  entry_read
  pointwise

theorem wg_arr (k j : Fin 2048) : (V m c main_v3 : Vec Ideal S2048x2048 .bf16) (ix2 k j)
    = m ((c.tc : Thread nD τ).loc main_arg6) (ix3 0 k j) := by
  entry_read
  pointwise

theorem we_arr (k : Fin 256) (j : Fin 2048) : (V m c main_v5 : Vec Ideal S256x2048 .bf16) (ix2 k j)
    = m ((c.tc : Thread nD τ).loc main_arg8) (ix3 0 k j) := by
  entry_read
  pointwise

theorem pw_arr (k : Fin 2048) : (V m c main_v7 : Vec Ideal S1x2048 .f32) (ix2 0 k)
    = m ((c.tc : Thread nD τ).loc main_arg4) (ix2 0 k) := by
  entry_read
  pointwise

theorem bg_arr (k : Fin 2048) : (V m c main_v9 : Vec Ideal S1x2048 .f32) (ix2 0 k)
    = m ((c.tc : Thread nD τ).loc main_arg7) (ix2 0 k) := by
  entry_read
  pointwise

/-- Entry `j` of the result's row `r`, as a function of the arguments. -/
def entry (r : Fin 8) (j : Fin 2048) : EReal :=
  gated (normed (fun k => m ((c.tc : Thread nD τ).loc main_arg0) (ix3 r 0 k))
      (mixed (fun k => m ((c.tc : Thread nD τ).loc main_arg1) (ix3 r 0 k))
        (fun k => m ((c.tc : Thread nD τ).loc main_arg2) (ix3 r 0 k))
        (fun k i => m ((c.tc : Thread nD τ).loc main_arg5) (ix3 0 k i)))
      (fun k => m ((c.tc : Thread nD τ).loc main_arg4) (ix2 0 k)))
    (fun k i => m ((c.tc : Thread nD τ).loc main_arg6) (ix3 0 k i)) (fun k => m ((c.tc : Thread nD τ).loc main_arg7) (ix2 0 k))
    (fun k => m ((c.tc : Thread nD τ).loc main_arg3) (ix4 0 r 0 k))
    (fun k i => m ((c.tc : Thread nD τ).loc main_arg8) (ix3 0 k i)) j

/-- The result, entry by entry. -/
def result : Buf (Elt Ideal) ((c.tc : Thread nD τ).loc main_v15) :=
  (fun i => entry m c (i 0) (i 1) : Vec Ideal S8x2048 .f32)

/-- What the point writes back is the result. -/
theorem flushed_eq (t : Fin cfg0.N) :
    (dats m 0 c).flushed 9 t = ((cfg0.win 9).blk t).view.read (Elt Ideal) (result m c) := by
  rw [Value.flushed9]
  funext y
  obtain ⟨r, j, rfl⟩ : ∃ (r : Fin 8) (j : Fin 2048), y = ix2 r j := ⟨y 0, y 1, OutValue.eq_ix2 _ _ _ rfl rfl⟩
  have hi := (index_rows t).2.2.2.2
  have hemb : ((cfg0.win 9).blk t).view.emb (ix2 r j) = (ix2 r j : S8x2048.Idx) := by
    refine OutValue.eq_ix2 _ _ _ ?_ ?_
    · show win0_9.index t 0 * 8 + 1 * r.val = r.val
      rw [hi.1]; omega
    · show win0_9.index t 1 * 2048 + 1 * j.val = j.val
      rw [hi.2]; omega
  have hr : ((cfg0.win 9).blk t).view.read (Elt Ideal) (result m c) (ix2 r j) = entry m c r j :=
    congrArg (result m c) hemb
  rw [hr]
  refine (SampleOutBlock.out_at _ _ _ _ _ _ _ _ _ r j).trans ?_
  simp only [fun k => (x_at m c t r k).trans (x_arr m c _ k),
    fun k => (a1_at m c t r k).trans (a1_arr m c _ k),
    fun k => (a2_at m c t r k).trans (a2_arr m c _ k),
    fun k => (p_at m c t r k).trans (p_arr m c _ k),
    fun k j => (wo_at m c t k j).trans (wo_arr m c k j),
    fun k j => (wg_at m c t k j).trans (wg_arr m c k j),
    fun k j => (we_at m c t k j).trans (we_arr m c k j),
    fun k => (pw_at m c t 0 k).trans (pw_arr m c k),
    fun k => (bg_at m c t 0 k).trans (bg_arr m c k)]
  rfl

/-- The one point's block is the whole result. -/
theorem mem_blk (t : Fin cfg0.N) (i : S8x2048.Idx) : i ∈ ((cfg0.win 9).blk t).view.set := by
  show i ∈ ((View.whole main_v15).slice (win0_9.rect t)).set
  rw [View.set_slice_whole, Rect.mem_set_unit]
  have hi := (index_rows t).2.2.2.2
  have h0 : (i 0 : Nat) < 8 := (i 0).isLt
  have h1 : (i 1 : Nat) < 2048 := (i 1).isLt
  intro a
  match a with
  | ⟨0, _⟩ => show win0_9.index t 0 * 8 ≤ (i 0 : Nat) ∧ (i 0 : Nat) < win0_9.index t 0 * 8 + 8
              rw [hi.1]; omega
  | ⟨1, _⟩ => show win0_9.index t 1 * 2048 ≤ (i 1 : Nat) ∧ (i 1 : Nat) < win0_9.index t 1 * 2048 + 2048
              rw [hi.2]; omega

/-- So the result ends holding the row function of every row. -/
theorem final : (dats m 0 c).arrAt 9 cfg0.N = result m c :=
  (dats m 0 c).arrAt_eq_of_cover 9 (result m c) (fun t _ => flushed_eq m c t) fun i =>
    ⟨⟨0, by have hN : cfg0.N = 1 := N_0; omega⟩, flush0_9 _, mem_blk _ i⟩

end Cert.Proof.SampleOutValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.OutRef
public import proofs.«01_k».proof.Proof.OutValue
public import proofs.«01_k».proof.Proof.InRef
public import proofs.«01_k».proof.Proof.InValue
public import proofs.«01_k».proof.Proof.SelRef
public import proofs.«01_k».proof.Proof.SelValue
public import proofs.«01_k».proof.Proof.SampleInRef
public import proofs.«01_k».proof.Proof.SampleInValue
public import proofs.«01_k».proof.Proof.SampleSelRef
public import proofs.«01_k».proof.Proof.SampleSelValue
public import proofs.«01_k».proof.Proof.SampleOutRef
public import proofs.«01_k».proof.Proof.SampleOutValue
public import Idealize.ShloMosaic.Adequacy
public import Idealize.ShloMosaic.Init

@[expose] public section

noncomputable section

namespace Cert.Proof

open Idealize.ShloMosaic Idealize.SL.Sem Cert.Kernel

/-- The reference runs to its end and leaves its arguments and counters as they were. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Kernel and reference leave the same result: both are the row function at every row of the arguments. -/
theorem algebraic : Cert.algebraic_KernelIdeal_ReferenceIdeal := by
  intro m ρ m' ρ' _ hagree
  refine ⟨fun c => OutValue.result m c,
    (θ_run Cert.KernelIdeal.defs _ _).mono (fun r h c => ⟨(h c).1.trans (OutValue.final m c), (h c).2⟩)
      (Cert.KernelIdeal.Value.run_blocks (F := Ideal) m ρ),
    (θ_run Cert.ReferenceIdeal.defs _ _).mono (fun r h c => ⟨(h c).1.trans ?_, (h c).2⟩)
      (Cert.ReferenceIdeal.Value.run (F := Ideal) m' ρ')⟩
  obtain ⟨h0, h1, h2, h3, h4, h5, h6, h7, h8⟩ := hagree c
  funext i
  obtain ⟨r, j, rfl⟩ : ∃ (r : Fin 8192) (j : Fin 2048), i = ix2 r j := ⟨i 0, i 1, OutValue.eq_ix2 _ _ _ rfl rfl⟩
  refine (OutRef.res_at m' c r j).trans ?_
  rw [h0, h1, h2, h3, h4, h5, h6, h7, h8]
  rfl

/-- The input projection's reference runs to its end and leaves its arguments and counters as they were. -/
theorem reference2_frame : Cert.quiescent_Reference2Ideal := fun m ρ _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

/-- The input projection and its reference leave the same five results: the row functions at every row of the arguments. -/
theorem algebraic2 : Cert.algebraic_Kernel2Ideal_Reference2Ideal := by
  intro m ρ m' ρ' _ hagree
  refine ⟨fun c => InValue.queries m c, fun c => InValue.keys m c, fun c => InValue.values m c, fun c => InValue.gates m c,
    fun c => InValue.turned m c,
    (θ_run Cert.Kernel2Ideal.defs _ _).mono (fun r h c => ?_) (Cert.Kernel2Ideal.Value.run_blocks (F := Ideal) m ρ),
    (θ_run Cert.Reference2Ideal.defs _ _).mono (fun r h c => ?_) (Cert.Reference2Ideal.Value.run (F := Ideal) m' ρ')⟩
  · obtain ⟨e0, e1, e2, e3, e4, h⟩ := h c
    exact ⟨e0.trans (InValue.queries_final m c), e1.trans (InValue.keys_final m c), e2.trans (InValue.values_final m c),
      e3.trans (InValue.gates_final m c), e4.trans (InValue.turned_final m c), h⟩
  · obtain ⟨e0, e1, e2, e3, e4, h⟩ := h c
    obtain ⟨h0, h1, h2⟩ := hagree c
    have hcol : ∀ (r : Fin 8192) (j : Fin 4096), InRef.column m' c r j = InValue.column m c r j := fun r j => by
      unfold InRef.column InValue.column
      rw [h0, h1, h2]
    have rows {p q : ℕ} (i : (⟨2, ![p, q]⟩ : Shape).Idx) : ∃ (r : Fin p) (j : Fin q), i = ix2 r j :=
      ⟨i 0, i 1, OutValue.eq_ix2 _ _ _ rfl rfl⟩
    refine ⟨e0.trans ?_, e1.trans ?_, e2.trans ?_, e3.trans ?_, e4.trans ?_, h⟩
    · funext i
      obtain ⟨r, j, rfl⟩ := rows (p := 8192) (q := 1024) i
      refine (InRef.queries_at m' c r j).trans ?_
      simp only [hcol]
      rfl
    · funext i
      obtain ⟨r, j, rfl⟩ := rows (p := 8192) (q := 1024) i
      refine (InRef.keys_at m' c r j).trans ?_
      simp only [hcol]
      rfl
    · funext i
      obtain ⟨r, j, rfl⟩ := rows (p := 8192) (q := 1024) i
      exact (InRef.values_at m' c r j).trans (hcol r _)
    · funext i
      obtain ⟨r, j, rfl⟩ := rows (p := 8192) (q := 1024) i
      exact (InRef.gates_at m' c r j).trans (congrArg InRow.silu (hcol r _))
    · funext i
      obtain ⟨j, r, rfl⟩ := rows (p := 1024) (q := 8192) i
      exact (InRef.turned_values_at m' c r j).trans (hcol r _)

/-- The reference of the sparse heads' projection runs to its end and leaves its arguments and counters as they were. -/
theorem reference3_frame : Cert.quiescent_Reference3Ideal := fun m ρ _ =>
  (θ_run Cert.Reference3Ideal.defs _ _).mono
    (fun r h => ⟨fun c => (h c).2.2.2.2.2.2.2, Idealize.ShloMosaic.sem_eq_zero_of_no_sems (by decide) r.2⟩)
    (Cert.Reference3Ideal.Value.run (F := Ideal) m ρ)

/-- The sparse heads' projection and its reference leave the same seven results: the row functions at every row of the
    arguments. -/
theorem algebraic3 : Cert.algebraic_Kernel3Ideal_Reference3Ideal := by
  intro m ρ m' ρ' _ hagree
  refine ⟨fun c => SelValue.queries m c, fun c => SelValue.keys m c, fun c => SelValue.values m c, fun c => SelValue.gates m c,
    fun c => SelValue.indices m c, fun c => SelValue.lasts m c, fun c => SelValue.turned m c,
    (θ_run Cert.Kernel3Ideal.defs _ _).mono (fun r h c => ?_) (Cert.Kernel3Ideal.Value.run_blocks (F := Ideal) m ρ),
    (θ_run Cert.Reference3Ideal.defs _ _).mono (fun r h c => ?_) (Cert.Reference3Ideal.Value.run (F := Ideal) m' ρ')⟩
  · obtain ⟨e0, e1, e2, e3, e4, e5, e6, h⟩ := h c
    exact ⟨e0.trans (SelValue.queries_final m c), e1.trans (SelValue.keys_final m c), e2.trans (SelValue.values_final m c),
      e3.trans (SelValue.gates_final m c), e4.trans (SelValue.indices_final m c), e5.trans (SelValue.lasts_final m c),
      e6.trans (SelValue.turned_final m c), h⟩
  · obtain ⟨e0, e1, e2, e3, e4, e5, e6, h⟩ := h c
    obtain ⟨h0, h1, h2⟩ := hagree c
    have hcol : ∀ (r : Fin 8192) (j : Fin 2884), SelRef.column m' c r j = SelValue.column m c r j := fun r j => by
      unfold SelRef.column SelValue.column
      rw [h0, h1, h2]
    have e0' := e0.trans (b := SelRef.queries m' c) rfl
    have e1' := e1.trans (b := SelRef.keys m' c) rfl
    have e2' := e2.trans (b := SelRef.values m' c) rfl
    have e3' := e3.trans (b := SelRef.gates m' c) rfl
    have e4' := e4.trans (b := SelRef.indices m' c) rfl
    have e5' := e5.trans (b := SelRef.lasts m' c) rfl
    refine ⟨e0'.trans ?_, e1'.trans ?_, e2'.trans ?_, e3'.trans ?_, e4'.trans ?_, e5'.trans ?_, e6.trans ?_, h⟩
    · funext i
      obtain ⟨r, j, rfl⟩ := SelValue.exists_ix2 (p := 8192) (q := 1024) i
      refine (SelRef.queries_at m' c r j).trans ?_
      simp only [hcol]
      rfl
    · funext i
      obtain ⟨r, j, rfl⟩ := SelValue.exists_ix2 (p := 8192) (q := 256) i
      refine (SelRef.keys_at m' c r j).trans ?_
      simp only [hcol]
      rfl
    · funext i
      obtain ⟨r, j, rfl⟩ := SelValue.exists_ix2 (p := 8192) (q := 256) i
      exact (SelRef.values_at m' c r j).trans (hcol r _)
    · funext i
      obtain ⟨r, j, rfl⟩ := SelValue.exists_ix2 (p := 8192) (q := 1024) i
      exact (SelRef.gates_at m' c r j).trans (congrArg InRow.silu (hcol r _))
    · funext i
      obtain ⟨r, j, rfl⟩ := SelValue.exists_ix2 (p := 8192) (q := 256) i
      refine (SelRef.indices_at m' c r j).trans ?_
      simp only [hcol]
      rfl
    · funext i
      obtain ⟨r, l, rfl⟩ := SelValue.exists_ix2 (p := 8192) (q := 128) i
      refine (SelRef.lasts_at m' c r l).trans ?_
      simp only [hcol]
      rfl
    · funext i
      obtain ⟨j, r, rfl⟩ := SelValue.exists_ix2 (p := 256) (q := 8192) i
      exact (SelRef.turned_values_at m' c r j).trans (hcol r _)

/-- The reference of the sample group's input projection runs to its end and leaves its arguments and counters as they were. -/
theorem reference4_frame : Cert.quiescent_Reference4Ideal := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

/-- The sample group's input projection and its reference leave the same four results: the row functions at every row of the arguments. -/
theorem algebraic4 : Cert.algebraic_Kernel4Ideal_Reference4Ideal := by
  intro m ρ m' ρ' _ hagree
  refine ⟨fun c => SampleInValue.queries m c, fun c => SampleInValue.keys m c, fun c => SampleInValue.values m c, fun c => SampleInValue.gates m c,
    (θ_run Cert.Kernel4Ideal.defs _ _).mono (fun r h c => ?_) (Cert.Kernel4Ideal.Value.run_blocks (F := Ideal) m ρ),
    (θ_run Cert.Reference4Ideal.defs _ _).mono (fun r h c => ?_) (Cert.Reference4Ideal.Value.run (F := Ideal) m' ρ')⟩
  · obtain ⟨e0, e1, e2, e3, h⟩ := h c
    exact ⟨e0.trans (SampleInValue.queries_final m c), e1.trans (SampleInValue.keys_final m c), e2.trans (SampleInValue.values_final m c),
      e3.trans (SampleInValue.gates_final m c), h⟩
  · obtain ⟨e0, e1, e2, e3, h⟩ := h c
    obtain ⟨h0, h1, h2⟩ := hagree c
    have hcol : ∀ (r : Fin 8) (j : Fin 4096), SampleInRef.column m' c r j = SampleInValue.column m c r j := fun r j => by
      unfold SampleInRef.column SampleInValue.column
      rw [h0, h1, h2]
    have rows {p q : ℕ} (i : (⟨2, ![p, q]⟩ : Shape).Idx) : ∃ (r : Fin p) (j : Fin q), i = ix2 r j :=
      ⟨i 0, i 1, OutValue.eq_ix2 _ _ _ rfl rfl⟩
    refine ⟨e0.trans ?_, e1.trans ?_, e2.trans ?_, e3.trans ?_, h⟩
    · funext i
      obtain ⟨r, j, rfl⟩ := rows (p := 8) (q := 1024) i
      refine (SampleInRef.queries_at m' c r j).trans ?_
      simp only [hcol]
      rfl
    · funext i
      obtain ⟨r, j, rfl⟩ := rows (p := 8) (q := 1024) i
      refine (SampleInRef.keys_at m' c r j).trans ?_
      simp only [hcol]
      rfl
    · funext i
      obtain ⟨r, j, rfl⟩ := rows (p := 8) (q := 1024) i
      exact (SampleInRef.values_at m' c r j).trans (hcol r _)
    · funext i
      obtain ⟨r, j, rfl⟩ := rows (p := 8) (q := 1024) i
      exact (SampleInRef.gates_at m' c r j).trans (congrArg InRow.silu (hcol r _))

/-- The reference of the sample group's projection for the sparse heads runs to its end and leaves its arguments and counters as
    they were. -/
theorem reference5_frame : Cert.quiescent_Reference5Ideal := fun m ρ _ =>
  (θ_run Cert.Reference5Ideal.defs _ _).mono
    (fun r h => ⟨fun c => (h c).2.2.2.2.2.2, Idealize.ShloMosaic.sem_eq_zero_of_no_sems (by decide) r.2⟩)
    (Cert.Reference5Ideal.Value.run (F := Ideal) m ρ)

/-- The sample group's projection for the sparse heads and its reference leave the same six results: the row functions at every
    row of the arguments. -/
theorem algebraic5 : Cert.algebraic_Kernel5Ideal_Reference5Ideal := by
  intro m ρ m' ρ' _ hagree
  refine ⟨fun c => SampleSelValue.queries m c, fun c => SampleSelValue.keys m c, fun c => SampleSelValue.values m c, fun c => SampleSelValue.gates m c,
    fun c => SampleSelValue.indices m c, fun c => SampleSelValue.lasts m c,
    (θ_run Cert.Kernel5Ideal.defs _ _).mono (fun r h c => ?_) (Cert.Kernel5Ideal.Value.run_blocks (F := Ideal) m ρ),
    (θ_run Cert.Reference5Ideal.defs _ _).mono (fun r h c => ?_) (Cert.Reference5Ideal.Value.run (F := Ideal) m' ρ')⟩
  · obtain ⟨e0, e1, e2, e3, e4, e5, h⟩ := h c
    exact ⟨e0.trans (SampleSelValue.queries_final m c), e1.trans (SampleSelValue.keys_final m c), e2.trans (SampleSelValue.values_final m c),
      e3.trans (SampleSelValue.gates_final m c), e4.trans (SampleSelValue.indices_final m c), e5.trans (SampleSelValue.lasts_final m c), h⟩
  · obtain ⟨e0, e1, e2, e3, e4, e5, h⟩ := h c
    obtain ⟨h0, h1, h2⟩ := hagree c
    have hcol : ∀ (r : Fin 8) (j : Fin 2884), SampleSelRef.column m' c r j = SampleSelValue.column m c r j := fun r j => by
      unfold SampleSelRef.column SampleSelValue.column
      rw [h0, h1, h2]
    have e0' := e0.trans (b := SampleSelRef.queries m' c) rfl
    have e1' := e1.trans (b := SampleSelRef.keys m' c) rfl
    have e2' := e2.trans (b := SampleSelRef.values m' c) rfl
    have e3' := e3.trans (b := SampleSelRef.gates m' c) rfl
    have e4' := e4.trans (b := SampleSelRef.indices m' c) rfl
    have e5' := e5.trans (b := SampleSelRef.lasts m' c) rfl
    refine ⟨e0'.trans ?_, e1'.trans ?_, e2'.trans ?_, e3'.trans ?_, e4'.trans ?_, e5'.trans ?_, h⟩
    · funext i
      obtain ⟨r, j, rfl⟩ := SelValue.exists_ix2 (p := 8) (q := 1024) i
      refine (SampleSelRef.queries_at m' c r j).trans ?_
      simp only [hcol]
      rfl
    · funext i
      obtain ⟨r, j, rfl⟩ := SelValue.exists_ix2 (p := 8) (q := 256) i
      refine (SampleSelRef.keys_at m' c r j).trans ?_
      simp only [hcol]
      rfl
    · funext i
      obtain ⟨r, j, rfl⟩ := SelValue.exists_ix2 (p := 8) (q := 256) i
      exact (SampleSelRef.values_at m' c r j).trans (hcol r _)
    · funext i
      obtain ⟨r, j, rfl⟩ := SelValue.exists_ix2 (p := 8) (q := 1024) i
      exact (SampleSelRef.gates_at m' c r j).trans (congrArg InRow.silu (hcol r _))
    · funext i
      obtain ⟨r, j, rfl⟩ := SelValue.exists_ix2 (p := 8) (q := 256) i
      refine (SampleSelRef.indices_at m' c r j).trans ?_
      simp only [hcol]
      rfl
    · funext i
      obtain ⟨r, l, rfl⟩ := SelValue.exists_ix2 (p := 8) (q := 128) i
      refine (SampleSelRef.lasts_at m' c r l).trans ?_
      simp only [hcol]
      rfl

/-- The reference of the sample group's output projection runs to its end and leaves its arguments and counters as they were. -/
theorem reference6_frame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The sample group's output projection and its reference leave the same result: both are the row function at every row of the arguments. -/
theorem algebraic6 : Cert.algebraic_Kernel6Ideal_Reference6Ideal := by
  intro m ρ m' ρ' _ hagree
  refine ⟨fun c => SampleOutValue.result m c,
    (θ_run Cert.Kernel6Ideal.defs _ _).mono (fun r h c => ⟨(h c).1.trans (SampleOutValue.final m c), (h c).2⟩)
      (Cert.Kernel6Ideal.Value.run_blocks (F := Ideal) m ρ),
    (θ_run Cert.Reference6Ideal.defs _ _).mono (fun r h c => ⟨(h c).1.trans ?_, (h c).2⟩)
      (Cert.Reference6Ideal.Value.run (F := Ideal) m' ρ')⟩
  obtain ⟨h0, h1, h2, h3, h4, h5, h6, h7, h8⟩ := hagree c
  funext i
  obtain ⟨r, j, rfl⟩ : ∃ (r : Fin 8) (j : Fin 2048), i = ix2 r j := ⟨i 0, i 1, OutValue.eq_ix2 _ _ _ rfl rfl⟩
  refine (SampleOutRef.res_at m' c r j).trans ?_
  rw [h0, h1, h2, h3, h4, h5, h6, h7, h8]
  rfl

/-- All thirty claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, algebraic, trivial, algebraic2, trivial, algebraic3, trivial, algebraic4, trivial, algebraic5, trivial, algebraic6⟩

end Cert.Proof

end
